-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates [hPre_gates : Cert.Pre_gates.Facts] (m : (ℓ : Loc Cert.KernelIdeal.nD Cert.KernelIdeal.τ Cert.KernelIdeal.sig) → Buf (Elt Ideal) ℓ) : Prop :=
  ∀ c : Dev Cert.KernelIdeal.nD,
    (Cert.Pre_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates [hPre_gates : Cert.Pre_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_gates7 [hPre_gates7 : Cert.Pre_gates7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_gates7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_gates7 [hPre_gates7 : Cert.Pre_gates7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_gates7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_gates [hKernelIdeal : Cert.KernelIdeal.Facts] [hPre_gates : Cert.Pre_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_gates [hReferenceIdeal : Cert.ReferenceIdeal.Facts] [hPre_gates : Cert.Pre_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Kernel7Ideal_pre_gates7 [hKernel7Ideal : Cert.Kernel7Ideal.Facts] [hPre_gates7 : Cert.Pre_gates7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_gates7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Reference7Ideal_pre_gates7 [hReference7Ideal : Cert.Reference7Ideal.Facts] [hPre_gates7 : Cert.Pre_gates7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_gates7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def preserves_Kernel_KernelIdeal : Prop :=
  True

def algebraic_KernelIdeal_ReferenceIdeal_pre_gates [hKernelIdeal : Cert.KernelIdeal.Facts] [hReferenceIdeal : Cert.ReferenceIdeal.Facts] [hPre_gates : Cert.Pre_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v38_0)) (v1 : (c : Dev Cert.Kernel3Ideal.nD) → Buf (Elt Ideal) ((c.tc : Thread Cert.Kernel3Ideal.nD Cert.Kernel3Ideal.τ).loc Cert.Kernel3Ideal.main_v38_1)) (v2 : (c : Dev Cert.Kernel3Ideal.nD) → Buf (Elt Ideal) ((c.tc : Thread Cert.Kernel3Ideal.nD Cert.Kernel3Ideal.τ).loc Cert.Kernel3Ideal.main_v38_2)) (v3 : (c : Dev Cert.Kernel3Ideal.nD) → Buf (Elt Ideal) ((c.tc : Thread Cert.Kernel3Ideal.nD Cert.Kernel3Ideal.τ).loc Cert.Kernel3Ideal.main_v38_3)) (v4 : (c : Dev Cert.Kernel3Ideal.nD) → Buf (Elt Ideal) ((c.tc : Thread Cert.Kernel3Ideal.nD Cert.Kernel3Ideal.τ).loc Cert.Kernel3Ideal.main_v38_4)) (v5 : (c : Dev Cert.Kernel3Ideal.nD) → Buf (Elt Ideal) ((c.tc : Thread Cert.Kernel3Ideal.nD Cert.Kernel3Ideal.τ).loc Cert.Kernel3Ideal.main_v38_5)) (v6 : (c : Dev Cert.Kernel3Ideal.nD) → Buf (Elt Ideal) ((c.tc : Thread Cert.Kernel3Ideal.nD Cert.Kernel3Ideal.τ).loc Cert.Kernel3Ideal.main_v38_6)) (v7 : (c : Dev Cert.Kernel3Ideal.nD) → Buf (Elt Ideal) ((c.tc : Thread Cert.Kernel3Ideal.nD Cert.Kernel3Ideal.τ).loc Cert.Kernel3Ideal.main_v38_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v38_0) = v0 c
          ∧ r.2.mem ((c.tc : Thread Cert.Kernel3Ideal.nD Cert.Kernel3Ideal.τ).loc Cert.Kernel3Ideal.main_v38_1) = v1 c
          ∧ r.2.mem ((c.tc : Thread Cert.Kernel3Ideal.nD Cert.Kernel3Ideal.τ).loc Cert.Kernel3Ideal.main_v38_2) = v2 c
          ∧ r.2.mem ((c.tc : Thread Cert.Kernel3Ideal.nD Cert.Kernel3Ideal.τ).loc Cert.Kernel3Ideal.main_v38_3) = v3 c
          ∧ r.2.mem ((c.tc : Thread Cert.Kernel3Ideal.nD Cert.Kernel3Ideal.τ).loc Cert.Kernel3Ideal.main_v38_4) = v4 c
          ∧ r.2.mem ((c.tc : Thread Cert.Kernel3Ideal.nD Cert.Kernel3Ideal.τ).loc Cert.Kernel3Ideal.main_v38_5) = v5 c
          ∧ r.2.mem ((c.tc : Thread Cert.Kernel3Ideal.nD Cert.Kernel3Ideal.τ).loc Cert.Kernel3Ideal.main_v38_6) = v6 c
          ∧ r.2.mem ((c.tc : Thread Cert.Kernel3Ideal.nD Cert.Kernel3Ideal.τ).loc Cert.Kernel3Ideal.main_v38_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v95) = v0 c
          ∧ r.2.mem ((c.tc : Thread Cert.Reference3Ideal.nD Cert.Reference3Ideal.τ).loc Cert.Reference3Ideal.main_v96) = v1 c
          ∧ r.2.mem ((c.tc : Thread Cert.Reference3Ideal.nD Cert.Reference3Ideal.τ).loc Cert.Reference3Ideal.main_v99) = v2 c
          ∧ r.2.mem ((c.tc : Thread Cert.Reference3Ideal.nD Cert.Reference3Ideal.τ).loc Cert.Reference3Ideal.main_v100) = v3 c
          ∧ r.2.mem ((c.tc : Thread Cert.Reference3Ideal.nD Cert.Reference3Ideal.τ).loc Cert.Reference3Ideal.main_v106) = v4 c
          ∧ r.2.mem ((c.tc : Thread Cert.Reference3Ideal.nD Cert.Reference3Ideal.τ).loc Cert.Reference3Ideal.main_v94) = v5 c
          ∧ r.2.mem ((c.tc : Thread Cert.Reference3Ideal.nD Cert.Reference3Ideal.τ).loc Cert.Reference3Ideal.main_v108) = v6 c
          ∧ r.2.mem ((c.tc : Thread Cert.Reference3Ideal.nD Cert.Reference3Ideal.τ).loc Cert.Reference3Ideal.main_v71) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v46_0)) (v1 : (c : Dev Cert.Kernel6Ideal.nD) → Buf (Elt Ideal) ((c.tc : Thread Cert.Kernel6Ideal.nD Cert.Kernel6Ideal.τ).loc Cert.Kernel6Ideal.main_v46_1)) (v2 : (c : Dev Cert.Kernel6Ideal.nD) → Buf (Elt Ideal) ((c.tc : Thread Cert.Kernel6Ideal.nD Cert.Kernel6Ideal.τ).loc Cert.Kernel6Ideal.main_v46_2)) (v3 : (c : Dev Cert.Kernel6Ideal.nD) → Buf (Elt Ideal) ((c.tc : Thread Cert.Kernel6Ideal.nD Cert.Kernel6Ideal.τ).loc Cert.Kernel6Ideal.main_v46_3)) (v4 : (c : Dev Cert.Kernel6Ideal.nD) → Buf (Elt Ideal) ((c.tc : Thread Cert.Kernel6Ideal.nD Cert.Kernel6Ideal.τ).loc Cert.Kernel6Ideal.main_v46_4)) (v5 : (c : Dev Cert.Kernel6Ideal.nD) → Buf (Elt Ideal) ((c.tc : Thread Cert.Kernel6Ideal.nD Cert.Kernel6Ideal.τ).loc Cert.Kernel6Ideal.main_v46_5)) (v6 : (c : Dev Cert.Kernel6Ideal.nD) → Buf (Elt Ideal) ((c.tc : Thread Cert.Kernel6Ideal.nD Cert.Kernel6Ideal.τ).loc Cert.Kernel6Ideal.main_v46_6)) (v7 : (c : Dev Cert.Kernel6Ideal.nD) → Buf (Elt Ideal) ((c.tc : Thread Cert.Kernel6Ideal.nD Cert.Kernel6Ideal.τ).loc Cert.Kernel6Ideal.main_v46_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v46_0) = v0 c
          ∧ r.2.mem ((c.tc : Thread Cert.Kernel6Ideal.nD Cert.Kernel6Ideal.τ).loc Cert.Kernel6Ideal.main_v46_1) = v1 c
          ∧ r.2.mem ((c.tc : Thread Cert.Kernel6Ideal.nD Cert.Kernel6Ideal.τ).loc Cert.Kernel6Ideal.main_v46_2) = v2 c
          ∧ r.2.mem ((c.tc : Thread Cert.Kernel6Ideal.nD Cert.Kernel6Ideal.τ).loc Cert.Kernel6Ideal.main_v46_3) = v3 c
          ∧ r.2.mem ((c.tc : Thread Cert.Kernel6Ideal.nD Cert.Kernel6Ideal.τ).loc Cert.Kernel6Ideal.main_v46_4) = v4 c
          ∧ r.2.mem ((c.tc : Thread Cert.Kernel6Ideal.nD Cert.Kernel6Ideal.τ).loc Cert.Kernel6Ideal.main_v46_5) = v5 c
          ∧ r.2.mem ((c.tc : Thread Cert.Kernel6Ideal.nD Cert.Kernel6Ideal.τ).loc Cert.Kernel6Ideal.main_v46_6) = v6 c
          ∧ r.2.mem ((c.tc : Thread Cert.Kernel6Ideal.nD Cert.Kernel6Ideal.τ).loc Cert.Kernel6Ideal.main_v46_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v97) = v0 c
          ∧ r.2.mem ((c.tc : Thread Cert.Reference6Ideal.nD Cert.Reference6Ideal.τ).loc Cert.Reference6Ideal.main_v98) = v1 c
          ∧ r.2.mem ((c.tc : Thread Cert.Reference6Ideal.nD Cert.Reference6Ideal.τ).loc Cert.Reference6Ideal.main_v101) = v2 c
          ∧ r.2.mem ((c.tc : Thread Cert.Reference6Ideal.nD Cert.Reference6Ideal.τ).loc Cert.Reference6Ideal.main_v102) = v3 c
          ∧ r.2.mem ((c.tc : Thread Cert.Reference6Ideal.nD Cert.Reference6Ideal.τ).loc Cert.Reference6Ideal.main_v108) = v4 c
          ∧ r.2.mem ((c.tc : Thread Cert.Reference6Ideal.nD Cert.Reference6Ideal.τ).loc Cert.Reference6Ideal.main_v96) = v5 c
          ∧ r.2.mem ((c.tc : Thread Cert.Reference6Ideal.nD Cert.Reference6Ideal.τ).loc Cert.Reference6Ideal.main_v110) = v6 c
          ∧ r.2.mem ((c.tc : Thread Cert.Reference6Ideal.nD Cert.Reference6Ideal.τ).loc Cert.Reference6Ideal.main_v71) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal_pre_gates7 [hKernel7Ideal : Cert.Kernel7Ideal.Facts] [hReference7Ideal : Cert.Reference7Ideal.Facts] [hPre_gates7 : Cert.Pre_gates7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_gates7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v58_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v58_3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_gates : Cert.Pre_gates.Facts) (hPre_gates7 : Cert.Pre_gates7.Facts),
    quiescent_Kernel (hKernel := hKernel)
    ∧ quiescent_KernelIdeal (hKernelIdeal := hKernelIdeal)
    ∧ quiescent_KernelIdeal_pre_gates (hKernelIdeal := hKernelIdeal) (hPre_gates := hPre_gates)
    ∧ quiescent_ReferenceIdeal (hReferenceIdeal := hReferenceIdeal)
    ∧ quiescent_ReferenceIdeal_pre_gates (hReferenceIdeal := hReferenceIdeal) (hPre_gates := hPre_gates)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_gates7 (hKernel7Ideal := hKernel7Ideal) (hPre_gates7 := hPre_gates7)
    ∧ quiescent_Reference7Ideal (hReference7Ideal := hReference7Ideal)
    ∧ quiescent_Reference7Ideal_pre_gates7 (hReference7Ideal := hReference7Ideal) (hPre_gates7 := hPre_gates7)
    ∧ preserves_Kernel_KernelIdeal
    ∧ algebraic_KernelIdeal_ReferenceIdeal_pre_gates (hKernelIdeal := hKernelIdeal) (hReferenceIdeal := hReferenceIdeal) (hPre_gates := hPre_gates)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_gates7 (hKernel7Ideal := hKernel7Ideal) (hReference7Ideal := hReference7Ideal) (hPre_gates7 := hPre_gates7)
-- ==== Pre_gates.lean ====
abbrev S16384x512 : Shape := ⟨2, ![16384, 512]⟩
abbrev S16384x128 : Shape := ⟨2, ![16384, 128]⟩
abbrev S16x16384 : Shape := ⟨2, ![16, 16384]⟩
abbrev S1x512 : Shape := ⟨2, ![1, 512]⟩
abbrev S8x16384 : Shape := ⟨2, ![8, 16384]⟩
abbrev S16384x8 : Shape := ⟨2, ![16384, 8]⟩
abbrev S_ : Shape := ⟨0, ![]⟩
abbrev S16384x4 : Shape := ⟨2, ![16384, 4]⟩

class Facts : Prop where
  slices_S16x16384_S8x16384_0_0 : S16x16384.Slices ![0, 0] S8x16384
  slices_S16384x128_S16384x8_0_0 : S16384x128.Slices ![0, 0] S16384x8
  transposes_S16384x8_S8x16384_1_0 : S16384x8.Transposes [1, 0] S8x16384
  reducesTo_S8x16384_S_d0_1 : S8x16384.ReducesTo [0, 1] S_
  h_S_ : 0 < S_.numel
  slices_S16384x128_S16384x4_0_4 : S16384x128.Slices ![0, 4] S16384x4
  bcast_S_S16384x4 : S_.BroadcastsInDim S16384x4 (![] : Fin 0 → Fin S16384x4.rank)
  reducesTo_S16384x4_S_d0_1 : S16384x4.ReducesTo [0, 1] S_

variable [Facts]

def fn {F : FTy → Type} [FloatOps F] (main_arg0 : FVec F S16384x512 .bf16) (main_arg1 : FVec F S16384x512 .bf16) (main_arg2 : FVec F S16384x512 .bf16) (main_arg3 : FVec F S16384x512 .f32) (main_arg4 : FVec F S16384x128 .f32) (main_arg5 : FVec F S16x16384 .f32) (main_arg6 : FVec F S1x512 .f32) : IVec S_ 1 :=
  let main_v0 : FVec F S8x16384 .f32 := (extractStridedSlice S8x16384 ![0, 0] · slices_S16x16384_S8x16384_0_0) main_arg5
  let main_v1 : FVec F S16384x8 .f32 := (extractStridedSlice S16384x8 ![0, 0] · slices_S16384x128_S16384x8_0_0) main_arg4
  let main_v2 : FVec F S8x16384 .f32 := (transpose S8x16384 [1, 0] · transposes_S16384x8_S8x16384_1_0) main_v1
  let main_v3 : IVec S8x16384 1 := cmpf .oeq main_v0 main_v2
  let main_c : IVec S_ 1 := constantI S_ 1 1#1
  let main_v4 : IVec S_ 1 := (fun x v => Host.reduce IntOp.andi x v reducesTo_S8x16384_S_d0_1 h_S_) main_v3 main_c
  let main_v5 : FVec F S16384x4 .f32 := (extractStridedSlice S16384x4 ![0, 4] · slices_S16384x128_S16384x4_0_4) main_arg4
  let main_cst : FVec F S_ .f32 := constant S_ .f32 0x00000000#32
  let main_v6 : FVec F S16384x4 .f32 := broadcastInDim S16384x4 ![] bcast_S_S16384x4 main_cst
  let main_v7 : IVec S16384x4 1 := cmpf .ole main_v5 main_v6
  let main_c_0 : IVec S_ 1 := constantI S_ 1 1#1
  let main_v8 : IVec S_ 1 := (fun x v => Host.reduce IntOp.andi x v reducesTo_S16384x4_S_d0_1 h_S_) main_v7 main_c_0
  let main_v9 : IVec S_ 1 := andi main_v4 main_v8
  main_v9
-- ==== Pre_gates7.lean ====
abbrev S1024x512 : Shape := ⟨2, ![1024, 512]⟩
abbrev S1024x128 : Shape := ⟨2, ![1024, 128]⟩
abbrev S16x1024 : Shape := ⟨2, ![16, 1024]⟩
abbrev S128x4x128x128 : Shape := ⟨4, ![128, 4, 128, 128]⟩
abbrev S128x4x128 : Shape := ⟨3, ![128, 4, 128]⟩
abbrev S128x4 : Shape := ⟨2, ![128, 4]⟩
abbrev S1x512 : Shape := ⟨2, ![1, 512]⟩
abbrev S8x1024 : Shape := ⟨2, ![8, 1024]⟩
abbrev S1024x8 : Shape := ⟨2, ![1024, 8]⟩
abbrev S_ : Shape := ⟨0, ![]⟩
abbrev S1024x4 : Shape := ⟨2, ![1024, 4]⟩

class Facts : Prop where
  slices_S16x1024_S8x1024_0_0 : S16x1024.Slices ![0, 0] S8x1024
  slices_S1024x128_S1024x8_0_0 : S1024x128.Slices ![0, 0] S1024x8
  transposes_S1024x8_S8x1024_1_0 : S1024x8.Transposes [1, 0] S8x1024
  reducesTo_S8x1024_S_d0_1 : S8x1024.ReducesTo [0, 1] S_
  h_S_ : 0 < S_.numel
  slices_S1024x128_S1024x4_0_4 : S1024x128.Slices ![0, 4] S1024x4
  bcast_S_S1024x4 : S_.BroadcastsInDim S1024x4 (![] : Fin 0 → Fin S1024x4.rank)
  reducesTo_S1024x4_S_d0_1 : S1024x4.ReducesTo [0, 1] S_
  slices_S1024x128_S1024x4_0_0 : S1024x128.Slices ![0, 0] S1024x4
  bcast_S_S128x4 : S_.BroadcastsInDim S128x4 (![] : Fin 0 → Fin S128x4.rank)
  reducesTo_S128x4_S_d0_1 : S128x4.ReducesTo [0, 1] S_

variable [Facts]

def fn_part1 {F : FTy → Type} [FloatOps F] (main_v14 : IVec S_ 1) (main_v16 : IVec S128x4 1) (main_c_4 : IVec S_ 1) : IVec S_ 1 :=
  let main_v17 : IVec S_ 1 := (fun x v => Host.reduce IntOp.andi x v reducesTo_S128x4_S_d0_1 h_S_) main_v16 main_c_4
  let main_v18 : IVec S_ 1 := andi main_v14 main_v17
  main_v18

def fn {F : FTy → Type} [FloatOps F] (main_arg0 : FVec F S1024x512 .bf16) (main_arg1 : FVec F S1024x512 .bf16) (main_arg2 : FVec F S1024x512 .bf16) (main_arg3 : FVec F S1024x512 .f32) (main_arg4 : FVec F S1024x128 .f32) (main_arg5 : FVec F S16x1024 .f32) (main_arg6 : FVec F S128x4x128x128 .f32) (main_arg7 : FVec F S128x4x128 .f32) (main_arg8 : FVec F S128x4 .f32) (main_arg9 : FVec F S1x512 .f32) : IVec S_ 1 :=
  let main_v0 : FVec F S8x1024 .f32 := (extractStridedSlice S8x1024 ![0, 0] · slices_S16x1024_S8x1024_0_0) main_arg5
  let main_v1 : FVec F S1024x8 .f32 := (extractStridedSlice S1024x8 ![0, 0] · slices_S1024x128_S1024x8_0_0) main_arg4
  let main_v2 : FVec F S8x1024 .f32 := (transpose S8x1024 [1, 0] · transposes_S1024x8_S8x1024_1_0) main_v1
  let main_v3 : IVec S8x1024 1 := cmpf .oeq main_v0 main_v2
  let main_c : IVec S_ 1 := constantI S_ 1 1#1
  let main_v4 : IVec S_ 1 := (fun x v => Host.reduce IntOp.andi x v reducesTo_S8x1024_S_d0_1 h_S_) main_v3 main_c
  let main_v5 : FVec F S1024x4 .f32 := (extractStridedSlice S1024x4 ![0, 4] · slices_S1024x128_S1024x4_0_4) main_arg4
  let main_cst : FVec F S_ .f32 := constant S_ .f32 0x00000000#32
  let main_v6 : FVec F S1024x4 .f32 := broadcastInDim S1024x4 ![] bcast_S_S1024x4 main_cst
  let main_v7 : IVec S1024x4 1 := cmpf .ole main_v5 main_v6
  let main_c_0 : IVec S_ 1 := constantI S_ 1 1#1
  let main_v8 : IVec S_ 1 := (fun x v => Host.reduce IntOp.andi x v reducesTo_S1024x4_S_d0_1 h_S_) main_v7 main_c_0
  let main_v9 : IVec S_ 1 := andi main_v4 main_v8
  let main_v10 : FVec F S1024x4 .f32 := (extractStridedSlice S1024x4 ![0, 0] · slices_S1024x128_S1024x4_0_0) main_arg4
  let main_cst_1 : FVec F S_ .f32 := constant S_ .f32 0x7F800000#32
  let main_v11 : FVec F S1024x4 .f32 := broadcastInDim S1024x4 ![] bcast_S_S1024x4 main_cst_1
  let main_v12 : IVec S1024x4 1 := cmpf .olt main_v10 main_v11
  let main_c_2 : IVec S_ 1 := constantI S_ 1 1#1
  let main_v13 : IVec S_ 1 := (fun x v => Host.reduce IntOp.andi x v reducesTo_S1024x4_S_d0_1 h_S_) main_v12 main_c_2
  let main_v14 : IVec S_ 1 := andi main_v9 main_v13
  let main_cst_3 : FVec F S_ .f32 := constant S_ .f32 0x7F800000#32
  let main_v15 : FVec F S128x4 .f32 := broadcastInDim S128x4 ![] bcast_S_S128x4 main_cst_3
  let main_v16 : IVec S128x4 1 := cmpf .olt main_arg8 main_v15
  let main_c_4 : IVec S_ 1 := constantI S_ 1 1#1
  fn_part1 (F := F) main_v14 main_v16 main_c_4
-- ==== Kernel.lean ====
abbrev S16384x512 : Shape := ⟨2, ![16384, 512]⟩
abbrev S16384x128 : Shape := ⟨2, ![16384, 128]⟩
abbrev S16x16384 : Shape := ⟨2, ![16, 16384]⟩
abbrev S1x512 : Shape := ⟨2, ![1, 512]⟩
abbrev S128 : Shape := ⟨1, ![128]⟩
abbrev S128x1 : Shape := ⟨2, ![128, 1]⟩
abbrev S1x128 : Shape := ⟨2, ![1, 128]⟩
abbrev S_ : Shape := ⟨0, ![]⟩
abbrev S128x128 : Shape := ⟨2, ![128, 128]⟩
abbrev S8x4x128x256 : Shape := ⟨4, ![8, 4, 128, 256]⟩
abbrev S8x8x128 : Shape := ⟨3, ![8, 8, 128]⟩
abbrev S128x512 : Shape := ⟨2, ![128, 512]⟩
abbrev S16x128 : Shape := ⟨2, ![16, 128]⟩
abbrev S1x4x128x256 : Shape := ⟨4, ![1, 4, 128, 256]⟩
abbrev S1x8x128 : Shape := ⟨3, ![1, 8, 128]⟩
abbrev S4x128x256 : Shape := ⟨3, ![4, 128, 256]⟩
abbrev S8x128 : Shape := ⟨2, ![8, 128]⟩
abbrev S1x1 : Shape := ⟨2, ![1, 1]⟩
abbrev S1x128x256 : Shape := ⟨3, ![1, 128, 256]⟩
abbrev S128x256 : Shape := ⟨2, ![128, 256]⟩

abbrev nBuf : Space → Nat
  | .hbm => 59
  | .vmem => 23
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S16384x128, .f32⟩
  | .hbm, ⟨5, _⟩ => ⟨S16x16384, .f32⟩
  | .hbm, ⟨6, _⟩ => ⟨S1x512, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S_, .i32⟩
  | .hbm, ⟨12, _⟩ => ⟨S_, .i32⟩
  | .hbm, ⟨13, _⟩ => ⟨S128x1, .i32⟩
  | .hbm, ⟨14, _⟩ => ⟨S128x1, .i32⟩
  | .hbm, ⟨15, _⟩ => ⟨S128x1, .i32⟩
  | .hbm, ⟨16, _⟩ => ⟨S_, .i32⟩
  | .hbm, ⟨17, _⟩ => ⟨S128x1, .i32⟩
  | .hbm, ⟨18, _⟩ => ⟨S128x1, .i1⟩
  | .hbm, ⟨19, _⟩ => ⟨S128x1, .i32⟩
  | .hbm, ⟨20, _⟩ => ⟨S128x1, .i32⟩
  | .hbm, ⟨21, _⟩ => ⟨S_, .i32⟩
  | .hbm, ⟨22, _⟩ => ⟨S128x1, .i32⟩
  | .hbm, ⟨23, _⟩ => ⟨S128x1, .i1⟩
  | .hbm, ⟨24, _⟩ => ⟨S128x1, .i1⟩
  | .hbm, ⟨25, _⟩ => ⟨S_, .i32⟩
  | .hbm, ⟨26, _⟩ => ⟨S128x1, .i32⟩
  | .hbm, ⟨27, _⟩ => ⟨S128x1, .i32⟩
  | .hbm, ⟨28, _⟩ => ⟨S128x1, .i32⟩
  | .hbm, ⟨29, _⟩ => ⟨S_, .i32⟩
  | .hbm, ⟨30, _⟩ => ⟨S_, .i32⟩
  | .hbm, ⟨31, _⟩ => ⟨S1x128, .i32⟩
  | .hbm, ⟨32, _⟩ => ⟨S1x128, .i32⟩
  | .hbm, ⟨33, _⟩ => ⟨S1x128, .i32⟩
  | .hbm, ⟨34, _⟩ => ⟨S_, .i32⟩
  | .hbm, ⟨35, _⟩ => ⟨S1x128, .i32⟩
  | .hbm, ⟨36, _⟩ => ⟨S1x128, .i1⟩
  | .hbm, ⟨37, _⟩ => ⟨S1x128, .i32⟩
  | .hbm, ⟨38, _⟩ => ⟨S1x128, .i32⟩
  | .hbm, ⟨39, _⟩ => ⟨S_, .i32⟩
  | .hbm, ⟨40, _⟩ => ⟨S1x128, .i32⟩
  | .hbm, ⟨41, _⟩ => ⟨S1x128, .i1⟩
  | .hbm, ⟨42, _⟩ => ⟨S1x128, .i1⟩
  | .hbm, ⟨43, _⟩ => ⟨S_, .i32⟩
  | .hbm, ⟨44, _⟩ => ⟨S1x128, .i32⟩
  | .hbm, ⟨45, _⟩ => ⟨S1x128, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S128x128, .i32⟩
  | .hbm, ⟨51, _⟩ => ⟨S128x128, .i32⟩
  | .hbm, ⟨52, _⟩ => ⟨S128x128, .i1⟩
  | .hbm, ⟨53, _⟩ => ⟨S128x128, .i1⟩
  | .hbm, ⟨54, _⟩ => ⟨S128x128, .bf16⟩
  | .hbm, ⟨55, _⟩ => ⟨S128x128, .bf16⟩
  | .hbm, ⟨56, _⟩ => ⟨S16384x512, .bf16⟩
  | .hbm, ⟨57, _⟩ => ⟨S8x4x128x256, .f32⟩
  | .hbm, ⟨58, _⟩ => ⟨S8x8x128, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x128, .f32⟩
  | .local _ .vmem, ⟨10, _⟩ => ⟨S16x128, .f32⟩
  | .local _ .vmem, ⟨11, _⟩ => ⟨S16x128, .f32⟩
  | .local _ .vmem, ⟨12, _⟩ => ⟨S1x512, .f32⟩
  | .local _ .vmem, ⟨13, _⟩ => ⟨S128x128, .bf16⟩
  | .local _ .vmem, ⟨14, _⟩ => ⟨S128x128, .bf16⟩
  | .local _ .vmem, ⟨15, _⟩ => ⟨S128x512, .bf16⟩
  | .local _ .vmem, ⟨16, _⟩ => ⟨S128x512, .bf16⟩
  | .local _ .vmem, ⟨17, _⟩ => ⟨S1x4x128x256, .f32⟩
  | .local _ .vmem, ⟨18, _⟩ => ⟨S1x4x128x256, .f32⟩
  | .local _ .vmem, ⟨19, _⟩ => ⟨S1x8x128, .f32⟩
  | .local _ .vmem, ⟨20, _⟩ => ⟨S1x8x128, .f32⟩
  | .local _ .vmem, ⟨21, _⟩ => ⟨S4x128x256, .f32⟩
  | .local _ .vmem, ⟨22, _⟩ => ⟨S8x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15_0 : Ref sig .tc := ⟨.hbm, 56, rfl⟩
abbrev main_v15_1 : Ref sig .tc := ⟨.hbm, 57, rfl⟩
abbrev main_v15_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v426 : BitVec 1 := Scalar.cmpi .eq arg1 c15_i32
  let v427 : BitVec 32 := Scalar.extui v426
  let c0_i32_145 : BitVec 32 := 0#32
  let v428 : BitVec 1 := Scalar.cmpi .ne v427 c0_i32_145
  v428

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S16384x512 : Shape := ⟨2, ![16384, 512]⟩
abbrev S16384x128 : Shape := ⟨2, ![16384, 128]⟩
abbrev S16x16384 : Shape := ⟨2, ![16, 16384]⟩
abbrev S1x512 : Shape := ⟨2, ![1, 512]⟩
abbrev S_ : Shape := ⟨0, ![]⟩
abbrev S128x128 : Shape := ⟨2, ![128, 128]⟩
abbrev S8x4x128x128 : Shape := ⟨4, ![8, 4, 128, 128]⟩
abbrev S8x4x128 : Shape := ⟨3, ![8, 4, 128]⟩
abbrev S8x4 : Shape := ⟨2, ![8, 4]⟩
abbrev S8x16x128x4x128 : Shape := ⟨5, ![8, 16, 128, 4, 128]⟩
abbrev S16x8x4x128x128 : Shape := ⟨5, ![16, 8, 4, 128, 128]⟩
abbrev S16384x4 : Shape := ⟨2, ![16384, 4]⟩
abbrev S8x16x128x4 : Shape := ⟨4, ![8, 16, 128, 4]⟩
abbrev S16x8x4x128 : Shape := ⟨4, ![16, 8, 4, 128]⟩
abbrev S1x8x4x128x128 : Shape := ⟨5, ![1, 8, 4, 128, 128]⟩
abbrev S1x8x4x128 : Shape := ⟨4, ![1, 8, 4, 128]⟩
abbrev S8x4x1 : Shape := ⟨3, ![8, 4, 1]⟩
abbrev S8x4x128x1 : Shape := ⟨4, ![8, 4, 128, 1]⟩
abbrev S8x4x1x128 : Shape := ⟨4, ![8, 4, 1, 128]⟩
abbrev S8x4x1x1 : Shape := ⟨4, ![8, 4, 1, 1]⟩
abbrev S16384x4x128 : Shape := ⟨3, ![16384, 4, 128]⟩
abbrev S16384x4x1 : Shape := ⟨3, ![16384, 4, 1]⟩
abbrev S4x128 : Shape := ⟨2, ![4, 128]⟩
abbrev S1x4x128 : Shape := ⟨3, ![1, 4, 128]⟩
abbrev S8x4x128x127 : Shape := ⟨4, ![8, 4, 128, 127]⟩
abbrev S8x4x128x256 : Shape := ⟨4, ![8, 4, 128, 256]⟩
abbrev S8x8x128 : Shape := ⟨3, ![8, 8, 128]⟩

abbrev nBuf : Space → Nat
  | .hbm => 196
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S16384x512, .f32⟩
  | 4 => ⟨S16384x128, .f32⟩
  | 5 => ⟨S16x16384, .f32⟩
  | 6 => ⟨S1x512, .f32⟩
  | 7 => ⟨S16384x512, .f32⟩
  | 8 => ⟨S16384x512, .f32⟩
  | 9 => ⟨S16384x512, .f32⟩
  | 10 => ⟨S_, .i1⟩
  | 11 => ⟨S128x128, .i1⟩
  | 12 => ⟨S128x128, .i32⟩
  | 13 => ⟨S_, .i32⟩
  | 14 => ⟨S128x128, .i32⟩
  | 15 => ⟨S128x128, .i32⟩
  | 16 => ⟨S128x128, .i32⟩
  | 17 => ⟨S128x128, .i1⟩
  | 18 => ⟨S_, .i1⟩
  | 19 => ⟨S128x128, .i1⟩
  | 20 => ⟨S128x128, .i1⟩
  | 21 => ⟨S_, .f32⟩
  | 22 => ⟨S8x4x128x128, .f32⟩
  | 23 => ⟨S_, .f32⟩
  | 24 => ⟨S8x4x128, .f32⟩
  | 25 => ⟨S_, .f32⟩
  | 26 => ⟨S8x4, .f32⟩
  | 27 => ⟨S8x16x128x4x128, .f32⟩
  | 28 => ⟨S16x8x4x128x128, .f32⟩
  | 29 => ⟨S8x16x128x4x128, .f32⟩
  | 30 => ⟨S16x8x4x128x128, .f32⟩
  | 31 => ⟨S8x16x128x4x128, .f32⟩
  | 32 => ⟨S16x8x4x128x128, .f32⟩
  | 33 => ⟨S16384x4, .f32⟩
  | 34 => ⟨S8x16x128x4, .f32⟩
  | 35 => ⟨S16x8x4x128, .f32⟩
  | 36 => ⟨S16384x4, .f32⟩
  | 37 => ⟨S8x16x128x4, .f32⟩
  | 38 => ⟨S16x8x4x128, .f32⟩
  | 39 => ⟨S_, .f32⟩
  | 40 => ⟨S16x8x4x128x128, .f32⟩
  | 41 => ⟨S_, .i32⟩
  | 42 => ⟨S16x8x4x128x128, .f32⟩
  | 43 => ⟨S16x8x4x128x128, .f32⟩
  | 44 => ⟨S16x8x4x128x128, .f32⟩
  | 45 => ⟨S16x8x4x128, .f32⟩
  | 46 => ⟨S16x8x4x128, .f32⟩
  | 47 => ⟨S128x128, .i1⟩
  | 48 => ⟨S_, .i32⟩
  | 49 => ⟨S8x4x128x128, .f32⟩
  | 50 => ⟨S8x4x128, .f32⟩
  | 51 => ⟨S8x4, .f32⟩
  | 52 => ⟨S16x8x4x128x128, .f32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S1x8x4x128x128, .f32⟩
  | 60 => ⟨S8x4x128x128, .f32⟩
  | 61 => ⟨S_, .i32⟩
  | 62 => ⟨S_, .i32⟩
  | 63 => ⟨S_, .i32⟩
  | 64 => ⟨S_, .i32⟩
  | 65 => ⟨S1x8x4x128x128, .f32⟩
  | 66 => ⟨S8x4x128x128, .f32⟩
  | 67 => ⟨S_, .i32⟩
  | 68 => ⟨S_, .i32⟩
  | 69 => ⟨S_, .i32⟩
  | 70 => ⟨S_, .i32⟩
  | 71 => ⟨S1x8x4x128x128, .f32⟩
  | 72 => ⟨S8x4x128x128, .f32⟩
  | 73 => ⟨S_, .i32⟩
  | 74 => ⟨S_, .i32⟩
  | 75 => ⟨S_, .i32⟩
  | 76 => ⟨S1x8x4x128, .f32⟩
  | 77 => ⟨S8x4x128, .f32⟩
  | 78 => ⟨S_, .i32⟩
  | 79 => ⟨S_, .i32⟩
  | 80 => ⟨S_, .i32⟩
  | 81 => ⟨S1x8x4x128, .f32⟩
  | 82 => ⟨S8x4x128, .f32⟩
  | 83 => ⟨S_, .f32⟩
  | 84 => ⟨S_, .f32⟩
  | 85 => ⟨S8x4x128, .f32⟩
  | 86 => ⟨S8x4x1, .f32⟩
  | 87 => ⟨S8x4x128, .f32⟩
  | 88 => ⟨S8x4x128, .f32⟩
  | 89 => ⟨S8x4x128x1, .f32⟩
  | 90 => ⟨S8x4x1x128, .f32⟩
  | 91 => ⟨S8x4x128x128, .f32⟩
  | 92 => ⟨S8x4x128x128, .f32⟩
  | 93 => ⟨S8x4x128x128, .f32⟩
  | 94 => ⟨S8x4x1x128, .f32⟩
  | 95 => ⟨S8x4x128x128, .f32⟩
  | 96 => ⟨S8x4x128x128, .f32⟩
  | 97 => ⟨S_, .f32⟩
  | 98 => ⟨S_, .f32⟩
  | 99 => ⟨S8x4x128x128, .i1⟩
  | 100 => ⟨S8x4x128x128, .f32⟩
  | 101 => ⟨S8x4x128x128, .f32⟩
  | 102 => ⟨S_, .f32⟩
  | 103 => ⟨S8x4x128, .f32⟩
  | 104 => ⟨S8x4x128, .f32⟩
  | 105 => ⟨S8x4x128x1, .f32⟩
  | 106 => ⟨S8x4x128x128, .f32⟩
  | 107 => ⟨S8x4x128x128, .f32⟩
  | 108 => ⟨S8x4x128x128, .f32⟩
  | 109 => ⟨S8x4x128, .f32⟩
  | 110 => ⟨S8x4x128, .f32⟩
  | 111 => ⟨S8x4x128x128, .f32⟩
  | 112 => ⟨S8x4x128x128, .f32⟩
  | 113 => ⟨S8x4x128x128, .f32⟩
  | 114 => ⟨S8x4x128x1, .f32⟩
  | 115 => ⟨S8x4x128x128, .f32⟩
  | 116 => ⟨S8x4x128x128, .f32⟩
  | 117 => ⟨S8x4x128x128, .f32⟩
  | 118 => ⟨S8x4x128x128, .f32⟩
  | 119 => ⟨S_, .f32⟩
  | 120 => ⟨S8x4x128, .f32⟩
  | 121 => ⟨S8x4x128, .f32⟩
  | 122 => ⟨S8x4x128, .f32⟩
  | 123 => ⟨S8x4x128, .f32⟩
  | 124 => ⟨S8x4x128, .f32⟩
  | 125 => ⟨S8x4x128, .f32⟩
  | 126 => ⟨S8x4x128, .f32⟩
  | 127 => ⟨S8x4x128, .f32⟩
  | _ => ⟨S16384x512, .bf16⟩

abbrev hbmTy0_1 (i : Nat) : BufTy := match i % 128 with
  | 0 => ⟨S8x4x128x1, .f32⟩
  | 1 => ⟨S8x4x128x128, .f32⟩
  | 2 => ⟨S8x4x128x128, .f32⟩
  | 3 => ⟨S8x4x1, .f32⟩
  | 4 => ⟨S8x4, .f32⟩
  | 5 => ⟨S8x4x1x128, .f32⟩
  | 6 => ⟨S8x4x128, .f32⟩
  | 7 => ⟨S8x4x1, .f32⟩
  | 8 => ⟨S8x4x128, .f32⟩
  | 9 => ⟨S8x4x128, .f32⟩
  | 10 => ⟨S8x4x128, .f32⟩
  | 11 => ⟨S8x4x1, .f32⟩
  | 12 => ⟨S8x4, .f32⟩
  | 13 => ⟨S8x4, .f32⟩
  | 14 => ⟨S8x4, .f32⟩
  | 15 => ⟨S8x4x128x1, .f32⟩
  | 16 => ⟨S8x4x128x128, .f32⟩
  | 17 => ⟨S8x4x128x128, .f32⟩
  | 18 => ⟨S8x4x1x1, .f32⟩
  | 19 => ⟨S8x4x128x128, .f32⟩
  | 20 => ⟨S8x4x128x128, .f32⟩
  | 21 => ⟨S8x4x128x128, .f32⟩
  | 22 => ⟨S8x4x128x128, .f32⟩
  | 23 => ⟨S8x4x1, .f32⟩
  | 24 => ⟨S8x4x128, .f32⟩
  | 25 => ⟨S8x4x128, .f32⟩
  | 26 => ⟨S_, .f32⟩
  | 27 => ⟨S8x4x128, .f32⟩
  | 28 => ⟨S8x4x128, .f32⟩
  | 29 => ⟨S1x8x4x128x128, .f32⟩
  | 30 => ⟨S_, .i32⟩
  | 31 => ⟨S_, .i32⟩
  | 32 => ⟨S_, .i32⟩
  | 33 => ⟨S_, .i32⟩
  | 34 => ⟨S16x8x4x128x128, .f32⟩
  | 35 => ⟨S_, .i32⟩
  | 36 => ⟨S_, .i32⟩
  | 37 => ⟨S8x16x128x4x128, .f32⟩
  | 38 => ⟨S16384x4x128, .f32⟩
  | 39 => ⟨S16384x4x128, .f32⟩
  | 40 => ⟨S_, .f32⟩
  | 41 => ⟨S16384x4, .f32⟩
  | 42 => ⟨S16384x4x1, .f32⟩
  | 43 => ⟨S_, .f32⟩
  | 44 => ⟨S16384x4x1, .f32⟩
  | 45 => ⟨S16384x4x1, .f32⟩
  | 46 => ⟨S_, .f32⟩
  | 47 => ⟨S16384x4x1, .f32⟩
  | 48 => ⟨S16384x4x1, .f32⟩
  | 49 => ⟨S16384x4x1, .f32⟩
  | 50 => ⟨S16384x4x128, .f32⟩
  | 51 => ⟨S16384x4x128, .f32⟩
  | 52 => ⟨S4x128, .f32⟩
  | 53 => ⟨S1x4x128, .f32⟩
  | 54 => ⟨S16384x4x128, .f32⟩
  | 55 => ⟨S16384x4x128, .f32⟩
  | 56 => ⟨S16384x512, .f32⟩
  | 57 => ⟨S16384x512, .f32⟩
  | 58 => ⟨S8x4x128x1, .f32⟩
  | 59 => ⟨S_, .f32⟩
  | 60 => ⟨S8x4x128x127, .f32⟩
  | 61 => ⟨S8x4x128x256, .f32⟩
  | 62 => ⟨S8x4x1, .f32⟩
  | 63 => ⟨S8x4x128, .f32⟩
  | 64 => ⟨S_, .f32⟩
  | 65 => ⟨S8x4x128, .f32⟩
  | 66 => ⟨S8x8x128, .f32⟩
  | 67 => ⟨S16384x512, .bf16⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_0 : Ref sig .tc := ⟨.hbm, 18, rfl⟩
abbrev main_call0_v5 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_c_3 : Ref sig .tc := ⟨.hbm, 41, rfl⟩
abbrev main_v21_0 : Ref sig .tc := ⟨.hbm, 42, rfl⟩
abbrev main_v21_1 : Ref sig .tc := ⟨.hbm, 43, rfl⟩
abbrev main_v21_2 : Ref sig .tc := ⟨.hbm, 44, rfl⟩
abbrev main_v21_3 : Ref sig .tc := ⟨.hbm, 45, rfl⟩
abbrev main_v21_4 : Ref sig .tc := ⟨.hbm, 46, rfl⟩
abbrev main_v21_5 : Ref sig .tc := ⟨.hbm, 47, rfl⟩
abbrev main_v21_6 : Ref sig .tc := ⟨.hbm, 48, rfl⟩
abbrev main_v21_7 : Ref sig .tc := ⟨.hbm, 49, rfl⟩
abbrev main_v21_8 : Ref sig .tc := ⟨.hbm, 50, rfl⟩
abbrev main_v21_9 : Ref sig .tc := ⟨.hbm, 51, rfl⟩
abbrev main_v21_10 : Ref sig .tc := ⟨.hbm, 52, rfl⟩
abbrev main_while0c_c_19 : Ref sig .tc := ⟨.hbm, 53, rfl⟩
abbrev main_while0c_v48 : Ref sig .tc := ⟨.hbm, 54, rfl⟩
abbrev main_while0b_call1_c : Ref sig .tc := ⟨.hbm, 55, rfl⟩
abbrev main_while0b_call1_c_0 : Ref sig .tc := ⟨.hbm, 56, rfl⟩
abbrev main_while0b_call1_c_1 : Ref sig .tc := ⟨.hbm, 57, rfl⟩
abbrev main_while0b_call1_c_2 : Ref sig .tc := ⟨.hbm, 58, rfl⟩
abbrev main_while0b_call1_v0 : Ref sig .tc := ⟨.hbm, 59, rfl⟩
abbrev main_while0b_v48 : Ref sig .tc := ⟨.hbm, 60, rfl⟩
abbrev main_while0b_call2_c : Ref sig .tc := ⟨.hbm, 61, rfl⟩
abbrev main_while0b_call2_c_0 : Ref sig .tc := ⟨.hbm, 62, rfl⟩
abbrev main_while0b_call2_c_1 : Ref sig .tc := ⟨.hbm, 63, rfl⟩
abbrev main_while0b_call2_c_2 : Ref sig .tc := ⟨.hbm, 64, rfl⟩
abbrev main_while0b_call2_v0 : Ref sig .tc := ⟨.hbm, 65, rfl⟩
abbrev main_while0b_v49 : Ref sig .tc := ⟨.hbm, 66, rfl⟩
abbrev main_while0b_call3_c : Ref sig .tc := ⟨.hbm, 67, rfl⟩
abbrev main_while0b_call3_c_0 : Ref sig .tc := ⟨.hbm, 68, rfl⟩
abbrev main_while0b_call3_c_1 : Ref sig .tc := ⟨.hbm, 69, rfl⟩
abbrev main_while0b_call3_c_2 : Ref sig .tc := ⟨.hbm, 70, rfl⟩
abbrev main_while0b_call3_v0 : Ref sig .tc := ⟨.hbm, 71, rfl⟩
abbrev main_while0b_v50 : Ref sig .tc := ⟨.hbm, 72, rfl⟩
abbrev main_while0b_call4_c : Ref sig .tc := ⟨.hbm, 73, rfl⟩
abbrev main_while0b_call4_c_0 : Ref sig .tc := ⟨.hbm, 74, rfl⟩
abbrev main_while0b_call4_c_1 : Ref sig .tc := ⟨.hbm, 75, rfl⟩
abbrev main_while0b_call4_v0 : Ref sig .tc := ⟨.hbm, 76, rfl⟩
abbrev main_while0b_v51 : Ref sig .tc := ⟨.hbm, 77, rfl⟩
abbrev main_while0b_call5_c : Ref sig .tc := ⟨.hbm, 78, rfl⟩
abbrev main_while0b_call5_c_0 : Ref sig .tc := ⟨.hbm, 79, rfl⟩
abbrev main_while0b_call5_c_1 : Ref sig .tc := ⟨.hbm, 80, rfl⟩
abbrev main_while0b_call5_v0 : Ref sig .tc := ⟨.hbm, 81, rfl⟩
abbrev main_while0b_v52 : Ref sig .tc := ⟨.hbm, 82, rfl⟩
abbrev main_while0b_call6_call0_cst : Ref sig .tc := ⟨.hbm, 83, rfl⟩
abbrev main_while0b_call6_call0_v0 : Ref sig .tc := ⟨.hbm, 84, rfl⟩
abbrev main_while0b_v53 : Ref sig .tc := ⟨.hbm, 85, rfl⟩
abbrev main_while0b_v54 : Ref sig .tc := ⟨.hbm, 86, rfl⟩
abbrev main_while0b_v55 : Ref sig .tc := ⟨.hbm, 87, rfl⟩
abbrev main_while0b_v56 : Ref sig .tc := ⟨.hbm, 88, rfl⟩
abbrev main_while0b_v57 : Ref sig .tc := ⟨.hbm, 89, rfl⟩
abbrev main_while0b_v58 : Ref sig .tc := ⟨.hbm, 90, rfl⟩
abbrev main_while0b_v59 : Ref sig .tc := ⟨.hbm, 91, rfl⟩
abbrev main_while0b_v60 : Ref sig .tc := ⟨.hbm, 92, rfl⟩
abbrev main_while0b_v61 : Ref sig .tc := ⟨.hbm, 93, rfl⟩
abbrev main_while0b_v62 : Ref sig .tc := ⟨.hbm, 94, rfl⟩
abbrev main_while0b_v63 : Ref sig .tc := ⟨.hbm, 95, rfl⟩
abbrev main_while0b_v64 : Ref sig .tc := ⟨.hbm, 96, rfl⟩
abbrev main_while0b_cst_19 : Ref sig .tc := ⟨.hbm, 97, rfl⟩
abbrev main_while0b_call7_v0 : Ref sig .tc := ⟨.hbm, 98, rfl⟩
abbrev main_while0b_call7_v1 : Ref sig .tc := ⟨.hbm, 99, rfl⟩
abbrev main_while0b_call7_v2 : Ref sig .tc := ⟨.hbm, 100, rfl⟩
abbrev main_while0b_v65 : Ref sig .tc := ⟨.hbm, 101, rfl⟩
abbrev main_while0b_cst_20 : Ref sig .tc := ⟨.hbm, 102, rfl⟩
abbrev main_while0b_v66 : Ref sig .tc := ⟨.hbm, 103, rfl⟩
abbrev main_while0b_v67 : Ref sig .tc := ⟨.hbm, 104, rfl⟩
abbrev main_while0b_v68 : Ref sig .tc := ⟨.hbm, 105, rfl⟩
abbrev main_while0b_v69 : Ref sig .tc := ⟨.hbm, 106, rfl⟩
abbrev main_while0b_v70 : Ref sig .tc := ⟨.hbm, 107, rfl⟩
abbrev main_while0b_v71 : Ref sig .tc := ⟨.hbm, 108, rfl⟩
abbrev main_while0b_v72 : Ref sig .tc := ⟨.hbm, 109, rfl⟩
abbrev main_while0b_v73 : Ref sig .tc := ⟨.hbm, 110, rfl⟩
abbrev main_while0b_v74 : Ref sig .tc := ⟨.hbm, 111, rfl⟩
abbrev main_while0b_v75 : Ref sig .tc := ⟨.hbm, 112, rfl⟩
abbrev main_while0b_v76 : Ref sig .tc := ⟨.hbm, 113, rfl⟩
abbrev main_while0b_v77 : Ref sig .tc := ⟨.hbm, 114, rfl⟩
abbrev main_while0b_v78 : Ref sig .tc := ⟨.hbm, 115, rfl⟩
abbrev main_while0b_v79 : Ref sig .tc := ⟨.hbm, 116, rfl⟩
abbrev main_while0b_v80 : Ref sig .tc := ⟨.hbm, 117, rfl⟩
abbrev main_while0b_v81 : Ref sig .tc := ⟨.hbm, 118, rfl⟩
abbrev main_while0b_cst_21 : Ref sig .tc := ⟨.hbm, 119, rfl⟩
abbrev main_while0b_v82 : Ref sig .tc := ⟨.hbm, 120, rfl⟩
abbrev main_while0b_v83 : Ref sig .tc := ⟨.hbm, 121, rfl⟩
abbrev main_while0b_v84 : Ref sig .tc := ⟨.hbm, 122, rfl⟩
abbrev main_while0b_v85 : Ref sig .tc := ⟨.hbm, 123, rfl⟩
abbrev main_while0b_v86 : Ref sig .tc := ⟨.hbm, 124, rfl⟩
abbrev main_while0b_v87 : Ref sig .tc := ⟨.hbm, 125, rfl⟩
abbrev main_while0b_v88 : Ref sig .tc := ⟨.hbm, 126, rfl⟩
abbrev main_while0b_v89 : Ref sig .tc := ⟨.hbm, 127, rfl⟩
abbrev main_while0b_v90 : Ref sig .tc := ⟨.hbm, 128, rfl⟩
abbrev main_while0b_v91 : Ref sig .tc := ⟨.hbm, 129, rfl⟩
abbrev main_while0b_v92 : Ref sig .tc := ⟨.hbm, 130, rfl⟩
abbrev main_while0b_v93 : Ref sig .tc := ⟨.hbm, 131, rfl⟩
abbrev main_while0b_v94 : Ref sig .tc := ⟨.hbm, 132, rfl⟩
abbrev main_while0b_v95 : Ref sig .tc := ⟨.hbm, 133, rfl⟩
abbrev main_while0b_v96 : Ref sig .tc := ⟨.hbm, 134, rfl⟩
abbrev main_while0b_v97 : Ref sig .tc := ⟨.hbm, 135, rfl⟩
abbrev main_while0b_v98 : Ref sig .tc := ⟨.hbm, 136, rfl⟩
abbrev main_while0b_v99 : Ref sig .tc := ⟨.hbm, 137, rfl⟩
abbrev main_while0b_v100 : Ref sig .tc := ⟨.hbm, 138, rfl⟩
abbrev main_while0b_v101 : Ref sig .tc := ⟨.hbm, 139, rfl⟩
abbrev main_while0b_v102 : Ref sig .tc := ⟨.hbm, 140, rfl⟩
abbrev main_while0b_v103 : Ref sig .tc := ⟨.hbm, 141, rfl⟩
abbrev main_while0b_v104 : Ref sig .tc := ⟨.hbm, 142, rfl⟩
abbrev main_while0b_v105 : Ref sig .tc := ⟨.hbm, 143, rfl⟩
abbrev main_while0b_v106 : Ref sig .tc := ⟨.hbm, 144, rfl⟩
abbrev main_while0b_v107 : Ref sig .tc := ⟨.hbm, 145, rfl⟩
abbrev main_while0b_v108 : Ref sig .tc := ⟨.hbm, 146, rfl⟩
abbrev main_while0b_v109 : Ref sig .tc := ⟨.hbm, 147, rfl⟩
abbrev main_while0b_v110 : Ref sig .tc := ⟨.hbm, 148, rfl⟩
abbrev main_while0b_v111 : Ref sig .tc := ⟨.hbm, 149, rfl⟩
abbrev main_while0b_v112 : Ref sig .tc := ⟨.hbm, 150, rfl⟩
abbrev main_while0b_v113 : Ref sig .tc := ⟨.hbm, 151, rfl⟩
abbrev main_while0b_v114 : Ref sig .tc := ⟨.hbm, 152, rfl⟩
abbrev main_while0b_v115 : Ref sig .tc := ⟨.hbm, 153, rfl⟩
abbrev main_while0b_cst_22 : Ref sig .tc := ⟨.hbm, 154, rfl⟩
abbrev main_while0b_v116 : Ref sig .tc := ⟨.hbm, 155, rfl⟩
abbrev main_while0b_v117 : Ref sig .tc := ⟨.hbm, 156, rfl⟩
abbrev main_while0b_call8_v0 : Ref sig .tc := ⟨.hbm, 157, rfl⟩
abbrev main_while0b_call8_c : Ref sig .tc := ⟨.hbm, 158, rfl⟩
abbrev main_while0b_call8_c_0 : Ref sig .tc := ⟨.hbm, 159, rfl⟩
abbrev main_while0b_call8_c_1 : Ref sig .tc := ⟨.hbm, 160, rfl⟩
abbrev main_while0b_call8_c_2 : Ref sig .tc := ⟨.hbm, 161, rfl⟩
abbrev main_while0b_v118 : Ref sig .tc := ⟨.hbm, 162, rfl⟩
abbrev main_while0b_c_23 : Ref sig .tc := ⟨.hbm, 163, rfl⟩
abbrev main_while0b_v119 : Ref sig .tc := ⟨.hbm, 164, rfl⟩
abbrev main_v22 : Ref sig .tc := ⟨.hbm, 165, rfl⟩
abbrev main_v23 : Ref sig .tc := ⟨.hbm, 166, rfl⟩
abbrev main_v24 : Ref sig .tc := ⟨.hbm, 167, rfl⟩
abbrev main_cst_4 : Ref sig .tc := ⟨.hbm, 168, rfl⟩
abbrev main_v25 : Ref sig .tc := ⟨.hbm, 169, rfl⟩
abbrev main_v26 : Ref sig .tc := ⟨.hbm, 170, rfl⟩
abbrev main_cst_5 : Ref sig .tc := ⟨.hbm, 171, rfl⟩
abbrev main_v27 : Ref sig .tc := ⟨.hbm, 172, rfl⟩
abbrev main_v28 : Ref sig .tc := ⟨.hbm, 173, rfl⟩
abbrev main_cst_6 : Ref sig .tc := ⟨.hbm, 174, rfl⟩
abbrev main_v29 : Ref sig .tc := ⟨.hbm, 175, rfl⟩
abbrev main_v30 : Ref sig .tc := ⟨.hbm, 176, rfl⟩
abbrev main_v31 : Ref sig .tc := ⟨.hbm, 177, rfl⟩
abbrev main_v32 : Ref sig .tc := ⟨.hbm, 178, rfl⟩
abbrev main_v33 : Ref sig .tc := ⟨.hbm, 179, rfl⟩
abbrev main_v34 : Ref sig .tc := ⟨.hbm, 180, rfl⟩
abbrev main_v35 : Ref sig .tc := ⟨.hbm, 181, rfl⟩
abbrev main_v36 : Ref sig .tc := ⟨.hbm, 182, rfl⟩
abbrev main_v37 : Ref sig .tc := ⟨.hbm, 183, rfl⟩
abbrev main_v38 : Ref sig .tc := ⟨.hbm, 184, rfl⟩
abbrev main_v39 : Ref sig .tc := ⟨.hbm, 185, rfl⟩
abbrev main_v40 : Ref sig .tc := ⟨.hbm, 186, rfl⟩
abbrev main_cst_7 : Ref sig .tc := ⟨.hbm, 187, rfl⟩
abbrev main_v41 : Ref sig .tc := ⟨.hbm, 188, rfl⟩
abbrev main_v42 : Ref sig .tc := ⟨.hbm, 189, rfl⟩
abbrev main_v43 : Ref sig .tc := ⟨.hbm, 190, rfl⟩
abbrev main_v44 : Ref sig .tc := ⟨.hbm, 191, rfl⟩
abbrev main_cst_8 : Ref sig .tc := ⟨.hbm, 192, rfl⟩
abbrev main_v45 : Ref sig .tc := ⟨.hbm, 193, rfl⟩
abbrev main_v46 : Ref sig .tc := ⟨.hbm, 194, rfl⟩
abbrev main_v47 : Ref sig .tc := ⟨.hbm, 195, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S512x1024 : Shape := ⟨2, ![512, 1024]⟩
abbrev S1x1024 : Shape := ⟨2, ![1, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 24
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x256, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024x1024, .f32⟩
  | .hbm, ⟨10, _⟩ => ⟨S256x1024, .f32⟩
  | .hbm, ⟨11, _⟩ => ⟨S1024, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x4096, .bf16⟩
  | .hbm, ⟨17, _⟩ => ⟨S4096x1024, .bf16⟩
  | .hbm, ⟨18, _⟩ => ⟨S1024x1024, .bf16⟩
  | .hbm, ⟨19, _⟩ => ⟨S256x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel2Ideal.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S512x1024 : Shape := ⟨2, ![512, 1024]⟩
abbrev S1x1024 : Shape := ⟨2, ![1, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 24
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x256, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024x1024, .f32⟩
  | .hbm, ⟨10, _⟩ => ⟨S256x1024, .f32⟩
  | .hbm, ⟨11, _⟩ => ⟨S1024, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x4096, .bf16⟩
  | .hbm, ⟨17, _⟩ => ⟨S4096x1024, .bf16⟩
  | .hbm, ⟨18, _⟩ => ⟨S1024x1024, .bf16⟩
  | .hbm, ⟨19, _⟩ => ⟨S256x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x256, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024x1024, .f32⟩
  | .hbm, ⟨10, _⟩ => ⟨S256x1024, .f32⟩
  | .hbm, ⟨11, _⟩ => ⟨S1024, .f32⟩
  | .hbm, ⟨12, _⟩ => ⟨S16384x1024, .bf16⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1, .f32⟩
  | .hbm, ⟨78, _⟩ => ⟨S16384x1024, .f32⟩
  | .hbm, ⟨79, _⟩ => ⟨S16384x1024, .f32⟩
  | .hbm, ⟨80, _⟩ => ⟨S1x1024, .f32⟩
  | .hbm, ⟨81, _⟩ => ⟨S16384x1024, .f32⟩
  | .hbm, ⟨82, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_cst : Ref sig .tc := ⟨.hbm, 33, rfl⟩
abbrev main_call0_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x3080 : Shape := ⟨2, ![1024, 3080]⟩
abbrev S512 : Shape := ⟨1, ![512]⟩
abbrev S4x128x128 : Shape := ⟨3, ![4, 128, 128]⟩
abbrev S4x128 : Shape := ⟨2, ![4, 128]⟩
abbrev S4 : Shape := ⟨1, ![4]⟩
abbrev S1024x3072 : Shape := ⟨2, ![1024, 3072]⟩
abbrev S1024x8 : Shape := ⟨2, ![1024, 8]⟩
abbrev S_ : Shape := ⟨0, ![]⟩
abbrev S1024x128 : Shape := ⟨2, ![1024, 128]⟩
abbrev S8x1024 : Shape := ⟨2, ![8, 1024]⟩
abbrev S16x1024 : Shape := ⟨2, ![16, 1024]⟩
abbrev S8 : Shape := ⟨1, ![8]⟩
abbrev S128 : Shape := ⟨1, ![128]⟩
abbrev S1x128 : Shape := ⟨2, ![1, 128]⟩
abbrev S16 : Shape := ⟨1, ![16]⟩
abbrev S16x1 : Shape := ⟨2, ![16, 1]⟩
abbrev S128x1 : Shape := ⟨2, ![128, 1]⟩
abbrev S128x128 : Shape := ⟨2, ![128, 128]⟩
abbrev S1x128x128 : Shape := ⟨3, ![1, 128, 128]⟩
abbrev S4x128x1 : Shape := ⟨3, ![4, 128, 1]⟩
abbrev S1x1024 : Shape := ⟨2, ![1, 1024]⟩
abbrev S16x512 : Shape := ⟨2, ![16, 512]⟩
abbrev S1x512 : Shape := ⟨2, ![1, 512]⟩
abbrev S16384x512 : Shape := ⟨2, ![16384, 512]⟩
abbrev S16384x128 : Shape := ⟨2, ![16384, 128]⟩
abbrev S16x16384 : Shape := ⟨2, ![16, 16384]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩
abbrev S1024x512 : Shape := ⟨2, ![1024, 512]⟩

abbrev nBuf : Space → Nat
  | .hbm => 97
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3080, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S4, .f32⟩
  | .hbm, ⟨8, _⟩ => ⟨S4, .f32⟩
  | .hbm, ⟨9, _⟩ => ⟨S1024x3072, .f32⟩
  | .hbm, ⟨10, _⟩ => ⟨S1024x3072, .bf16⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S8x1024, .f32⟩
  | .hbm, ⟨17, _⟩ => ⟨S_, .i32⟩
  | .hbm, ⟨18, _⟩ => ⟨S_, .f32⟩
  | .hbm, ⟨19, _⟩ => ⟨S16x1024, .f32⟩
  | .hbm, ⟨20, _⟩ => ⟨S16x1024, .bf16⟩
  | .hbm, ⟨21, _⟩ => ⟨S8, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S_, .i32⟩
  | .hbm, ⟨27, _⟩ => ⟨S_, .f32⟩
  | .hbm, ⟨28, _⟩ => ⟨S16, .f32⟩
  | .hbm, ⟨29, _⟩ => ⟨S16x1, .f32⟩
  | .hbm, ⟨30, _⟩ => ⟨S128, .i32⟩
  | .hbm, ⟨31, _⟩ => ⟨S128x1, .i32⟩
  | .hbm, ⟨32, _⟩ => ⟨S128, .i32⟩
  | .hbm, ⟨33, _⟩ => ⟨S1x128, .i32⟩
  | .hbm, ⟨34, _⟩ => ⟨S_, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x1, .i32⟩
  | .hbm, ⟨39, _⟩ => ⟨S_, .i32⟩
  | .hbm, ⟨40, _⟩ => ⟨S128x1, .i32⟩
  | .hbm, ⟨41, _⟩ => ⟨S128x1, .i1⟩
  | .hbm, ⟨42, _⟩ => ⟨S128x1, .i32⟩
  | .hbm, ⟨43, _⟩ => ⟨S128x1, .i32⟩
  | .hbm, ⟨44, _⟩ => ⟨S_, .i32⟩
  | .hbm, ⟨45, _⟩ => ⟨S128x1, .i32⟩
  | .hbm, ⟨46, _⟩ => ⟨S128x1, .i1⟩
  | .hbm, ⟨47, _⟩ => ⟨S128x1, .i1⟩
  | .hbm, ⟨48, _⟩ => ⟨S_, .i32⟩
  | .hbm, ⟨49, _⟩ => ⟨S128x1, .i32⟩
  | .hbm, ⟨50, _⟩ => ⟨S128x1, .i32⟩
  | .hbm, ⟨51, _⟩ => ⟨S128x1, .i32⟩
  | .hbm, ⟨52, _⟩ => ⟨S_, .i32⟩
  | .hbm, ⟨53, _⟩ => ⟨S_, .i32⟩
  | .hbm, ⟨54, _⟩ => ⟨S1x128, .i32⟩
  | .hbm, ⟨55, _⟩ => ⟨S1x128, .i32⟩
  | .hbm, ⟨56, _⟩ => ⟨S1x128, .i32⟩
  | .hbm, ⟨57, _⟩ => ⟨S_, .i32⟩
  | .hbm, ⟨58, _⟩ => ⟨S1x128, .i32⟩
  | .hbm, ⟨59, _⟩ => ⟨S1x128, .i1⟩
  | .hbm, ⟨60, _⟩ => ⟨S1x128, .i32⟩
  | .hbm, ⟨61, _⟩ => ⟨S1x128, .i32⟩
  | .hbm, ⟨62, _⟩ => ⟨S_, .i32⟩
  | .hbm, ⟨63, _⟩ => ⟨S1x128, .i32⟩
  | .hbm, ⟨64, _⟩ => ⟨S1x128, .i1⟩
  | .hbm, ⟨65, _⟩ => ⟨S1x128, .i1⟩
  | .hbm, ⟨66, _⟩ => ⟨S_, .i32⟩
  | .hbm, ⟨67, _⟩ => ⟨S1x128, .i32⟩
  | .hbm, ⟨68, _⟩ => ⟨S1x128, .i32⟩
  | .hbm, ⟨69, _⟩ => ⟨S1x128, .i32⟩
  | .hbm, ⟨70, _⟩ => ⟨S128x128, .i32⟩
  | .hbm, ⟨71, _⟩ => ⟨S128x128, .i32⟩
  | .hbm, ⟨72, _⟩ => ⟨S128x128, .i1⟩
  | .hbm, ⟨73, _⟩ => ⟨S128x128, .i32⟩
  | .hbm, ⟨74, _⟩ => ⟨S128x128, .i32⟩
  | .hbm, ⟨75, _⟩ => ⟨S128x128, .i1⟩
  | .hbm, ⟨76, _⟩ => ⟨S128x128, .i1⟩
  | .hbm, ⟨77, _⟩ => ⟨S128x128, .bf16⟩
  | .hbm, ⟨78, _⟩ => ⟨S128x128, .f32⟩
  | .hbm, ⟨79, _⟩ => ⟨S1x128x128, .f32⟩
  | .hbm, ⟨80, _⟩ => ⟨S4x128x128, .f32⟩
  | .hbm, ⟨81, _⟩ => ⟨S4x128x128, .f32⟩
  | .hbm, ⟨82, _⟩ => ⟨S4x128x128, .bf16⟩
  | .hbm, ⟨83, _⟩ => ⟨S4x128x1, .f32⟩
  | .hbm, ⟨84, _⟩ => ⟨S4x128x128, .f32⟩
  | .hbm, ⟨85, _⟩ => ⟨S1x1024, .f32⟩
  | .hbm, ⟨86, _⟩ => ⟨S16x512, .f32⟩
  | .hbm, ⟨87, _⟩ => ⟨S1x512, .f32⟩
  | .hbm, ⟨88, _⟩ => ⟨S1x512, .f32⟩
  | .hbm, ⟨89, _⟩ => ⟨S16384x512, .bf16⟩
  | .hbm, ⟨90, _⟩ => ⟨S16384x512, .bf16⟩
  | .hbm, ⟨91, _⟩ => ⟨S16384x512, .bf16⟩
  | .hbm, ⟨92, _⟩ => ⟨S16384x512, .bf16⟩
  | .hbm, ⟨93, _⟩ => ⟨S16384x512, .f32⟩
  | .hbm, ⟨94, _⟩ => ⟨S16384x128, .f32⟩
  | .hbm, ⟨95, _⟩ => ⟨S16x16384, .f32⟩
  | .hbm, ⟨96, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S16x1024, .bf16⟩
  | .local _ .vmem, ⟨6, _⟩ => ⟨S1x128, .f32⟩
  | .local _ .vmem, ⟨7, _⟩ => ⟨S16x512, .f32⟩
  | .local _ .vmem, ⟨8, _⟩ => ⟨S1x512, .f32⟩
  | .local _ .vmem, ⟨9, _⟩ => ⟨S1x512, .f32⟩
  | .local _ .vmem, ⟨10, _⟩ => ⟨S4x128x128, .bf16⟩
  | .local _ .vmem, ⟨11, _⟩ => ⟨S4x128x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | .local _ .vmem, ⟨22, _⟩ => ⟨S512x128, .f32⟩
  | .local _ .vmem, ⟨23, _⟩ => ⟨S512x128, .f32⟩
  | .local _ .vmem, ⟨24, _⟩ => ⟨S16x512, .f32⟩
  | .local _ .vmem, ⟨25, _⟩ => ⟨S16x512, .f32⟩
  | .local _ .vmem, ⟨26, _⟩ => ⟨S512x512, .f32⟩
  | .local _ .vmem, ⟨27, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_call2_v0 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_call3_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_call4_v0 : Ref sig .tc := ⟨.hbm, 35, rfl⟩
abbrev main_call4_v1 : Ref sig .tc := ⟨.hbm, 36, rfl⟩
abbrev main_call4_v2 : Ref sig .tc := ⟨.hbm, 37, rfl⟩
abbrev main_call4_v3 : Ref sig .tc := ⟨.hbm, 38, rfl⟩
abbrev main_call4_v4 : Ref sig .tc := ⟨.hbm, 39, rfl⟩
abbrev main_call4_v5 : Ref sig .tc := ⟨.hbm, 40, rfl⟩
abbrev main_call4_v6 : Ref sig .tc := ⟨.hbm, 41, rfl⟩
abbrev main_call4_v7 : Ref sig .tc := ⟨.hbm, 42, rfl⟩
abbrev main_call4_v8 : Ref sig .tc := ⟨.hbm, 43, rfl⟩
abbrev main_call4_c : Ref sig .tc := ⟨.hbm, 44, rfl⟩
abbrev main_call4_v9 : Ref sig .tc := ⟨.hbm, 45, rfl⟩
abbrev main_call4_v10 : Ref sig .tc := ⟨.hbm, 46, rfl⟩
abbrev main_call4_v11 : Ref sig .tc := ⟨.hbm, 47, rfl⟩
abbrev main_call4_c_0 : Ref sig .tc := ⟨.hbm, 48, rfl⟩
abbrev main_call4_v12 : Ref sig .tc := ⟨.hbm, 49, rfl⟩
abbrev main_call4_v13 : Ref sig .tc := ⟨.hbm, 50, rfl⟩
abbrev main_v17 : Ref sig .tc := ⟨.hbm, 51, rfl⟩
abbrev main_c_4 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_call5_v5 : Ref sig .tc := ⟨.hbm, 58, rfl⟩
abbrev main_call5_v6 : Ref sig .tc := ⟨.hbm, 59, rfl⟩
abbrev main_call5_v7 : Ref sig .tc := ⟨.hbm, 60, rfl⟩
abbrev main_call5_v8 : Ref sig .tc := ⟨.hbm, 61, rfl⟩
abbrev main_call5_c : Ref sig .tc := ⟨.hbm, 62, rfl⟩
abbrev main_call5_v9 : Ref sig .tc := ⟨.hbm, 63, rfl⟩
abbrev main_call5_v10 : Ref sig .tc := ⟨.hbm, 64, rfl⟩
abbrev main_call5_v11 : Ref sig .tc := ⟨.hbm, 65, rfl⟩
abbrev main_call5_c_0 : Ref sig .tc := ⟨.hbm, 66, rfl⟩
abbrev main_call5_v12 : Ref sig .tc := ⟨.hbm, 67, rfl⟩
abbrev main_call5_v13 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38_0 : Ref sig .tc := ⟨.hbm, 89, rfl⟩
abbrev main_v38_1 : Ref sig .tc := ⟨.hbm, 90, rfl⟩
abbrev main_v38_2 : Ref sig .tc := ⟨.hbm, 91, rfl⟩
abbrev main_v38_3 : Ref sig .tc := ⟨.hbm, 92, rfl⟩
abbrev main_v38_4 : Ref sig .tc := ⟨.hbm, 93, rfl⟩
abbrev main_v38_5 : Ref sig .tc := ⟨.hbm, 94, rfl⟩
abbrev main_v38_6 : Ref sig .tc := ⟨.hbm, 95, rfl⟩
abbrev main_v38_7 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S16384x1024 : Shape := ⟨2, ![16384, 1024]⟩
abbrev S1024 : Shape := ⟨1, ![1024]⟩
abbrev S1024x3080 : Shape := ⟨2, ![1024, 3080]⟩
abbrev S512 : Shape := ⟨1, ![512]⟩
abbrev S4x128x128 : Shape := ⟨3, ![4, 128, 128]⟩
abbrev S4x128 : Shape := ⟨2, ![4, 128]⟩
abbrev S4 : Shape := ⟨1, ![4]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3080 : Shape := ⟨2, ![16384, 3080]⟩
abbrev S16384x512 : Shape := ⟨2, ![16384, 512]⟩
abbrev S16384x4 : Shape := ⟨2, ![16384, 4]⟩
abbrev S1x512 : Shape := ⟨2, ![1, 512]⟩
abbrev S128x128x4x128 : Shape := ⟨4, ![128, 128, 4, 128]⟩
abbrev S128x128 : Shape := ⟨2, ![128, 128]⟩
abbrev S4x128x128x128 : Shape := ⟨4, ![4, 128, 128, 128]⟩
abbrev S128x4 : Shape := ⟨2, ![128, 4]⟩
abbrev S1x128x4x1 : Shape := ⟨4, ![1, 128, 4, 1]⟩
abbrev S1x4 : Shape := ⟨2, ![1, 4]⟩
abbrev S16384x120 : Shape := ⟨2, ![16384, 120]⟩
abbrev S16384x128 : Shape := ⟨2, ![16384, 128]⟩
abbrev S16384x16 : Shape := ⟨2, ![16384, 16]⟩
abbrev S16x16384 : Shape := ⟨2, ![16, 16384]⟩

abbrev nBuf : Space → Nat
  | .hbm => 179
  | .vmem => 0
  | .smem => 0
  | _ => 0

abbrev hbmTy0_0 (i : Nat) : BufTy := match i % 128 with
  | 0 => ⟨S16384x1024, .f32⟩
  | 1 => ⟨S1024, .f32⟩
  | 2 => ⟨S1024x3080, .f32⟩
  | 3 => ⟨S512, .f32⟩
  | 4 => ⟨S512, .f32⟩
  | 5 => ⟨S4x128x128, .f32⟩
  | 6 => ⟨S4x128, .f32⟩
  | 7 => ⟨S4, .f32⟩
  | 8 => ⟨S4, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1024, .f32⟩
  | 21 => ⟨S16384x1024, .f32⟩
  | 22 => ⟨S1x1024, .f32⟩
  | 23 => ⟨S16384x1024, .f32⟩
  | 24 => ⟨S16384x1024, .f32⟩
  | 25 => ⟨S16384x3080, .f32⟩
  | 26 => ⟨S16384x512, .f32⟩
  | 27 => ⟨S16384x512, .f32⟩
  | 28 => ⟨S16384x512, .f32⟩
  | 29 => ⟨S16384x512, .f32⟩
  | 30 => ⟨S16384x512, .f32⟩
  | 31 => ⟨S16384x512, .f32⟩
  | 32 => ⟨S16384x4, .f32⟩
  | 33 => ⟨S16384x4, .f32⟩
  | 34 => ⟨S16384x512, .f32⟩
  | 35 => ⟨S16384x512, .f32⟩
  | 36 => ⟨S_, .f32⟩
  | 37 => ⟨S16384x512, .f32⟩
  | 38 => ⟨S16384x512, .f32⟩
  | 39 => ⟨S16384x512, .f32⟩
  | 40 => ⟨S_, .f32⟩
  | 41 => ⟨S16384x512, .f32⟩
  | 42 => ⟨S16384x512, .f32⟩
  | 43 => ⟨S16384x512, .f32⟩
  | 44 => ⟨S_, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S16384x512, .f32⟩
  | 51 => ⟨S16384x512, .f32⟩
  | 52 => ⟨S16384x512, .f32⟩
  | 53 => ⟨S_, .f32⟩
  | 54 => ⟨S16384x512, .f32⟩
  | 55 => ⟨S16384x512, .f32⟩
  | 56 => ⟨S16384x512, .f32⟩
  | 57 => ⟨S_, .f32⟩
  | 58 => ⟨S16384x512, .f32⟩
  | 59 => ⟨S16384x512, .f32⟩
  | 60 => ⟨S16384x512, .f32⟩
  | 61 => ⟨S_, .f32⟩
  | 62 => ⟨S16384x512, .f32⟩
  | 63 => ⟨S16384x512, .f32⟩
  | 64 => ⟨S_, .f32⟩
  | 65 => ⟨S16384x512, .f32⟩
  | 66 => ⟨S16384x512, .f32⟩
  | 67 => ⟨S16384x512, .f32⟩
  | 68 => ⟨S_, .f32⟩
  | 69 => ⟨S16384, .f32⟩
  | 70 => ⟨S16384x1, .f32⟩
  | 71 => ⟨S_, .f32⟩
  | 72 => ⟨S16384x1, .f32⟩
  | 73 => ⟨S16384x1, .f32⟩
  | 74 => ⟨S16384x512, .f32⟩
  | 75 => ⟨S16384x512, .f32⟩
  | 76 => ⟨S16384x512, .f32⟩
  | 77 => ⟨S_, .f32⟩
  | 78 => ⟨S16384, .f32⟩
  | 79 => ⟨S16384x1, .f32⟩
  | 80 => ⟨S_, .f32⟩
  | 81 => ⟨S16384x1, .f32⟩
  | 82 => ⟨S16384x1, .f32⟩
  | 83 => ⟨S16384x512, .f32⟩
  | 84 => ⟨S16384x512, .f32⟩
  | 85 => ⟨S_, .f32⟩
  | 86 => ⟨S16384x1, .f32⟩
  | 87 => ⟨S16384x1, .f32⟩
  | 88 => ⟨S16384x1, .f32⟩
  | 89 => ⟨S16384x512, .f32⟩
  | 90 => ⟨S16384x512, .f32⟩
  | 91 => ⟨S1x512, .f32⟩
  | 92 => ⟨S16384x512, .f32⟩
  | 93 => ⟨S16384x512, .f32⟩
  | 94 => ⟨S1x512, .f32⟩
  | 95 => ⟨S16384x512, .f32⟩
  | 96 => ⟨S16384x512, .f32⟩
  | 97 => ⟨S128x128x4x128, .f32⟩
  | 98 => ⟨S_, .i1⟩
  | 99 => ⟨S128x128, .i1⟩
  | 100 => ⟨S128x128, .i32⟩
  | 101 => ⟨S_, .i32⟩
  | 102 => ⟨S128x128, .i32⟩
  | 103 => ⟨S128x128, .i32⟩
  | 104 => ⟨S128x128, .i32⟩
  | 105 => ⟨S128x128, .i1⟩
  | 106 => ⟨S_, .i1⟩
  | 107 => ⟨S128x128, .i1⟩
  | 108 => ⟨S128x128, .i1⟩
  | 109 => ⟨S_, .f32⟩
  | 110 => ⟨S4x128x128, .f32⟩
  | 111 => ⟨S4x128x128, .i1⟩
  | 112 => ⟨S4x128x128, .f32⟩
  | 113 => ⟨S4x128x128x128, .f32⟩
  | 114 => ⟨S128x128x4x128, .f32⟩
  | 115 => ⟨S128x4, .f32⟩
  | 116 => ⟨S1x128x4x1, .f32⟩
  | 117 => ⟨S128x128x4x128, .f32⟩
  | 118 => ⟨S128x128x4x128, .f32⟩
  | 119 => ⟨S16384x512, .f32⟩
  | 120 => ⟨S16384x512, .f32⟩
  | 121 => ⟨S1x4, .f32⟩
  | 122 => ⟨S16384x4, .f32⟩
  | 123 => ⟨S16384x4, .f32⟩
  | 124 => ⟨S1x4, .f32⟩
  | 125 => ⟨S16384x4, .f32⟩
  | 126 => ⟨S16384x4, .f32⟩
  | 127 => ⟨S16384x4, .f32⟩
  | _ => ⟨S16384x1024, .f32⟩

abbrev hbmTy0_1 (i : Nat) : BufTy := match i % 128 with
  | 0 => ⟨S_, .f32⟩
  | 1 => ⟨S16384x4, .f32⟩
  | 2 => ⟨S16384x4, .f32⟩
  | 3 => ⟨S16384x4, .f32⟩
  | 4 => ⟨S16384x4, .f32⟩
  | 5 => ⟨S16384x4, .i1⟩
  | 6 => ⟨S16384x4, .f32⟩
  | 7 => ⟨S16384x4, .f32⟩
  | 8 => ⟨S16384x4, .f32⟩
  | 9 => ⟨S16384x4, .f32⟩
  | 10 => ⟨S16384x4, .f32⟩
  | 11 => ⟨S16384x4, .f32⟩
  | 12 => ⟨S16384x4, .f32⟩
  | 13 => ⟨S16384x4, .f32⟩
  | 14 => ⟨S16384x4, .f32⟩
  | 15 => ⟨S_, .f32⟩
  | 16 => ⟨S16384x120, .f32⟩
  | 17 => ⟨S16384x120, .f32⟩
  | 18 => ⟨S_, .f32⟩
  | 19 => ⟨S16384x120, .f32⟩
  | 20 => ⟨S16384x120, .f32⟩
  | 21 => ⟨S16384x120, .f32⟩
  | 22 => ⟨S16384x120, .f32⟩
  | 23 => ⟨S16384x120, .i1⟩
  | 24 => ⟨S16384x120, .f32⟩
  | 25 => ⟨S16384x120, .f32⟩
  | 26 => ⟨S16384x120, .f32⟩
  | 27 => ⟨S16384x120, .f32⟩
  | 28 => ⟨S16384x120, .f32⟩
  | 29 => ⟨S16384x120, .f32⟩
  | 30 => ⟨S16384x120, .f32⟩
  | 31 => ⟨S16384x120, .f32⟩
  | 32 => ⟨S16384x120, .f32⟩
  | 33 => ⟨S16384x128, .f32⟩
  | 34 => ⟨S16384x512, .bf16⟩
  | 35 => ⟨S16384x512, .bf16⟩
  | 36 => ⟨S_, .f32⟩
  | 37 => ⟨S16384x512, .f32⟩
  | 38 => ⟨S16384x512, .f32⟩
  | 39 => ⟨S16384x512, .bf16⟩
  | 40 => ⟨S16384x512, .bf16⟩
  | 41 => ⟨S16384x512, .f32⟩
  | 42 => ⟨S16384x512, .f32⟩
  | 43 => ⟨S_, .f32⟩
  | 44 => ⟨S16384x512, .f32⟩
  | 45 => ⟨S16384x512, .f32⟩
  | 46 => ⟨S_, .f32⟩
  | 47 => ⟨S16384x512, .f32⟩
  | 48 => ⟨S16384x512, .f32⟩
  | 49 => ⟨S16384x16, .f32⟩
  | 50 => ⟨S16x16384, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c : Ref sig .tc := ⟨.hbm, 98, rfl⟩
abbrev main_v73 : Ref sig .tc := ⟨.hbm, 99, rfl⟩
abbrev main_call0_v0 : Ref sig .tc := ⟨.hbm, 100, rfl⟩
abbrev main_call0_c : Ref sig .tc := ⟨.hbm, 101, rfl⟩
abbrev main_call0_v1 : Ref sig .tc := ⟨.hbm, 102, rfl⟩
abbrev main_call0_v2 : Ref sig .tc := ⟨.hbm, 103, rfl⟩
abbrev main_call0_v3 : Ref sig .tc := ⟨.hbm, 104, rfl⟩
abbrev main_call0_v4 : Ref sig .tc := ⟨.hbm, 105, rfl⟩
abbrev main_call0_c_0 : Ref sig .tc := ⟨.hbm, 106, rfl⟩
abbrev main_call0_v5 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_call1_v0 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call2_v0 : Ref sig .tc := ⟨.hbm, 127, rfl⟩
abbrev main_call2_call0_cst : Ref sig .tc := ⟨.hbm, 128, rfl⟩
abbrev main_call2_call0_v0 : Ref sig .tc := ⟨.hbm, 129, rfl⟩
abbrev main_call2_call0_v1 : Ref sig .tc := ⟨.hbm, 130, rfl⟩
abbrev main_call2_call0_v2 : Ref sig .tc := ⟨.hbm, 131, rfl⟩
abbrev main_call2_call0_v3 : Ref sig .tc := ⟨.hbm, 132, rfl⟩
abbrev main_call2_call0_v4 : Ref sig .tc := ⟨.hbm, 133, rfl⟩
abbrev main_call2_call0_v5 : Ref sig .tc := ⟨.hbm, 134, rfl⟩
abbrev main_call2_call0_v6 : Ref sig .tc := ⟨.hbm, 135, rfl⟩
abbrev main_call2_call0_v7 : Ref sig .tc := ⟨.hbm, 136, rfl⟩
abbrev main_call2_call0_v8 : Ref sig .tc := ⟨.hbm, 137, rfl⟩
abbrev main_call2_call0_v9 : Ref sig .tc := ⟨.hbm, 138, rfl⟩
abbrev main_call2_call0_v10 : Ref sig .tc := ⟨.hbm, 139, rfl⟩
abbrev main_call2_call0_v11 : Ref sig .tc := ⟨.hbm, 140, rfl⟩
abbrev main_call2_v1 : Ref sig .tc := ⟨.hbm, 141, rfl⟩
abbrev main_v91 : Ref sig .tc := ⟨.hbm, 142, rfl⟩
abbrev main_cst_16 : Ref sig .tc := ⟨.hbm, 143, rfl⟩
abbrev main_v92 : Ref sig .tc := ⟨.hbm, 144, rfl⟩
abbrev main_call3_v0 : Ref sig .tc := ⟨.hbm, 145, rfl⟩
abbrev main_call3_call0_cst : Ref sig .tc := ⟨.hbm, 146, rfl⟩
abbrev main_call3_call0_v0 : Ref sig .tc := ⟨.hbm, 147, rfl⟩
abbrev main_call3_call0_v1 : Ref sig .tc := ⟨.hbm, 148, rfl⟩
abbrev main_call3_call0_v2 : Ref sig .tc := ⟨.hbm, 149, rfl⟩
abbrev main_call3_call0_v3 : Ref sig .tc := ⟨.hbm, 150, rfl⟩
abbrev main_call3_call0_v4 : Ref sig .tc := ⟨.hbm, 151, rfl⟩
abbrev main_call3_call0_v5 : Ref sig .tc := ⟨.hbm, 152, rfl⟩
abbrev main_call3_call0_v6 : Ref sig .tc := ⟨.hbm, 153, rfl⟩
abbrev main_call3_call0_v7 : Ref sig .tc := ⟨.hbm, 154, rfl⟩
abbrev main_call3_call0_v8 : Ref sig .tc := ⟨.hbm, 155, rfl⟩
abbrev main_call3_call0_v9 : Ref sig .tc := ⟨.hbm, 156, rfl⟩
abbrev main_call3_call0_v10 : Ref sig .tc := ⟨.hbm, 157, rfl⟩
abbrev main_call3_call0_v11 : Ref sig .tc := ⟨.hbm, 158, rfl⟩
abbrev main_call3_v1 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_cst_17 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_cst_18 : Ref sig .tc := ⟨.hbm, 171, rfl⟩
abbrev main_v103 : Ref sig .tc := ⟨.hbm, 172, rfl⟩
abbrev main_v104 : Ref sig .tc := ⟨.hbm, 173, rfl⟩
abbrev main_cst_19 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩

abbrev nD : Nat := 1
abbrev τ : Topo := Topo.v7x

variable {F : FTy → Type} [FloatOps F]
-- ==== Kernel4.lean ====
abbrev S1024x512 : Shape := ⟨2, ![1024, 512]⟩
abbrev S1024x128 : Shape := ⟨2, ![1024, 128]⟩
abbrev S16x1024 : Shape := ⟨2, ![16, 1024]⟩
abbrev S128x4x128x128 : Shape := ⟨4, ![128, 4, 128, 128]⟩
abbrev S128x4x128 : Shape := ⟨3, ![128, 4, 128]⟩
abbrev S128x4 : Shape := ⟨2, ![128, 4]⟩
abbrev S1x512 : Shape := ⟨2, ![1, 512]⟩
abbrev S128 : Shape := ⟨1, ![128]⟩
abbrev S128x1 : Shape := ⟨2, ![128, 1]⟩
abbrev S1x128 : Shape := ⟨2, ![1, 128]⟩
abbrev S_ : Shape := ⟨0, ![]⟩
abbrev S128x128 : Shape := ⟨2, ![128, 128]⟩
abbrev S16 : Shape := ⟨1, ![16]⟩
abbrev S1x16 : Shape := ⟨2, ![1, 16]⟩
abbrev S128x16 : Shape := ⟨2, ![128, 16]⟩
abbrev S16x1 : Shape := ⟨2, ![16, 1]⟩
abbrev S16x128 : Shape := ⟨2, ![16, 128]⟩
abbrev S128x8x4 : Shape := ⟨3, ![128, 8, 4]⟩
abbrev S1024x4 : Shape := ⟨2, ![1024, 4]⟩
abbrev S128x512 : Shape := ⟨2, ![128, 512]⟩
abbrev S16x4x128x128 : Shape := ⟨4, ![16, 4, 128, 128]⟩
abbrev S16x4x128 : Shape := ⟨3, ![16, 4, 128]⟩
abbrev S16x1x128x128 : Shape := ⟨4, ![16, 1, 128, 128]⟩
abbrev S16x128x128 : Shape := ⟨3, ![16, 128, 128]⟩
abbrev S2048x128 : Shape := ⟨2, ![2048, 128]⟩
abbrev S128x2048 : Shape := ⟨2, ![128, 2048]⟩
abbrev S16x1x128 : Shape := ⟨3, ![16, 1, 128]⟩
abbrev S1x1 : Shape := ⟨2, ![1, 1]⟩
abbrev S1x128x128 : Shape := ⟨3, ![1, 128, 128]⟩
abbrev S1x1x128x128 : Shape := ⟨4, ![1, 1, 128, 128]⟩

abbrev nBuf : Space → Nat
  | .hbm => 163
  | .vmem => 33
  | .smem => 0
  | _ => 0

abbrev hbmTy0_0 (i : Nat) : BufTy := match i % 128 with
  | 0 => ⟨S1024x512, .bf16⟩
  | 1 => ⟨S1024x512, .bf16⟩
  | 2 => ⟨S1024x512, .bf16⟩
  | 3 => ⟨S1024x512, .f32⟩
  | 4 => ⟨S1024x128, .f32⟩
  | 5 => ⟨S16x1024, .f32⟩
  | 6 => ⟨S128x4x128x128, .f32⟩
  | 7 => ⟨S128x4x128, .f32⟩
  | 8 => ⟨S128x4, .f32⟩
  | 9 => ⟨S1x512, .f32⟩
  | 10 => ⟨S128, .i32⟩
  | 11 => ⟨S128x1, .i32⟩
  | 12 => ⟨S128, .i32⟩
  | 13 => ⟨S1x128, .i32⟩
  | 14 => ⟨S_, .i32⟩
  | 15 => ⟨S_, .i32⟩
  | 16 => ⟨S128x1, .i32⟩
  | 17 => ⟨S128x1, .i32⟩
  | 18 => ⟨S128x1, .i32⟩
  | 19 => ⟨S_, .i32⟩
  | 20 => ⟨S128x1, .i32⟩
  | 21 => ⟨S128x1, .i1⟩
  | 22 => ⟨S128x1, .i32⟩
  | 23 => ⟨S128x1, .i32⟩
  | 24 => ⟨S_, .i32⟩
  | 25 => ⟨S128x1, .i32⟩
  | 26 => ⟨S128x1, .i1⟩
  | 27 => ⟨S128x1, .i1⟩
  | 28 => ⟨S_, .i32⟩
  | 29 => ⟨S128x1, .i32⟩
  | 30 => ⟨S128x1, .i32⟩
  | 31 => ⟨S128x1, .i32⟩
  | 32 => ⟨S_, .i32⟩
  | 33 => ⟨S_, .i32⟩
  | 34 => ⟨S1x128, .i32⟩
  | 35 => ⟨S1x128, .i32⟩
  | 36 => ⟨S1x128, .i32⟩
  | 37 => ⟨S_, .i32⟩
  | 38 => ⟨S1x128, .i32⟩
  | 39 => ⟨S1x128, .i1⟩
  | 40 => ⟨S1x128, .i32⟩
  | 41 => ⟨S1x128, .i32⟩
  | 42 => ⟨S_, .i32⟩
  | 43 => ⟨S1x128, .i32⟩
  | 44 => ⟨S1x128, .i1⟩
  | 45 => ⟨S1x128, .i1⟩
  | 46 => ⟨S_, .i32⟩
  | 47 => ⟨S1x128, .i32⟩
  | 48 => ⟨S1x128, .i32⟩
  | 49 => ⟨S1x128, .i32⟩
  | 50 => ⟨S128x128, .i32⟩
  | 51 => ⟨S128x128, .i32⟩
  | 52 => ⟨S128x128, .i1⟩
  | 53 => ⟨S128x128, .i32⟩
  | 54 => ⟨S128x128, .i32⟩
  | 55 => ⟨S128x128, .i1⟩
  | 56 => ⟨S128x128, .i1⟩
  | 57 => ⟨S128x128, .bf16⟩
  | 58 => ⟨S128, .i32⟩
  | 59 => ⟨S16, .i32⟩
  | 60 => ⟨S1x128, .i32⟩
  | 61 => ⟨S128x1, .i32⟩
  | 62 => ⟨S_, .i32⟩
  | 63 => ⟨S_, .i32⟩
  | 64 => ⟨S128x1, .i32⟩
  | 65 => ⟨S128x1, .i32⟩
  | 66 => ⟨S128x1, .i32⟩
  | 67 => ⟨S_, .i32⟩
  | 68 => ⟨S128x1, .i32⟩
  | 69 => ⟨S128x1, .i1⟩
  | 70 => ⟨S128x1, .i32⟩
  | 71 => ⟨S128x1, .i32⟩
  | 72 => ⟨S_, .i32⟩
  | 73 => ⟨S128x1, .i32⟩
  | 74 => ⟨S128x1, .i1⟩
  | 75 => ⟨S128x1, .i1⟩
  | 76 => ⟨S_, .i32⟩
  | 77 => ⟨S128x1, .i32⟩
  | 78 => ⟨S128x1, .i32⟩
  | 79 => ⟨S128x1, .i32⟩
  | 80 => ⟨S_, .i32⟩
  | 81 => ⟨S128x1, .i32⟩
  | 82 => ⟨S128x1, .i32⟩
  | 83 => ⟨S_, .i32⟩
  | 84 => ⟨S128x1, .i32⟩
  | 85 => ⟨S128x1, .i32⟩
  | 86 => ⟨S_, .i32⟩
  | 87 => ⟨S128x1, .i32⟩
  | 88 => ⟨S128x1, .i32⟩
  | 89 => ⟨S128x128, .i32⟩
  | 90 => ⟨S128x128, .i32⟩
  | 91 => ⟨S128x128, .i1⟩
  | 92 => ⟨S128x128, .bf16⟩
  | 93 => ⟨S128x1, .i32⟩
  | 94 => ⟨S_, .i32⟩
  | 95 => ⟨S_, .i32⟩
  | 96 => ⟨S128x1, .i32⟩
  | 97 => ⟨S128x1, .i32⟩
  | 98 => ⟨S128x1, .i32⟩
  | 99 => ⟨S_, .i32⟩
  | 100 => ⟨S128x1, .i32⟩
  | 101 => ⟨S128x1, .i1⟩
  | 102 => ⟨S128x1, .i32⟩
  | 103 => ⟨S128x1, .i32⟩
  | 104 => ⟨S_, .i32⟩
  | 105 => ⟨S128x1, .i32⟩
  | 106 => ⟨S128x1, .i1⟩
  | 107 => ⟨S128x1, .i1⟩
  | 108 => ⟨S_, .i32⟩
  | 109 => ⟨S128x1, .i32⟩
  | 110 => ⟨S128x1, .i32⟩
  | 111 => ⟨S128x1, .i32⟩
  | 112 => ⟨S1x16, .i32⟩
  | 113 => ⟨S128x16, .i32⟩
  | 114 => ⟨S128x16, .i32⟩
  | 115 => ⟨S128x16, .i1⟩
  | 116 => ⟨S128x16, .bf16⟩
  | 117 => ⟨S1x128, .i32⟩
  | 118 => ⟨S16x1, .i32⟩
  | 119 => ⟨S_, .i32⟩
  | 120 => ⟨S16x1, .i32⟩
  | 121 => ⟨S16x1, .i32⟩
  | 122 => ⟨S_, .i32⟩
  | 123 => ⟨S16x1, .i32⟩
  | 124 => ⟨S16x1, .i32⟩
  | 125 => ⟨S_, .i32⟩
  | 126 => ⟨S16x1, .i32⟩
  | 127 => ⟨S16x1, .i32⟩
  | _ => ⟨S1024x512, .bf16⟩

abbrev hbmTy0_1 (i : Nat) : BufTy := match i % 128 with
  | 0 => ⟨S16x128, .i32⟩
  | 1 => ⟨S16x128, .i32⟩
  | 2 => ⟨S16x128, .i1⟩
  | 3 => ⟨S16x128, .bf16⟩
  | 4 => ⟨S1x128, .i32⟩
  | 5 => ⟨S_, .i32⟩
  | 6 => ⟨S_, .i32⟩
  | 7 => ⟨S1x128, .i32⟩
  | 8 => ⟨S1x128, .i32⟩
  | 9 => ⟨S1x128, .i32⟩
  | 10 => ⟨S_, .i32⟩
  | 11 => ⟨S1x128, .i32⟩
  | 12 => ⟨S1x128, .i1⟩
  | 13 => ⟨S1x128, .i32⟩
  | 14 => ⟨S1x128, .i32⟩
  | 15 => ⟨S_, .i32⟩
  | 16 => ⟨S1x128, .i32⟩
  | 17 => ⟨S1x128, .i1⟩
  | 18 => ⟨S1x128, .i1⟩
  | 19 => ⟨S_, .i32⟩
  | 20 => ⟨S1x128, .i32⟩
  | 21 => ⟨S1x128, .i32⟩
  | 22 => ⟨S1x128, .i32⟩
  | 23 => ⟨S16x1, .i32⟩
  | 24 => ⟨S16x128, .i32⟩
  | 25 => ⟨S16x128, .i32⟩
  | 26 => ⟨S16x128, .i1⟩
  | 27 => ⟨S16x128, .bf16⟩
  | 28 => ⟨S128x8x4, .f32⟩
  | 29 => ⟨S1024x4, .f32⟩
  | 30 => ⟨S128x128, .bf16⟩
  | 31 => ⟨S1024x512, .bf16⟩
  | 32 => ⟨S128x4x128x128, .f32⟩
  | 33 => ⟨S128x4x128, .f32⟩
  | 34 => ⟨S128x4x128, .f32⟩
  | _ => ⟨S1024x512, .bf16⟩

abbrev hbmTy (i : Nat) : BufTy := match i / 128 with
  | 0 => hbmTy0_0 i
  | 1 => hbmTy0_1 i
  | _ => ⟨S1024x512, .bf16⟩

abbrev bufTy : (tb : Table) → Fin (tcTables nBuf tb) → BufTy
  | .hbm, ⟨i, _⟩ => hbmTy i
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x128, .f32⟩
  | .local _ .vmem, ⟨10, _⟩ => ⟨S16x128, .f32⟩
  | .local _ .vmem, ⟨11, _⟩ => ⟨S16x128, .f32⟩
  | .local _ .vmem, ⟨12, _⟩ => ⟨S128x4, .f32⟩
  | .local _ .vmem, ⟨13, _⟩ => ⟨S128x4, .f32⟩
  | .local _ .vmem, ⟨14, _⟩ => ⟨S16x4x128x128, .f32⟩
  | .local _ .vmem, ⟨15, _⟩ => ⟨S16x4x128x128, .f32⟩
  | .local _ .vmem, ⟨16, _⟩ => ⟨S16x4x128, .f32⟩
  | .local _ .vmem, ⟨17, _⟩ => ⟨S16x4x128, .f32⟩
  | .local _ .vmem, ⟨18, _⟩ => ⟨S1x512, .f32⟩
  | .local _ .vmem, ⟨19, _⟩ => ⟨S128x128, .bf16⟩
  | .local _ .vmem, ⟨20, _⟩ => ⟨S128x128, .bf16⟩
  | .local _ .vmem, ⟨21, _⟩ => ⟨S128x128, .bf16⟩
  | .local _ .vmem, ⟨22, _⟩ => ⟨S128x16, .bf16⟩
  | .local _ .vmem, ⟨23, _⟩ => ⟨S16x128, .bf16⟩
  | .local _ .vmem, ⟨24, _⟩ => ⟨S16x128, .bf16⟩
  | .local _ .vmem, ⟨25, _⟩ => ⟨S128x512, .bf16⟩
  | .local _ .vmem, ⟨26, _⟩ => ⟨S128x512, .bf16⟩
  | .local _ .vmem, ⟨27, _⟩ => ⟨S16x4x128x128, .f32⟩
  | .local _ .vmem, ⟨28, _⟩ => ⟨S16x4x128x128, .f32⟩
  | .local _ .vmem, ⟨29, _⟩ => ⟨S16x4x128, .f32⟩
  | .local _ .vmem, ⟨30, _⟩ => ⟨S16x4x128, .f32⟩
  | .local _ .vmem, ⟨31, _⟩ => ⟨S16x4x128, .f32⟩
  | .local _ .vmem, ⟨32, _⟩ => ⟨S16x4x128, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v4 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_c_1 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_c : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_0 : Ref sig .tc := ⟨.hbm, 76, rfl⟩
abbrev main_call2_v12 : Ref sig .tc := ⟨.hbm, 77, rfl⟩
abbrev main_call2_v13 : Ref sig .tc := ⟨.hbm, 78, rfl⟩
abbrev main_v18 : Ref sig .tc := ⟨.hbm, 79, rfl⟩
abbrev main_c_2 : Ref sig .tc := ⟨.hbm, 80, rfl⟩
abbrev main_v19 : Ref sig .tc := ⟨.hbm, 81, rfl⟩
abbrev main_v20 : Ref sig .tc := ⟨.hbm, 82, rfl⟩
abbrev main_c_3 : Ref sig .tc := ⟨.hbm, 83, rfl⟩
abbrev main_v21 : Ref sig .tc := ⟨.hbm, 84, rfl⟩
abbrev main_v22 : Ref sig .tc := ⟨.hbm, 85, rfl⟩
abbrev main_c_4 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_c_5 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_c : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_0 : Ref sig .tc := ⟨.hbm, 108, rfl⟩
abbrev main_call3_v12 : Ref sig .tc := ⟨.hbm, 109, rfl⟩
abbrev main_call3_v13 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_v37 : Ref sig .tc := ⟨.hbm, 118, rfl⟩
abbrev main_c_6 : Ref sig .tc := ⟨.hbm, 119, rfl⟩
abbrev main_v38 : Ref sig .tc := ⟨.hbm, 120, rfl⟩
abbrev main_v39 : Ref sig .tc := ⟨.hbm, 121, rfl⟩
abbrev main_c_7 : Ref sig .tc := ⟨.hbm, 122, rfl⟩
abbrev main_v40 : Ref sig .tc := ⟨.hbm, 123, rfl⟩
abbrev main_v41 : Ref sig .tc := ⟨.hbm, 124, rfl⟩
abbrev main_c_8 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_c_9 : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_v5 : Ref sig .tc := ⟨.hbm, 139, rfl⟩
abbrev main_call4_v6 : Ref sig .tc := ⟨.hbm, 140, rfl⟩
abbrev main_call4_v7 : Ref sig .tc := ⟨.hbm, 141, rfl⟩
abbrev main_call4_v8 : Ref sig .tc := ⟨.hbm, 142, rfl⟩
abbrev main_call4_c : Ref sig .tc := ⟨.hbm, 143, rfl⟩
abbrev main_call4_v9 : Ref sig .tc := ⟨.hbm, 144, rfl⟩
abbrev main_call4_v10 : Ref sig .tc := ⟨.hbm, 145, rfl⟩
abbrev main_call4_v11 : Ref sig .tc := ⟨.hbm, 146, rfl⟩
abbrev main_call4_c_0 : Ref sig .tc := ⟨.hbm, 147, rfl⟩
abbrev main_call4_v12 : Ref sig .tc := ⟨.hbm, 148, rfl⟩
abbrev main_call4_v13 : Ref sig .tc := ⟨.hbm, 149, rfl⟩
abbrev main_v49 : Ref sig .tc := ⟨.hbm, 150, rfl⟩
abbrev main_v50 : Ref sig .tc := ⟨.hbm, 151, rfl⟩
abbrev main_v51 : Ref sig .tc := ⟨.hbm, 152, rfl⟩
abbrev main_v52 : Ref sig .tc := ⟨.hbm, 153, rfl⟩
abbrev main_v53 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_v58_0 : Ref sig .tc := ⟨.hbm, 159, rfl⟩
abbrev main_v58_1 : Ref sig .tc := ⟨.hbm, 160, rfl⟩
abbrev main_v58_2 : Ref sig .tc := ⟨.hbm, 161, rfl⟩
abbrev main_v58_3 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x16 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x4x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x4x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x4x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Kernel5.lean ====
abbrev S1024x1024 : Shape := ⟨2, ![1024, 1024]⟩
abbrev S1024x512 : Shape := ⟨2, ![1024, 512]⟩
abbrev S1024x256 : Shape := ⟨2, ![1024, 256]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S512x1024 : Shape := ⟨2, ![512, 1024]⟩
abbrev S1x1024 : Shape := ⟨2, ![1, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 24
  | .vmem => 19
  | .smem => 0
  | _ => 0

abbrev bufTy : (tb : Table) → Fin (tcTables nBuf tb) → BufTy
  | .hbm, ⟨0, _⟩ => ⟨S1024x1024, .f32⟩
  | .hbm, ⟨1, _⟩ => ⟨S1024x512, .bf16⟩
  | .hbm, ⟨2, _⟩ => ⟨S1024x512, .bf16⟩
  | .hbm, ⟨3, _⟩ => ⟨S1024x256, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024x1024, .f32⟩
  | .hbm, ⟨10, _⟩ => ⟨S256x1024, .f32⟩
  | .hbm, ⟨11, _⟩ => ⟨S1024, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x4096, .bf16⟩
  | .hbm, ⟨17, _⟩ => ⟨S4096x1024, .bf16⟩
  | .hbm, ⟨18, _⟩ => ⟨S1024x1024, .bf16⟩
  | .hbm, ⟨19, _⟩ => ⟨S256x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S1024x1024 : Shape := ⟨2, ![1024, 1024]⟩
abbrev S1024x512 : Shape := ⟨2, ![1024, 512]⟩
abbrev S1024x256 : Shape := ⟨2, ![1024, 256]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S1024x1 : Shape := ⟨2, ![1024, 1]⟩
abbrev S1x1024 : Shape := ⟨2, ![1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x512, .bf16⟩
  | .hbm, ⟨2, _⟩ => ⟨S1024x512, .bf16⟩
  | .hbm, ⟨3, _⟩ => ⟨S1024x256, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024x1024, .f32⟩
  | .hbm, ⟨10, _⟩ => ⟨S256x1024, .f32⟩
  | .hbm, ⟨11, _⟩ => ⟨S1024, .f32⟩
  | .hbm, ⟨12, _⟩ => ⟨S1024x1024, .bf16⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024, .f32⟩
  | .hbm, ⟨19, _⟩ => ⟨S1024x1, .f32⟩
  | .hbm, ⟨20, _⟩ => ⟨S_, .f32⟩
  | .hbm, ⟨21, _⟩ => ⟨S1024x1, .f32⟩
  | .hbm, ⟨22, _⟩ => ⟨S1024x1, .f32⟩
  | .hbm, ⟨23, _⟩ => ⟨S_, .f32⟩
  | .hbm, ⟨24, _⟩ => ⟨S1024x1, .f32⟩
  | .hbm, ⟨25, _⟩ => ⟨S1024x1, .f32⟩
  | .hbm, ⟨26, _⟩ => ⟨S1024x1, .f32⟩
  | .hbm, ⟨27, _⟩ => ⟨S1024x1024, .f32⟩
  | .hbm, ⟨28, _⟩ => ⟨S1024x1024, .f32⟩
  | .hbm, ⟨29, _⟩ => ⟨S1x1024, .f32⟩
  | .hbm, ⟨30, _⟩ => ⟨S1024x1024, .f32⟩
  | .hbm, ⟨31, _⟩ => ⟨S1024x1024, .f32⟩
  | .hbm, ⟨32, _⟩ => ⟨S1024x4096, .f32⟩
  | .hbm, ⟨33, _⟩ => ⟨S_, .f32⟩
  | .hbm, ⟨34, _⟩ => ⟨S1024x4096, .f32⟩
  | .hbm, ⟨35, _⟩ => ⟨S1024x4096, .f32⟩
  | .hbm, ⟨36, _⟩ => ⟨S1024x4096, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S1024, .f32⟩
  | .hbm, ⟨42, _⟩ => ⟨S1024x1, .f32⟩
  | .hbm, ⟨43, _⟩ => ⟨S_, .f32⟩
  | .hbm, ⟨44, _⟩ => ⟨S1024x1, .f32⟩
  | .hbm, ⟨45, _⟩ => ⟨S1024x1, .f32⟩
  | .hbm, ⟨46, _⟩ => ⟨S_, .f32⟩
  | .hbm, ⟨47, _⟩ => ⟨S1024x1, .f32⟩
  | .hbm, ⟨48, _⟩ => ⟨S1024x1, .f32⟩
  | .hbm, ⟨49, _⟩ => ⟨S1024x1, .f32⟩
  | .hbm, ⟨50, _⟩ => ⟨S1024x1024, .f32⟩
  | .hbm, ⟨51, _⟩ => ⟨S1024x1024, .f32⟩
  | .hbm, ⟨52, _⟩ => ⟨S1x1024, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S1024x1024, .f32⟩
  | .hbm, ⟨58, _⟩ => ⟨S_, .f32⟩
  | .hbm, ⟨59, _⟩ => ⟨S1024x1024, .f32⟩
  | .hbm, ⟨60, _⟩ => ⟨S1024x1024, .f32⟩
  | .hbm, ⟨61, _⟩ => ⟨S_, .f32⟩
  | .hbm, ⟨62, _⟩ => ⟨S1024x1024, .f32⟩
  | .hbm, ⟨63, _⟩ => ⟨S1024x1024, .f32⟩
  | .hbm, ⟨64, _⟩ => ⟨S1024x1024, .f32⟩
  | .hbm, ⟨65, _⟩ => ⟨S1024x1024, .f32⟩
  | .hbm, ⟨66, _⟩ => ⟨S1024x1024, .f32⟩
  | .hbm, ⟨67, _⟩ => ⟨S1024x1024, .f32⟩
  | .hbm, ⟨68, _⟩ => ⟨S_, .f32⟩
  | .hbm, ⟨69, _⟩ => ⟨S1024, .f32⟩
  | .hbm, ⟨70, _⟩ => ⟨S1024x1, .f32⟩
  | .hbm, ⟨71, _⟩ => ⟨S_, .f32⟩
  | .hbm, ⟨72, _⟩ => ⟨S1024x1, .f32⟩
  | .hbm, ⟨73, _⟩ => ⟨S1024x1, .f32⟩
  | .hbm, ⟨74, _⟩ => ⟨S_, .f32⟩
  | .hbm, ⟨75, _⟩ => ⟨S1024x1, .f32⟩
  | .hbm, ⟨76, _⟩ => ⟨S1024x1, .f32⟩
  | .hbm, ⟨77, _⟩ => ⟨S1024x1, .f32⟩
  | .hbm, ⟨78, _⟩ => ⟨S1024x1024, .f32⟩
  | .hbm, ⟨79, _⟩ => ⟨S1024x1024, .f32⟩
  | .hbm, ⟨80, _⟩ => ⟨S1x1024, .f32⟩
  | .hbm, ⟨81, _⟩ => ⟨S1024x1024, .f32⟩
  | .hbm, ⟨82, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_cst : Ref sig .tc := ⟨.hbm, 33, rfl⟩
abbrev main_call0_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]
-- ==== Kernel6.lean ====
abbrev S1024x1024 : Shape := ⟨2, ![1024, 1024]⟩
abbrev S1024 : Shape := ⟨1, ![1024]⟩
abbrev S1024x3080 : Shape := ⟨2, ![1024, 3080]⟩
abbrev S512 : Shape := ⟨1, ![512]⟩
abbrev S4x128x128 : Shape := ⟨3, ![4, 128, 128]⟩
abbrev S4x128 : Shape := ⟨2, ![4, 128]⟩
abbrev S4 : Shape := ⟨1, ![4]⟩
abbrev S1024x3072 : Shape := ⟨2, ![1024, 3072]⟩
abbrev S1024x8 : Shape := ⟨2, ![1024, 8]⟩
abbrev S_ : Shape := ⟨0, ![]⟩
abbrev S1024x128 : Shape := ⟨2, ![1024, 128]⟩
abbrev S8x1024 : Shape := ⟨2, ![8, 1024]⟩
abbrev S16x1024 : Shape := ⟨2, ![16, 1024]⟩
abbrev S8 : Shape := ⟨1, ![8]⟩
abbrev S128 : Shape := ⟨1, ![128]⟩
abbrev S1x128 : Shape := ⟨2, ![1, 128]⟩
abbrev S16 : Shape := ⟨1, ![16]⟩
abbrev S16x1 : Shape := ⟨2, ![16, 1]⟩
abbrev S128x1 : Shape := ⟨2, ![128, 1]⟩
abbrev S128x128 : Shape := ⟨2, ![128, 128]⟩
abbrev S4x8x8 : Shape := ⟨3, ![4, 8, 8]⟩
abbrev S1x4x1x8x1x8 : Shape := ⟨6, ![1, 4, 1, 8, 1, 8]⟩
abbrev S1x4x16x8x16x8 : Shape := ⟨6, ![1, 4, 16, 8, 16, 8]⟩
abbrev S1x128x128 : Shape := ⟨3, ![1, 128, 128]⟩
abbrev S4x8 : Shape := ⟨2, ![4, 8]⟩
abbrev S1x4x1x8 : Shape := ⟨4, ![1, 4, 1, 8]⟩
abbrev S1x4x16x8 : Shape := ⟨4, ![1, 4, 16, 8]⟩
abbrev S4x128x1 : Shape := ⟨3, ![4, 128, 1]⟩
abbrev S1x1024 : Shape := ⟨2, ![1, 1024]⟩
abbrev S16x512 : Shape := ⟨2, ![16, 512]⟩
abbrev S1x512 : Shape := ⟨2, ![1, 512]⟩
abbrev S1024x512 : Shape := ⟨2, ![1024, 512]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩

abbrev nBuf : Space → Nat
  | .hbm => 105
  | .vmem => 28
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x3080, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S4, .f32⟩
  | .hbm, ⟨8, _⟩ => ⟨S4, .f32⟩
  | .hbm, ⟨9, _⟩ => ⟨S1024x3072, .f32⟩
  | .hbm, ⟨10, _⟩ => ⟨S1024x3072, .bf16⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S8x1024, .f32⟩
  | .hbm, ⟨17, _⟩ => ⟨S_, .i32⟩
  | .hbm, ⟨18, _⟩ => ⟨S_, .f32⟩
  | .hbm, ⟨19, _⟩ => ⟨S16x1024, .f32⟩
  | .hbm, ⟨20, _⟩ => ⟨S16x1024, .bf16⟩
  | .hbm, ⟨21, _⟩ => ⟨S8, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S_, .i32⟩
  | .hbm, ⟨27, _⟩ => ⟨S_, .f32⟩
  | .hbm, ⟨28, _⟩ => ⟨S16, .f32⟩
  | .hbm, ⟨29, _⟩ => ⟨S16x1, .f32⟩
  | .hbm, ⟨30, _⟩ => ⟨S128, .i32⟩
  | .hbm, ⟨31, _⟩ => ⟨S128x1, .i32⟩
  | .hbm, ⟨32, _⟩ => ⟨S128, .i32⟩
  | .hbm, ⟨33, _⟩ => ⟨S1x128, .i32⟩
  | .hbm, ⟨34, _⟩ => ⟨S_, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x1, .i32⟩
  | .hbm, ⟨39, _⟩ => ⟨S_, .i32⟩
  | .hbm, ⟨40, _⟩ => ⟨S128x1, .i32⟩
  | .hbm, ⟨41, _⟩ => ⟨S128x1, .i1⟩
  | .hbm, ⟨42, _⟩ => ⟨S128x1, .i32⟩
  | .hbm, ⟨43, _⟩ => ⟨S128x1, .i32⟩
  | .hbm, ⟨44, _⟩ => ⟨S_, .i32⟩
  | .hbm, ⟨45, _⟩ => ⟨S128x1, .i32⟩
  | .hbm, ⟨46, _⟩ => ⟨S128x1, .i1⟩
  | .hbm, ⟨47, _⟩ => ⟨S128x1, .i1⟩
  | .hbm, ⟨48, _⟩ => ⟨S_, .i32⟩
  | .hbm, ⟨49, _⟩ => ⟨S128x1, .i32⟩
  | .hbm, ⟨50, _⟩ => ⟨S128x1, .i32⟩
  | .hbm, ⟨51, _⟩ => ⟨S128x1, .i32⟩
  | .hbm, ⟨52, _⟩ => ⟨S_, .i32⟩
  | .hbm, ⟨53, _⟩ => ⟨S_, .i32⟩
  | .hbm, ⟨54, _⟩ => ⟨S1x128, .i32⟩
  | .hbm, ⟨55, _⟩ => ⟨S1x128, .i32⟩
  | .hbm, ⟨56, _⟩ => ⟨S1x128, .i32⟩
  | .hbm, ⟨57, _⟩ => ⟨S_, .i32⟩
  | .hbm, ⟨58, _⟩ => ⟨S1x128, .i32⟩
  | .hbm, ⟨59, _⟩ => ⟨S1x128, .i1⟩
  | .hbm, ⟨60, _⟩ => ⟨S1x128, .i32⟩
  | .hbm, ⟨61, _⟩ => ⟨S1x128, .i32⟩
  | .hbm, ⟨62, _⟩ => ⟨S_, .i32⟩
  | .hbm, ⟨63, _⟩ => ⟨S1x128, .i32⟩
  | .hbm, ⟨64, _⟩ => ⟨S1x128, .i1⟩
  | .hbm, ⟨65, _⟩ => ⟨S1x128, .i1⟩
  | .hbm, ⟨66, _⟩ => ⟨S_, .i32⟩
  | .hbm, ⟨67, _⟩ => ⟨S1x128, .i32⟩
  | .hbm, ⟨68, _⟩ => ⟨S1x128, .i32⟩
  | .hbm, ⟨69, _⟩ => ⟨S1x128, .i32⟩
  | .hbm, ⟨70, _⟩ => ⟨S128x128, .i32⟩
  | .hbm, ⟨71, _⟩ => ⟨S128x128, .i32⟩
  | .hbm, ⟨72, _⟩ => ⟨S128x128, .i1⟩
  | .hbm, ⟨73, _⟩ => ⟨S128x128, .i32⟩
  | .hbm, ⟨74, _⟩ => ⟨S128x128, .i32⟩
  | .hbm, ⟨75, _⟩ => ⟨S128x128, .i1⟩
  | .hbm, ⟨76, _⟩ => ⟨S128x128, .i1⟩
  | .hbm, ⟨77, _⟩ => ⟨S128x128, .bf16⟩
  | .hbm, ⟨78, _⟩ => ⟨S4x8x8, .f32⟩
  | .hbm, ⟨79, _⟩ => ⟨S1x4x1x8x1x8, .f32⟩
  | .hbm, ⟨80, _⟩ => ⟨S1x4x16x8x16x8, .f32⟩
  | .hbm, ⟨81, _⟩ => ⟨S4x128x128, .f32⟩
  | .hbm, ⟨82, _⟩ => ⟨S128x128, .f32⟩
  | .hbm, ⟨83, _⟩ => ⟨S1x128x128, .f32⟩
  | .hbm, ⟨84, _⟩ => ⟨S4x128x128, .f32⟩
  | .hbm, ⟨85, _⟩ => ⟨S4x128x128, .f32⟩
  | .hbm, ⟨86, _⟩ => ⟨S4x128x128, .bf16⟩
  | .hbm, ⟨87, _⟩ => ⟨S4x8, .f32⟩
  | .hbm, ⟨88, _⟩ => ⟨S1x4x1x8, .f32⟩
  | .hbm, ⟨89, _⟩ => ⟨S1x4x16x8, .f32⟩
  | .hbm, ⟨90, _⟩ => ⟨S4x128, .f32⟩
  | .hbm, ⟨91, _⟩ => ⟨S4x128x1, .f32⟩
  | .hbm, ⟨92, _⟩ => ⟨S4x128x128, .f32⟩
  | .hbm, ⟨93, _⟩ => ⟨S1x1024, .f32⟩
  | .hbm, ⟨94, _⟩ => ⟨S16x512, .f32⟩
  | .hbm, ⟨95, _⟩ => ⟨S1x512, .f32⟩
  | .hbm, ⟨96, _⟩ => ⟨S1x512, .f32⟩
  | .hbm, ⟨97, _⟩ => ⟨S1024x512, .bf16⟩
  | .hbm, ⟨98, _⟩ => ⟨S1024x512, .bf16⟩
  | .hbm, ⟨99, _⟩ => ⟨S1024x512, .bf16⟩
  | .hbm, ⟨100, _⟩ => ⟨S1024x512, .bf16⟩
  | .hbm, ⟨101, _⟩ => ⟨S1024x512, .f32⟩
  | .hbm, ⟨102, _⟩ => ⟨S1024x128, .f32⟩
  | .hbm, ⟨103, _⟩ => ⟨S16x1024, .f32⟩
  | .hbm, ⟨104, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S16x1024, .bf16⟩
  | .local _ .vmem, ⟨6, _⟩ => ⟨S1x128, .f32⟩
  | .local _ .vmem, ⟨7, _⟩ => ⟨S16x512, .f32⟩
  | .local _ .vmem, ⟨8, _⟩ => ⟨S1x512, .f32⟩
  | .local _ .vmem, ⟨9, _⟩ => ⟨S1x512, .f32⟩
  | .local _ .vmem, ⟨10, _⟩ => ⟨S4x128x128, .bf16⟩
  | .local _ .vmem, ⟨11, _⟩ => ⟨S4x128x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | .local _ .vmem, ⟨22, _⟩ => ⟨S512x128, .f32⟩
  | .local _ .vmem, ⟨23, _⟩ => ⟨S512x128, .f32⟩
  | .local _ .vmem, ⟨24, _⟩ => ⟨S16x512, .f32⟩
  | .local _ .vmem, ⟨25, _⟩ => ⟨S16x512, .f32⟩
  | .local _ .vmem, ⟨26, _⟩ => ⟨S512x512, .f32⟩
  | .local _ .vmem, ⟨27, _⟩ => ⟨S512x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_call2_v0 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_call3_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_call4_v0 : Ref sig .tc := ⟨.hbm, 35, rfl⟩
abbrev main_call4_v1 : Ref sig .tc := ⟨.hbm, 36, rfl⟩
abbrev main_call4_v2 : Ref sig .tc := ⟨.hbm, 37, rfl⟩
abbrev main_call4_v3 : Ref sig .tc := ⟨.hbm, 38, rfl⟩
abbrev main_call4_v4 : Ref sig .tc := ⟨.hbm, 39, rfl⟩
abbrev main_call4_v5 : Ref sig .tc := ⟨.hbm, 40, rfl⟩
abbrev main_call4_v6 : Ref sig .tc := ⟨.hbm, 41, rfl⟩
abbrev main_call4_v7 : Ref sig .tc := ⟨.hbm, 42, rfl⟩
abbrev main_call4_v8 : Ref sig .tc := ⟨.hbm, 43, rfl⟩
abbrev main_call4_c : Ref sig .tc := ⟨.hbm, 44, rfl⟩
abbrev main_call4_v9 : Ref sig .tc := ⟨.hbm, 45, rfl⟩
abbrev main_call4_v10 : Ref sig .tc := ⟨.hbm, 46, rfl⟩
abbrev main_call4_v11 : Ref sig .tc := ⟨.hbm, 47, rfl⟩
abbrev main_call4_c_0 : Ref sig .tc := ⟨.hbm, 48, rfl⟩
abbrev main_call4_v12 : Ref sig .tc := ⟨.hbm, 49, rfl⟩
abbrev main_call4_v13 : Ref sig .tc := ⟨.hbm, 50, rfl⟩
abbrev main_v17 : Ref sig .tc := ⟨.hbm, 51, rfl⟩
abbrev main_c_4 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_call5_v5 : Ref sig .tc := ⟨.hbm, 58, rfl⟩
abbrev main_call5_v6 : Ref sig .tc := ⟨.hbm, 59, rfl⟩
abbrev main_call5_v7 : Ref sig .tc := ⟨.hbm, 60, rfl⟩
abbrev main_call5_v8 : Ref sig .tc := ⟨.hbm, 61, rfl⟩
abbrev main_call5_c : Ref sig .tc := ⟨.hbm, 62, rfl⟩
abbrev main_call5_v9 : Ref sig .tc := ⟨.hbm, 63, rfl⟩
abbrev main_call5_v10 : Ref sig .tc := ⟨.hbm, 64, rfl⟩
abbrev main_call5_v11 : Ref sig .tc := ⟨.hbm, 65, rfl⟩
abbrev main_call5_c_0 : Ref sig .tc := ⟨.hbm, 66, rfl⟩
abbrev main_call5_v12 : Ref sig .tc := ⟨.hbm, 67, rfl⟩
abbrev main_call5_v13 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46_0 : Ref sig .tc := ⟨.hbm, 97, rfl⟩
abbrev main_v46_1 : Ref sig .tc := ⟨.hbm, 98, rfl⟩
abbrev main_v46_2 : Ref sig .tc := ⟨.hbm, 99, rfl⟩
abbrev main_v46_3 : Ref sig .tc := ⟨.hbm, 100, rfl⟩
abbrev main_v46_4 : Ref sig .tc := ⟨.hbm, 101, rfl⟩
abbrev main_v46_5 : Ref sig .tc := ⟨.hbm, 102, rfl⟩
abbrev main_v46_6 : Ref sig .tc := ⟨.hbm, 103, rfl⟩
abbrev main_v46_7 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference6Ideal.lean ====
abbrev S1024x1024 : Shape := ⟨2, ![1024, 1024]⟩
abbrev S1024 : Shape := ⟨1, ![1024]⟩
abbrev S1024x3080 : Shape := ⟨2, ![1024, 3080]⟩
abbrev S512 : Shape := ⟨1, ![512]⟩
abbrev S4x128x128 : Shape := ⟨3, ![4, 128, 128]⟩
abbrev S4x128 : Shape := ⟨2, ![4, 128]⟩
abbrev S4 : Shape := ⟨1, ![4]⟩
abbrev S_ : Shape := ⟨0, ![]⟩
abbrev S1024x1 : Shape := ⟨2, ![1024, 1]⟩
abbrev S1x1024 : Shape := ⟨2, ![1, 1024]⟩
abbrev S1024x512 : Shape := ⟨2, ![1024, 512]⟩
abbrev S1024x4 : Shape := ⟨2, ![1024, 4]⟩
abbrev S1x512 : Shape := ⟨2, ![1, 512]⟩
abbrev S128x8x4x128 : Shape := ⟨4, ![128, 8, 4, 128]⟩
abbrev S4x8x8 : Shape := ⟨3, ![4, 8, 8]⟩
abbrev S8x8 : Shape := ⟨2, ![8, 8]⟩
abbrev S4x128x128x8 : Shape := ⟨4, ![4, 128, 128, 8]⟩
abbrev S4x8 : Shape := ⟨2, ![4, 8]⟩
abbrev S8x4 : Shape := ⟨2, ![8, 4]⟩
abbrev S1x8x4x1 : Shape := ⟨4, ![1, 8, 4, 1]⟩
abbrev S1x4 : Shape := ⟨2, ![1, 4]⟩
abbrev S1024x120 : Shape := ⟨2, ![1024, 120]⟩
abbrev S1024x128 : Shape := ⟨2, ![1024, 128]⟩
abbrev S1024x16 : Shape := ⟨2, ![1024, 16]⟩
abbrev S16x1024 : Shape := ⟨2, ![16, 1024]⟩

abbrev nBuf : Space → Nat
  | .hbm => 181
  | .vmem => 0
  | .smem => 0
  | _ => 0

abbrev hbmTy0_0 (i : Nat) : BufTy := match i % 128 with
  | 0 => ⟨S1024x1024, .f32⟩
  | 1 => ⟨S1024, .f32⟩
  | 2 => ⟨S1024x3080, .f32⟩
  | 3 => ⟨S512, .f32⟩
  | 4 => ⟨S512, .f32⟩
  | 5 => ⟨S4x128x128, .f32⟩
  | 6 => ⟨S4x128, .f32⟩
  | 7 => ⟨S4, .f32⟩
  | 8 => ⟨S4, .f32⟩
  | 9 => ⟨S1024x1024, .f32⟩
  | 10 => ⟨S_, .f32⟩
  | 11 => ⟨S1024, .f32⟩
  | 12 => ⟨S1024x1, .f32⟩
  | 13 => ⟨S_, .f32⟩
  | 14 => ⟨S1024x1, .f32⟩
  | 15 => ⟨S1024x1, .f32⟩
  | 16 => ⟨S_, .f32⟩
  | 17 => ⟨S1024x1, .f32⟩
  | 18 => ⟨S1024x1, .f32⟩
  | 19 => ⟨S1024x1, .f32⟩
  | 20 => ⟨S1024x1024, .f32⟩
  | 21 => ⟨S1024x1024, .f32⟩
  | 22 => ⟨S1x1024, .f32⟩
  | 23 => ⟨S1024x1024, .f32⟩
  | 24 => ⟨S1024x1024, .f32⟩
  | 25 => ⟨S1024x3080, .f32⟩
  | 26 => ⟨S1024x512, .f32⟩
  | 27 => ⟨S1024x512, .f32⟩
  | 28 => ⟨S1024x512, .f32⟩
  | 29 => ⟨S1024x512, .f32⟩
  | 30 => ⟨S1024x512, .f32⟩
  | 31 => ⟨S1024x512, .f32⟩
  | 32 => ⟨S1024x4, .f32⟩
  | 33 => ⟨S1024x4, .f32⟩
  | 34 => ⟨S1024x512, .f32⟩
  | 35 => ⟨S1024x512, .f32⟩
  | 36 => ⟨S_, .f32⟩
  | 37 => ⟨S1024x512, .f32⟩
  | 38 => ⟨S1024x512, .f32⟩
  | 39 => ⟨S1024x512, .f32⟩
  | 40 => ⟨S_, .f32⟩
  | 41 => ⟨S1024x512, .f32⟩
  | 42 => ⟨S1024x512, .f32⟩
  | 43 => ⟨S1024x512, .f32⟩
  | 44 => ⟨S_, .f32⟩
  | 45 => ⟨S1024x512, .f32⟩
  | 46 => ⟨S1024x512, .f32⟩
  | 47 => ⟨S_, .f32⟩
  | 48 => ⟨S1024x512, .f32⟩
  | 49 => ⟨S1024x512, .f32⟩
  | 50 => ⟨S1024x512, .f32⟩
  | 51 => ⟨S1024x512, .f32⟩
  | 52 => ⟨S1024x512, .f32⟩
  | 53 => ⟨S_, .f32⟩
  | 54 => ⟨S1024x512, .f32⟩
  | 55 => ⟨S1024x512, .f32⟩
  | 56 => ⟨S1024x512, .f32⟩
  | 57 => ⟨S_, .f32⟩
  | 58 => ⟨S1024x512, .f32⟩
  | 59 => ⟨S1024x512, .f32⟩
  | 60 => ⟨S1024x512, .f32⟩
  | 61 => ⟨S_, .f32⟩
  | 62 => ⟨S1024x512, .f32⟩
  | 63 => ⟨S1024x512, .f32⟩
  | 64 => ⟨S_, .f32⟩
  | 65 => ⟨S1024x512, .f32⟩
  | 66 => ⟨S1024x512, .f32⟩
  | 67 => ⟨S1024x512, .f32⟩
  | 68 => ⟨S_, .f32⟩
  | 69 => ⟨S1024, .f32⟩
  | 70 => ⟨S1024x1, .f32⟩
  | 71 => ⟨S_, .f32⟩
  | 72 => ⟨S1024x1, .f32⟩
  | 73 => ⟨S1024x1, .f32⟩
  | 74 => ⟨S1024x512, .f32⟩
  | 75 => ⟨S1024x512, .f32⟩
  | 76 => ⟨S1024x512, .f32⟩
  | 77 => ⟨S_, .f32⟩
  | 78 => ⟨S1024, .f32⟩
  | 79 => ⟨S1024x1, .f32⟩
  | 80 => ⟨S_, .f32⟩
  | 81 => ⟨S1024x1, .f32⟩
  | 82 => ⟨S1024x1, .f32⟩
  | 83 => ⟨S1024x512, .f32⟩
  | 84 => ⟨S1024x512, .f32⟩
  | 85 => ⟨S_, .f32⟩
  | 86 => ⟨S1024x1, .f32⟩
  | 87 => ⟨S1024x1, .f32⟩
  | 88 => ⟨S1024x1, .f32⟩
  | 89 => ⟨S1024x512, .f32⟩
  | 90 => ⟨S1024x512, .f32⟩
  | 91 => ⟨S1x512, .f32⟩
  | 92 => ⟨S1024x512, .f32⟩
  | 93 => ⟨S1024x512, .f32⟩
  | 94 => ⟨S1x512, .f32⟩
  | 95 => ⟨S1024x512, .f32⟩
  | 96 => ⟨S1024x512, .f32⟩
  | 97 => ⟨S128x8x4x128, .f32⟩
  | 98 => ⟨S4x8x8, .f32⟩
  | 99 => ⟨S_, .i1⟩
  | 100 => ⟨S8x8, .i1⟩
  | 101 => ⟨S8x8, .i32⟩
  | 102 => ⟨S_, .i32⟩
  | 103 => ⟨S8x8, .i32⟩
  | 104 => ⟨S8x8, .i32⟩
  | 105 => ⟨S8x8, .i32⟩
  | 106 => ⟨S8x8, .i1⟩
  | 107 => ⟨S_, .i1⟩
  | 108 => ⟨S8x8, .i1⟩
  | 109 => ⟨S8x8, .i1⟩
  | 110 => ⟨S_, .f32⟩
  | 111 => ⟨S4x8x8, .f32⟩
  | 112 => ⟨S4x8x8, .i1⟩
  | 113 => ⟨S4x8x8, .f32⟩
  | 114 => ⟨S4x128x128x8, .f32⟩
  | 115 => ⟨S128x8x4x128, .f32⟩
  | 116 => ⟨S4x8, .f32⟩
  | 117 => ⟨S8x4, .f32⟩
  | 118 => ⟨S1x8x4x1, .f32⟩
  | 119 => ⟨S128x8x4x128, .f32⟩
  | 120 => ⟨S128x8x4x128, .f32⟩
  | 121 => ⟨S1024x512, .f32⟩
  | 122 => ⟨S1024x512, .f32⟩
  | 123 => ⟨S1x4, .f32⟩
  | 124 => ⟨S1024x4, .f32⟩
  | 125 => ⟨S1024x4, .f32⟩
  | 126 => ⟨S1x4, .f32⟩
  | 127 => ⟨S1024x4, .f32⟩
  | _ => ⟨S1024x1024, .f32⟩

abbrev hbmTy0_1 (i : Nat) : BufTy := match i % 128 with
  | 0 => ⟨S1024x4, .f32⟩
  | 1 => ⟨S1024x4, .f32⟩
  | 2 => ⟨S_, .f32⟩
  | 3 => ⟨S1024x4, .f32⟩
  | 4 => ⟨S1024x4, .f32⟩
  | 5 => ⟨S1024x4, .f32⟩
  | 6 => ⟨S1024x4, .f32⟩
  | 7 => ⟨S1024x4, .i1⟩
  | 8 => ⟨S1024x4, .f32⟩
  | 9 => ⟨S1024x4, .f32⟩
  | 10 => ⟨S1024x4, .f32⟩
  | 11 => ⟨S1024x4, .f32⟩
  | 12 => ⟨S1024x4, .f32⟩
  | 13 => ⟨S1024x4, .f32⟩
  | 14 => ⟨S1024x4, .f32⟩
  | 15 => ⟨S1024x4, .f32⟩
  | 16 => ⟨S1024x4, .f32⟩
  | 17 => ⟨S_, .f32⟩
  | 18 => ⟨S1024x120, .f32⟩
  | 19 => ⟨S1024x120, .f32⟩
  | 20 => ⟨S_, .f32⟩
  | 21 => ⟨S1024x120, .f32⟩
  | 22 => ⟨S1024x120, .f32⟩
  | 23 => ⟨S1024x120, .f32⟩
  | 24 => ⟨S1024x120, .f32⟩
  | 25 => ⟨S1024x120, .i1⟩
  | 26 => ⟨S1024x120, .f32⟩
  | 27 => ⟨S1024x120, .f32⟩
  | 28 => ⟨S1024x120, .f32⟩
  | 29 => ⟨S1024x120, .f32⟩
  | 30 => ⟨S1024x120, .f32⟩
  | 31 => ⟨S1024x120, .f32⟩
  | 32 => ⟨S1024x120, .f32⟩
  | 33 => ⟨S1024x120, .f32⟩
  | 34 => ⟨S1024x120, .f32⟩
  | 35 => ⟨S1024x128, .f32⟩
  | 36 => ⟨S1024x512, .bf16⟩
  | 37 => ⟨S1024x512, .bf16⟩
  | 38 => ⟨S_, .f32⟩
  | 39 => ⟨S1024x512, .f32⟩
  | 40 => ⟨S1024x512, .f32⟩
  | 41 => ⟨S1024x512, .bf16⟩
  | 42 => ⟨S1024x512, .bf16⟩
  | 43 => ⟨S1024x512, .f32⟩
  | 44 => ⟨S1024x512, .f32⟩
  | 45 => ⟨S_, .f32⟩
  | 46 => ⟨S1024x512, .f32⟩
  | 47 => ⟨S1024x512, .f32⟩
  | 48 => ⟨S_, .f32⟩
  | 49 => ⟨S1024x512, .f32⟩
  | 50 => ⟨S1024x512, .f32⟩
  | 51 => ⟨S1024x16, .f32⟩
  | 52 => ⟨S16x1024, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c : Ref sig .tc := ⟨.hbm, 99, rfl⟩
abbrev main_v74 : Ref sig .tc := ⟨.hbm, 100, rfl⟩
abbrev main_call0_v0 : Ref sig .tc := ⟨.hbm, 101, rfl⟩
abbrev main_call0_c : Ref sig .tc := ⟨.hbm, 102, rfl⟩
abbrev main_call0_v1 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_c_0 : Ref sig .tc := ⟨.hbm, 107, rfl⟩
abbrev main_call0_v5 : Ref sig .tc := ⟨.hbm, 108, rfl⟩
abbrev main_v75 : Ref sig .tc := ⟨.hbm, 109, rfl⟩
abbrev main_cst_15 : Ref sig .tc := ⟨.hbm, 110, rfl⟩
abbrev main_v76 : Ref sig .tc := ⟨.hbm, 111, rfl⟩
abbrev main_call1_v0 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_call2_v0 : Ref sig .tc := ⟨.hbm, 129, rfl⟩
abbrev main_call2_call0_cst : Ref sig .tc := ⟨.hbm, 130, rfl⟩
abbrev main_call2_call0_v0 : Ref sig .tc := ⟨.hbm, 131, rfl⟩
abbrev main_call2_call0_v1 : Ref sig .tc := ⟨.hbm, 132, rfl⟩
abbrev main_call2_call0_v2 : Ref sig .tc := ⟨.hbm, 133, rfl⟩
abbrev main_call2_call0_v3 : Ref sig .tc := ⟨.hbm, 134, rfl⟩
abbrev main_call2_call0_v4 : Ref sig .tc := ⟨.hbm, 135, rfl⟩
abbrev main_call2_call0_v5 : Ref sig .tc := ⟨.hbm, 136, rfl⟩
abbrev main_call2_call0_v6 : Ref sig .tc := ⟨.hbm, 137, rfl⟩
abbrev main_call2_call0_v7 : Ref sig .tc := ⟨.hbm, 138, rfl⟩
abbrev main_call2_call0_v8 : Ref sig .tc := ⟨.hbm, 139, rfl⟩
abbrev main_call2_call0_v9 : Ref sig .tc := ⟨.hbm, 140, rfl⟩
abbrev main_call2_call0_v10 : Ref sig .tc := ⟨.hbm, 141, rfl⟩
abbrev main_call2_call0_v11 : Ref sig .tc := ⟨.hbm, 142, rfl⟩
abbrev main_call2_v1 : Ref sig .tc := ⟨.hbm, 143, rfl⟩
abbrev main_v93 : Ref sig .tc := ⟨.hbm, 144, rfl⟩
abbrev main_cst_16 : Ref sig .tc := ⟨.hbm, 145, rfl⟩
abbrev main_v94 : Ref sig .tc := ⟨.hbm, 146, rfl⟩
abbrev main_call3_v0 : Ref sig .tc := ⟨.hbm, 147, rfl⟩
abbrev main_call3_call0_cst : Ref sig .tc := ⟨.hbm, 148, rfl⟩
abbrev main_call3_call0_v0 : Ref sig .tc := ⟨.hbm, 149, rfl⟩
abbrev main_call3_call0_v1 : Ref sig .tc := ⟨.hbm, 150, rfl⟩
abbrev main_call3_call0_v2 : Ref sig .tc := ⟨.hbm, 151, rfl⟩
abbrev main_call3_call0_v3 : Ref sig .tc := ⟨.hbm, 152, rfl⟩
abbrev main_call3_call0_v4 : Ref sig .tc := ⟨.hbm, 153, rfl⟩
abbrev main_call3_call0_v5 : Ref sig .tc := ⟨.hbm, 154, rfl⟩
abbrev main_call3_call0_v6 : Ref sig .tc := ⟨.hbm, 155, rfl⟩
abbrev main_call3_call0_v7 : Ref sig .tc := ⟨.hbm, 156, rfl⟩
abbrev main_call3_call0_v8 : Ref sig .tc := ⟨.hbm, 157, rfl⟩
abbrev main_call3_call0_v9 : Ref sig .tc := ⟨.hbm, 158, rfl⟩
abbrev main_call3_call0_v10 : Ref sig .tc := ⟨.hbm, 159, rfl⟩
abbrev main_call3_call0_v11 : Ref sig .tc := ⟨.hbm, 160, rfl⟩
abbrev main_call3_v1 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_cst_17 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_cst_18 : Ref sig .tc := ⟨.hbm, 173, rfl⟩
abbrev main_v105 : Ref sig .tc := ⟨.hbm, 174, rfl⟩
abbrev main_v106 : Ref sig .tc := ⟨.hbm, 175, rfl⟩
abbrev main_cst_19 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩

abbrev nD : Nat := 1
abbrev τ : Topo := Topo.v7x

variable {F : FTy → Type} [FloatOps F]
-- ==== Kernel7.lean ====
abbrev S1024x512 : Shape := ⟨2, ![1024, 512]⟩
abbrev S1024x128 : Shape := ⟨2, ![1024, 128]⟩
abbrev S16x1024 : Shape := ⟨2, ![16, 1024]⟩
abbrev S128x4x128x128 : Shape := ⟨4, ![128, 4, 128, 128]⟩
abbrev S128x4x128 : Shape := ⟨3, ![128, 4, 128]⟩
abbrev S128x4 : Shape := ⟨2, ![128, 4]⟩
abbrev S1x512 : Shape := ⟨2, ![1, 512]⟩
abbrev S128 : Shape := ⟨1, ![128]⟩
abbrev S128x1 : Shape := ⟨2, ![128, 1]⟩
abbrev S1x128 : Shape := ⟨2, ![1, 128]⟩
abbrev S_ : Shape := ⟨0, ![]⟩
abbrev S128x128 : Shape := ⟨2, ![128, 128]⟩
abbrev S16 : Shape := ⟨1, ![16]⟩
abbrev S1x16 : Shape := ⟨2, ![1, 16]⟩
abbrev S128x16 : Shape := ⟨2, ![128, 16]⟩
abbrev S16x1 : Shape := ⟨2, ![16, 1]⟩
abbrev S16x128 : Shape := ⟨2, ![16, 128]⟩
abbrev S128x8x4 : Shape := ⟨3, ![128, 8, 4]⟩
abbrev S1024x4 : Shape := ⟨2, ![1024, 4]⟩
abbrev S128x512 : Shape := ⟨2, ![128, 512]⟩
abbrev S16x4x128x128 : Shape := ⟨4, ![16, 4, 128, 128]⟩
abbrev S16x4x128 : Shape := ⟨3, ![16, 4, 128]⟩
abbrev S16x1x128x128 : Shape := ⟨4, ![16, 1, 128, 128]⟩
abbrev S16x128x128 : Shape := ⟨3, ![16, 128, 128]⟩
abbrev S2048x128 : Shape := ⟨2, ![2048, 128]⟩
abbrev S128x2048 : Shape := ⟨2, ![128, 2048]⟩
abbrev S16x1x128 : Shape := ⟨3, ![16, 1, 128]⟩
abbrev S1x1 : Shape := ⟨2, ![1, 1]⟩
abbrev S1x128x128 : Shape := ⟨3, ![1, 128, 128]⟩
abbrev S1x1x128x128 : Shape := ⟨4, ![1, 1, 128, 128]⟩

abbrev nBuf : Space → Nat
  | .hbm => 163
  | .vmem => 33
  | .smem => 0
  | _ => 0

abbrev hbmTy0_0 (i : Nat) : BufTy := match i % 128 with
  | 0 => ⟨S1024x512, .bf16⟩
  | 1 => ⟨S1024x512, .bf16⟩
  | 2 => ⟨S1024x512, .bf16⟩
  | 3 => ⟨S1024x512, .f32⟩
  | 4 => ⟨S1024x128, .f32⟩
  | 5 => ⟨S16x1024, .f32⟩
  | 6 => ⟨S128x4x128x128, .f32⟩
  | 7 => ⟨S128x4x128, .f32⟩
  | 8 => ⟨S128x4, .f32⟩
  | 9 => ⟨S1x512, .f32⟩
  | 10 => ⟨S128, .i32⟩
  | 11 => ⟨S128x1, .i32⟩
  | 12 => ⟨S128, .i32⟩
  | 13 => ⟨S1x128, .i32⟩
  | 14 => ⟨S_, .i32⟩
  | 15 => ⟨S_, .i32⟩
  | 16 => ⟨S128x1, .i32⟩
  | 17 => ⟨S128x1, .i32⟩
  | 18 => ⟨S128x1, .i32⟩
  | 19 => ⟨S_, .i32⟩
  | 20 => ⟨S128x1, .i32⟩
  | 21 => ⟨S128x1, .i1⟩
  | 22 => ⟨S128x1, .i32⟩
  | 23 => ⟨S128x1, .i32⟩
  | 24 => ⟨S_, .i32⟩
  | 25 => ⟨S128x1, .i32⟩
  | 26 => ⟨S128x1, .i1⟩
  | 27 => ⟨S128x1, .i1⟩
  | 28 => ⟨S_, .i32⟩
  | 29 => ⟨S128x1, .i32⟩
  | 30 => ⟨S128x1, .i32⟩
  | 31 => ⟨S128x1, .i32⟩
  | 32 => ⟨S_, .i32⟩
  | 33 => ⟨S_, .i32⟩
  | 34 => ⟨S1x128, .i32⟩
  | 35 => ⟨S1x128, .i32⟩
  | 36 => ⟨S1x128, .i32⟩
  | 37 => ⟨S_, .i32⟩
  | 38 => ⟨S1x128, .i32⟩
  | 39 => ⟨S1x128, .i1⟩
  | 40 => ⟨S1x128, .i32⟩
  | 41 => ⟨S1x128, .i32⟩
  | 42 => ⟨S_, .i32⟩
  | 43 => ⟨S1x128, .i32⟩
  | 44 => ⟨S1x128, .i1⟩
  | 45 => ⟨S1x128, .i1⟩
  | 46 => ⟨S_, .i32⟩
  | 47 => ⟨S1x128, .i32⟩
  | 48 => ⟨S1x128, .i32⟩
  | 49 => ⟨S1x128, .i32⟩
  | 50 => ⟨S128x128, .i32⟩
  | 51 => ⟨S128x128, .i32⟩
  | 52 => ⟨S128x128, .i1⟩
  | 53 => ⟨S128x128, .i32⟩
  | 54 => ⟨S128x128, .i32⟩
  | 55 => ⟨S128x128, .i1⟩
  | 56 => ⟨S128x128, .i1⟩
  | 57 => ⟨S128x128, .bf16⟩
  | 58 => ⟨S128, .i32⟩
  | 59 => ⟨S16, .i32⟩
  | 60 => ⟨S1x128, .i32⟩
  | 61 => ⟨S128x1, .i32⟩
  | 62 => ⟨S_, .i32⟩
  | 63 => ⟨S_, .i32⟩
  | 64 => ⟨S128x1, .i32⟩
  | 65 => ⟨S128x1, .i32⟩
  | 66 => ⟨S128x1, .i32⟩
  | 67 => ⟨S_, .i32⟩
  | 68 => ⟨S128x1, .i32⟩
  | 69 => ⟨S128x1, .i1⟩
  | 70 => ⟨S128x1, .i32⟩
  | 71 => ⟨S128x1, .i32⟩
  | 72 => ⟨S_, .i32⟩
  | 73 => ⟨S128x1, .i32⟩
  | 74 => ⟨S128x1, .i1⟩
  | 75 => ⟨S128x1, .i1⟩
  | 76 => ⟨S_, .i32⟩
  | 77 => ⟨S128x1, .i32⟩
  | 78 => ⟨S128x1, .i32⟩
  | 79 => ⟨S128x1, .i32⟩
  | 80 => ⟨S_, .i32⟩
  | 81 => ⟨S128x1, .i32⟩
  | 82 => ⟨S128x1, .i32⟩
  | 83 => ⟨S_, .i32⟩
  | 84 => ⟨S128x1, .i32⟩
  | 85 => ⟨S128x1, .i32⟩
  | 86 => ⟨S_, .i32⟩
  | 87 => ⟨S128x1, .i32⟩
  | 88 => ⟨S128x1, .i32⟩
  | 89 => ⟨S128x128, .i32⟩
  | 90 => ⟨S128x128, .i32⟩
  | 91 => ⟨S128x128, .i1⟩
  | 92 => ⟨S128x128, .bf16⟩
  | 93 => ⟨S128x1, .i32⟩
  | 94 => ⟨S_, .i32⟩
  | 95 => ⟨S_, .i32⟩
  | 96 => ⟨S128x1, .i32⟩
  | 97 => ⟨S128x1, .i32⟩
  | 98 => ⟨S128x1, .i32⟩
  | 99 => ⟨S_, .i32⟩
  | 100 => ⟨S128x1, .i32⟩
  | 101 => ⟨S128x1, .i1⟩
  | 102 => ⟨S128x1, .i32⟩
  | 103 => ⟨S128x1, .i32⟩
  | 104 => ⟨S_, .i32⟩
  | 105 => ⟨S128x1, .i32⟩
  | 106 => ⟨S128x1, .i1⟩
  | 107 => ⟨S128x1, .i1⟩
  | 108 => ⟨S_, .i32⟩
  | 109 => ⟨S128x1, .i32⟩
  | 110 => ⟨S128x1, .i32⟩
  | 111 => ⟨S128x1, .i32⟩
  | 112 => ⟨S1x16, .i32⟩
  | 113 => ⟨S128x16, .i32⟩
  | 114 => ⟨S128x16, .i32⟩
  | 115 => ⟨S128x16, .i1⟩
  | 116 => ⟨S128x16, .bf16⟩
  | 117 => ⟨S1x128, .i32⟩
  | 118 => ⟨S16x1, .i32⟩
  | 119 => ⟨S_, .i32⟩
  | 120 => ⟨S16x1, .i32⟩
  | 121 => ⟨S16x1, .i32⟩
  | 122 => ⟨S_, .i32⟩
  | 123 => ⟨S16x1, .i32⟩
  | 124 => ⟨S16x1, .i32⟩
  | 125 => ⟨S_, .i32⟩
  | 126 => ⟨S16x1, .i32⟩
  | 127 => ⟨S16x1, .i32⟩
  | _ => ⟨S1024x512, .bf16⟩

abbrev hbmTy0_1 (i : Nat) : BufTy := match i % 128 with
  | 0 => ⟨S16x128, .i32⟩
  | 1 => ⟨S16x128, .i32⟩
  | 2 => ⟨S16x128, .i1⟩
  | 3 => ⟨S16x128, .bf16⟩
  | 4 => ⟨S1x128, .i32⟩
  | 5 => ⟨S_, .i32⟩
  | 6 => ⟨S_, .i32⟩
  | 7 => ⟨S1x128, .i32⟩
  | 8 => ⟨S1x128, .i32⟩
  | 9 => ⟨S1x128, .i32⟩
  | 10 => ⟨S_, .i32⟩
  | 11 => ⟨S1x128, .i32⟩
  | 12 => ⟨S1x128, .i1⟩
  | 13 => ⟨S1x128, .i32⟩
  | 14 => ⟨S1x128, .i32⟩
  | 15 => ⟨S_, .i32⟩
  | 16 => ⟨S1x128, .i32⟩
  | 17 => ⟨S1x128, .i1⟩
  | 18 => ⟨S1x128, .i1⟩
  | 19 => ⟨S_, .i32⟩
  | 20 => ⟨S1x128, .i32⟩
  | 21 => ⟨S1x128, .i32⟩
  | 22 => ⟨S1x128, .i32⟩
  | 23 => ⟨S16x1, .i32⟩
  | 24 => ⟨S16x128, .i32⟩
  | 25 => ⟨S16x128, .i32⟩
  | 26 => ⟨S16x128, .i1⟩
  | 27 => ⟨S16x128, .bf16⟩
  | 28 => ⟨S128x8x4, .f32⟩
  | 29 => ⟨S1024x4, .f32⟩
  | 30 => ⟨S128x128, .bf16⟩
  | 31 => ⟨S1024x512, .bf16⟩
  | 32 => ⟨S128x4x128x128, .f32⟩
  | 33 => ⟨S128x4x128, .f32⟩
  | 34 => ⟨S128x4x128, .f32⟩
  | _ => ⟨S1024x512, .bf16⟩

abbrev hbmTy (i : Nat) : BufTy := match i / 128 with
  | 0 => hbmTy0_0 i
  | 1 => hbmTy0_1 i
  | _ => ⟨S1024x512, .bf16⟩

abbrev bufTy : (tb : Table) → Fin (tcTables nBuf tb) → BufTy
  | .hbm, ⟨i, _⟩ => hbmTy i
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x128, .f32⟩
  | .local _ .vmem, ⟨10, _⟩ => ⟨S16x128, .f32⟩
  | .local _ .vmem, ⟨11, _⟩ => ⟨S16x128, .f32⟩
  | .local _ .vmem, ⟨12, _⟩ => ⟨S128x4, .f32⟩
  | .local _ .vmem, ⟨13, _⟩ => ⟨S128x4, .f32⟩
  | .local _ .vmem, ⟨14, _⟩ => ⟨S16x4x128x128, .f32⟩
  | .local _ .vmem, ⟨15, _⟩ => ⟨S16x4x128x128, .f32⟩
  | .local _ .vmem, ⟨16, _⟩ => ⟨S16x4x128, .f32⟩
  | .local _ .vmem, ⟨17, _⟩ => ⟨S16x4x128, .f32⟩
  | .local _ .vmem, ⟨18, _⟩ => ⟨S1x512, .f32⟩
  | .local _ .vmem, ⟨19, _⟩ => ⟨S128x128, .bf16⟩
  | .local _ .vmem, ⟨20, _⟩ => ⟨S128x128, .bf16⟩
  | .local _ .vmem, ⟨21, _⟩ => ⟨S128x128, .bf16⟩
  | .local _ .vmem, ⟨22, _⟩ => ⟨S128x16, .bf16⟩
  | .local _ .vmem, ⟨23, _⟩ => ⟨S16x128, .bf16⟩
  | .local _ .vmem, ⟨24, _⟩ => ⟨S16x128, .bf16⟩
  | .local _ .vmem, ⟨25, _⟩ => ⟨S128x512, .bf16⟩
  | .local _ .vmem, ⟨26, _⟩ => ⟨S128x512, .bf16⟩
  | .local _ .vmem, ⟨27, _⟩ => ⟨S16x4x128x128, .f32⟩
  | .local _ .vmem, ⟨28, _⟩ => ⟨S16x4x128x128, .f32⟩
  | .local _ .vmem, ⟨29, _⟩ => ⟨S16x4x128, .f32⟩
  | .local _ .vmem, ⟨30, _⟩ => ⟨S16x4x128, .f32⟩
  | .local _ .vmem, ⟨31, _⟩ => ⟨S16x4x128, .f32⟩
  | .local _ .vmem, ⟨32, _⟩ => ⟨S16x4x128, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v4 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_c_1 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_c : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_0 : Ref sig .tc := ⟨.hbm, 76, rfl⟩
abbrev main_call2_v12 : Ref sig .tc := ⟨.hbm, 77, rfl⟩
abbrev main_call2_v13 : Ref sig .tc := ⟨.hbm, 78, rfl⟩
abbrev main_v18 : Ref sig .tc := ⟨.hbm, 79, rfl⟩
abbrev main_c_2 : Ref sig .tc := ⟨.hbm, 80, rfl⟩
abbrev main_v19 : Ref sig .tc := ⟨.hbm, 81, rfl⟩
abbrev main_v20 : Ref sig .tc := ⟨.hbm, 82, rfl⟩
abbrev main_c_3 : Ref sig .tc := ⟨.hbm, 83, rfl⟩
abbrev main_v21 : Ref sig .tc := ⟨.hbm, 84, rfl⟩
abbrev main_v22 : Ref sig .tc := ⟨.hbm, 85, rfl⟩
abbrev main_c_4 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_c_5 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_c : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_0 : Ref sig .tc := ⟨.hbm, 108, rfl⟩
abbrev main_call3_v12 : Ref sig .tc := ⟨.hbm, 109, rfl⟩
abbrev main_call3_v13 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_v37 : Ref sig .tc := ⟨.hbm, 118, rfl⟩
abbrev main_c_6 : Ref sig .tc := ⟨.hbm, 119, rfl⟩
abbrev main_v38 : Ref sig .tc := ⟨.hbm, 120, rfl⟩
abbrev main_v39 : Ref sig .tc := ⟨.hbm, 121, rfl⟩
abbrev main_c_7 : Ref sig .tc := ⟨.hbm, 122, rfl⟩
abbrev main_v40 : Ref sig .tc := ⟨.hbm, 123, rfl⟩
abbrev main_v41 : Ref sig .tc := ⟨.hbm, 124, rfl⟩
abbrev main_c_8 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_c_9 : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_v5 : Ref sig .tc := ⟨.hbm, 139, rfl⟩
abbrev main_call4_v6 : Ref sig .tc := ⟨.hbm, 140, rfl⟩
abbrev main_call4_v7 : Ref sig .tc := ⟨.hbm, 141, rfl⟩
abbrev main_call4_v8 : Ref sig .tc := ⟨.hbm, 142, rfl⟩
abbrev main_call4_c : Ref sig .tc := ⟨.hbm, 143, rfl⟩
abbrev main_call4_v9 : Ref sig .tc := ⟨.hbm, 144, rfl⟩
abbrev main_call4_v10 : Ref sig .tc := ⟨.hbm, 145, rfl⟩
abbrev main_call4_v11 : Ref sig .tc := ⟨.hbm, 146, rfl⟩
abbrev main_call4_c_0 : Ref sig .tc := ⟨.hbm, 147, rfl⟩
abbrev main_call4_v12 : Ref sig .tc := ⟨.hbm, 148, rfl⟩
abbrev main_call4_v13 : Ref sig .tc := ⟨.hbm, 149, rfl⟩
abbrev main_v49 : Ref sig .tc := ⟨.hbm, 150, rfl⟩
abbrev main_v50 : Ref sig .tc := ⟨.hbm, 151, rfl⟩
abbrev main_v51 : Ref sig .tc := ⟨.hbm, 152, rfl⟩
abbrev main_v52 : Ref sig .tc := ⟨.hbm, 153, rfl⟩
abbrev main_v53 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_v58_0 : Ref sig .tc := ⟨.hbm, 159, rfl⟩
abbrev main_v58_1 : Ref sig .tc := ⟨.hbm, 160, rfl⟩
abbrev main_v58_2 : Ref sig .tc := ⟨.hbm, 161, rfl⟩
abbrev main_v58_3 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x16 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x4x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x4x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x4x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference7Ideal.lean ====
abbrev S1024x512 : Shape := ⟨2, ![1024, 512]⟩
abbrev S1024x128 : Shape := ⟨2, ![1024, 128]⟩
abbrev S16x1024 : Shape := ⟨2, ![16, 1024]⟩
abbrev S128x4x128x128 : Shape := ⟨4, ![128, 4, 128, 128]⟩
abbrev S128x4x128 : Shape := ⟨3, ![128, 4, 128]⟩
abbrev S128x4 : Shape := ⟨2, ![128, 4]⟩
abbrev S1x512 : Shape := ⟨2, ![1, 512]⟩
abbrev S1024x4 : Shape := ⟨2, ![1024, 4]⟩
abbrev S128x8x4 : Shape := ⟨3, ![128, 8, 4]⟩
abbrev S128x4x8 : Shape := ⟨3, ![128, 4, 8]⟩
abbrev S_ : Shape := ⟨0, ![]⟩
abbrev S128x4x1 : Shape := ⟨3, ![128, 4, 1]⟩
abbrev S128x4x8x1 : Shape := ⟨4, ![128, 4, 8, 1]⟩
abbrev S128x4x1x8 : Shape := ⟨4, ![128, 4, 1, 8]⟩
abbrev S128x4x8x8 : Shape := ⟨4, ![128, 4, 8, 8]⟩
abbrev S8x8 : Shape := ⟨2, ![8, 8]⟩

abbrev nBuf : Space → Nat
  | .hbm => 53
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .hbm, ⟨2, _⟩ => ⟨S1024x512, .bf16⟩
  | .hbm, ⟨3, _⟩ => ⟨S1024x512, .f32⟩
  | .hbm, ⟨4, _⟩ => ⟨S1024x128, .f32⟩
  | .hbm, ⟨5, _⟩ => ⟨S16x1024, .f32⟩
  | .hbm, ⟨6, _⟩ => ⟨S128x4x128x128, .f32⟩
  | .hbm, ⟨7, _⟩ => ⟨S128x4x128, .f32⟩
  | .hbm, ⟨8, _⟩ => ⟨S128x4, .f32⟩
  | .hbm, ⟨9, _⟩ => ⟨S1x512, .f32⟩
  | .hbm, ⟨10, _⟩ => ⟨S1024x4, .f32⟩
  | .hbm, ⟨11, _⟩ => ⟨S128x8x4, .f32⟩
  | .hbm, ⟨12, _⟩ => ⟨S128x4x8, .f32⟩
  | .hbm, ⟨13, _⟩ => ⟨S1024x4, .f32⟩
  | .hbm, ⟨14, _⟩ => ⟨S128x8x4, .f32⟩
  | .hbm, ⟨15, _⟩ => ⟨S128x4x8, .f32⟩
  | .hbm, ⟨16, _⟩ => ⟨S_, .f32⟩
  | .hbm, ⟨17, _⟩ => ⟨S_, .f32⟩
  | .hbm, ⟨18, _⟩ => ⟨S128x4x8, .f32⟩
  | .hbm, ⟨19, _⟩ => ⟨S128x4x1, .f32⟩
  | .hbm, ⟨20, _⟩ => ⟨S128x4x8, .f32⟩
  | .hbm, ⟨21, _⟩ => ⟨S128x4x8, .f32⟩
  | .hbm, ⟨22, _⟩ => ⟨S128x4x8x1, .f32⟩
  | .hbm, ⟨23, _⟩ => ⟨S128x4x1x8, .f32⟩
  | .hbm, ⟨24, _⟩ => ⟨S128x4x8x8, .f32⟩
  | .hbm, ⟨25, _⟩ => ⟨S128x4x8x8, .f32⟩
  | .hbm, ⟨26, _⟩ => ⟨S128x4x8x8, .f32⟩
  | .hbm, ⟨27, _⟩ => ⟨S128x4x1x8, .f32⟩
  | .hbm, ⟨28, _⟩ => ⟨S128x4x8x8, .f32⟩
  | .hbm, ⟨29, _⟩ => ⟨S128x4x8x8, .f32⟩
  | .hbm, ⟨30, _⟩ => ⟨S_, .i1⟩
  | .hbm, ⟨31, _⟩ => ⟨S8x8, .i1⟩
  | .hbm, ⟨32, _⟩ => ⟨S8x8, .i32⟩
  | .hbm, ⟨33, _⟩ => ⟨S_, .i32⟩
  | .hbm, ⟨34, _⟩ => ⟨S8x8, .i32⟩
  | .hbm, ⟨35, _⟩ => ⟨S8x8, .i32⟩
  | .hbm, ⟨36, _⟩ => ⟨S8x8, .i32⟩
  | .hbm, ⟨37, _⟩ => ⟨S8x8, .i1⟩
  | .hbm, ⟨38, _⟩ => ⟨S_, .i1⟩
  | .hbm, ⟨39, _⟩ => ⟨S8x8, .i1⟩
  | .hbm, ⟨40, _⟩ => ⟨S8x8, .i1⟩
  | .hbm, ⟨41, _⟩ => ⟨S_, .f32⟩
  | .hbm, ⟨42, _⟩ => ⟨S_, .f32⟩
  | .hbm, ⟨43, _⟩ => ⟨S128x4x8x8, .i1⟩
  | .hbm, ⟨44, _⟩ => ⟨S128x4x8x8, .f32⟩
  | .hbm, ⟨45, _⟩ => ⟨S128x4x8x8, .f32⟩
  | .hbm, ⟨46, _⟩ => ⟨S_, .f32⟩
  | .hbm, ⟨47, _⟩ => ⟨S128x4x8, .f32⟩
  | .hbm, ⟨48, _⟩ => ⟨S128x4x8, .f32⟩
  | .hbm, ⟨49, _⟩ => ⟨S128x4x1, .f32⟩
  | .hbm, ⟨50, _⟩ => ⟨S128x4, .f32⟩
  | .hbm, ⟨51, _⟩ => ⟨S128x4x1, .f32⟩
  | .hbm, ⟨52, _⟩ => ⟨S128x4x128, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_call0_cst : Ref sig .tc := ⟨.hbm, 16, rfl⟩
abbrev main_call0_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_0 : Ref sig .tc := ⟨.hbm, 38, rfl⟩
abbrev main_call1_v5 : Ref sig .tc := ⟨.hbm, 39, rfl⟩
abbrev main_v19 : Ref sig .tc := ⟨.hbm, 40, rfl⟩
abbrev main_cst : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v20 : Ref sig .tc := ⟨.hbm, 45, rfl⟩
abbrev main_cst_0 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩

abbrev nD : Nat := 1
abbrev τ : Topo := Topo.v7x

variable {F : FTy → Type} [FloatOps F]
-- ==== Proof.Rec.lean ====
module

public import proofs.«01_k».proof.Proof.Gen.KernelIdeal.Value
public import Idealize.ShloMosaic.Lib.Pointwise
public import Idealize.ShloMosaic.Lib.Pipeline.ValueKit

@[expose] public section

set_option maxRecDepth 16384

noncomputable section

/-! The arithmetic of the recurrence, one head and one chunk at a time: the formulas, and the kernel body's values read
    at an element. -/

namespace Cert.Rec

open Idealize.ShloMosaic Idealize.ShloMosaic.TcCoe Idealize.SL.Sem

/-- The running sum of the logarithms of the forget gates. -/
def cum (lf : Fin 128 → EReal) (t : Fin 128) : EReal := ∑ s, if s.val ≤ t.val then lf s else 0

/-- The logarithm of the weight of token `s` for token `t`. -/
def dm (lf ig : Fin 128 → EReal) (t s : Fin 128) : EReal := cum lf t + (ig s - cum lf s)

/-- The logarithm of the weight of the state the chunk began with. -/
def gv (lf : Fin 128 → EReal) (mp : EReal) (t : Fin 128) : EReal := cum lf t + mp

/-- The largest logarithm among the weights of token `t`. -/
def mt (lf ig : Fin 128 → EReal) (mp : EReal) (t : Fin 128) : EReal :=
  max (gv lf mp t) (Finset.univ.fold max ⊥ fun s => if s.val ≤ t.val then dm lf ig t s else ⊥)

/-- The weight of the chunk's first state, scaled. -/
def wi (lf ig : Fin 128 → EReal) (mp : EReal) (t : Fin 128) : EReal := Ideal.exp (gv lf mp t - mt lf ig mp t)

/-- The weighted products of queries and keys. -/
def sc (lf ig : Fin 128 → EReal) (mp : EReal) (q k : Fin 128 → Fin 128 → EReal) (t s : Fin 128) : EReal :=
  if s.val ≤ t.val then (∑ x, q t x * k s x) * Ideal.exp (dm lf ig t s - mt lf ig mp t) else 0

/-- The values with a column of ones beside them. -/
def vx (v : Fin 128 → Fin 128 → EReal) (s : Fin 128) (e : Fin 256) : EReal :=
  if h : e.val < 128 then v s ⟨e.val, h⟩ else if e.val = 128 then 1 else 0

/-- The numerator of a token's result. -/
def num (lf ig : Fin 128 → EReal) (mp : EReal) (q k v : Fin 128 → Fin 128 → EReal) (X : Fin 128 → Fin 256 → EReal) (t e : Fin 128) : EReal :=
  ∑ s, sc lf ig mp q k t s * v s e + wi lf ig mp t * ∑ x, q t x * X x ⟨e.val, by omega⟩

/-- The denominator of a token's result. -/
def den (lf ig : Fin 128 → EReal) (mp : EReal) (q k : Fin 128 → Fin 128 → EReal) (X : Fin 128 → Fin 256 → EReal) (t : Fin 128) : EReal :=
  ∑ s, sc lf ig mp q k t s + wi lf ig mp t * ∑ x, q t x * X x 128

/-- A token's result before the normalization. -/
def hv (lf ig : Fin 128 → EReal) (mp : EReal) (q k v : Fin 128 → Fin 128 → EReal) (X : Fin 128 → Fin 256 → EReal) (t e : Fin 128) : EReal :=
  Ideal.div (num lf ig mp q k v X t e) (max (FloatOps.absf (F := Ideal) (φ := .f32) (den lf ig mp q k X t)) (Ideal.exp (0 - mt lf ig mp t)))

/-- A row divided by its root mean square, scaled, and gated. -/
def hout (y og gain : Fin 128 → EReal) (e : Fin 128) : EReal :=
  og e * (y e * Ideal.rsqrt (Ideal.div (∑ x, y x * y x) (Ideal.ofBits FTy.f32 1124073472#32) + Ideal.ofBits FTy.f32 897988541#32) * gain e)

/-- The logarithm of the state's scale after the chunk. -/
def mn (lf ig : Fin 128 → EReal) (mp : EReal) : EReal := mt lf ig mp 127

/-- The weight of token `s` in the state after the chunk. -/
def we (lf ig : Fin 128 → EReal) (mp : EReal) (s : Fin 128) : EReal := Ideal.exp (cum lf 127 - cum lf s + ig s - mn lf ig mp)

/-- The state after the chunk, with the normalizer as column 128. -/
def xn (lf ig : Fin 128 → EReal) (mp : EReal) (k v : Fin 128 → Fin 128 → EReal) (X : Fin 128 → Fin 256 → EReal) (d : Fin 128) (e : Fin 256) : EReal :=
  Ideal.exp (gv lf mp 127 - mn lf ig mp) * X d e + ∑ s, k s d * we lf ig mp s * vx v s e

/-- The sum of the masked values and of their two remainders is the masked sum. -/
theorem split3 (f : Fin 128 → EReal) (p : Fin 128 → Prop) [DecidablePred p] (hf : ∀ s, f s ≠ ⊤) :
    (∑ s, (if p s then 1 else 0) * f s) + (∑ s, (if p s then 1 else 0) * (f s - f s)) + (∑ s, (if p s then 1 else 0) * (f s - f s - (f s - f s)))
      = ∑ s, if p s then f s else 0 := by
  rw [← Finset.sum_add_distrib, ← Finset.sum_add_distrib]
  refine Finset.sum_congr rfl fun s _ => ?_
  by_cases h : p s
  · simp only [h, if_true, one_mul]
    rcases hx : f s with _ | _ | r
    · rfl
    · exact absurd hx (hf s)
    · show ((r : ℝ) : EReal) + ((r : EReal) - r) + ((r : EReal) - r - ((r : EReal) - r)) = r
      norm_cast
      simp
  · simp only [h, if_false, zero_mul, add_zero]

/-- The word of minus infinity. -/
theorem negInf : Ideal.ofBits FTy.f32 4286578688#32 = ⊥ := by
  simp [Ideal.ofBits, Ideal.ieee]

/-- A token's numerator with the mask taken out of the product. -/
theorem num_eq (lf ig : Fin 128 → EReal) (mp : EReal) (q k v : Fin 128 → Fin 128 → EReal) (X : Fin 128 → Fin 256 → EReal) (t e : Fin 128) :
    num lf ig mp q k v X t e = (∑ s, if s.val ≤ t.val then (∑ x, q t x * k s x) * Ideal.exp (dm lf ig t s - mt lf ig mp t) * v s e else 0)
      + wi lf ig mp t * ∑ x, q t x * X x ⟨e.val, by omega⟩ := by
  unfold num sc
  simp only [ite_mul, zero_mul]

/-- A choice by a decided bit. -/
theorem sel_dec {α : Type} (p : Prop) [Decidable p] (a b : α) : Scalar.select (BitVec.ofBool (decide p)) a b = if p then a else b := by
  by_cases h : p <;> simp [h, Scalar.select]

/-- The values beside the column of ones, as the kernel writes it. -/
theorem vx_eq (v : Fin 128 → Fin 128 → EReal) (s : Fin 128) (e : Fin 256) :
    (if h : e.val < 128 then v s ⟨e.val, h⟩
    else FloatOps.sitofp (F := Ideal) FTy.f32 (BitVec.setWidth 32 (IntOp.cmpi CmpIPredicate.eq (BitVec.ofNat 32 (e.val - 128)) 0#32))) = vx v s e := by
  unfold vx
  by_cases h : e.val < 128
  · rw [dif_pos h, dif_pos h]
  · rw [dif_neg h, dif_neg h]
    by_cases h2 : e.val = 128
    · rw [if_pos h2, h2]
      show (((1 : Int) : ℝ) : EReal) = 1
      norm_cast
    · rw [if_neg h2]
      have h3 : BitVec.ofNat 32 (e.val - 128) ≠ 0#32 := by
        intro hh
        have := congrArg BitVec.toNat hh
        simp at this
        omega
      have h4 : IntOp.cmpi CmpIPredicate.eq (BitVec.ofNat 32 (e.val - 128)) 0#32 = 0#1 := by
        show BitVec.ofBool (BitVec.ofNat 32 (e.val - 128) == 0#32) = 0#1
        rw [beq_eq_false_iff_ne.mpr h3]
        rfl
      rw [h4]
      show (((0 : Int) : ℝ) : EReal) = 0
      norm_cast

section K
open Cert.KernelIdeal Cert.KernelIdeal.Gen

variable {v7 : IVec S128x128 1} {v8 : Vec Ideal S128x128 .f32} {v9 : Vec Ideal S16x128 .f32} {v23 : FVec Ideal S128x128 .f32} {v35 : FVec Ideal S16x128 .f32}
  (q k v : Vec Ideal S128x128 .bf16) (og : Vec Ideal S128x128 .f32) (gain : Vec Ideal S1x128 .f32) (m1 : Vec Ideal S1x1 .f32) (C : Vec Ideal S1x128x256 .f32)
  {lf ig : Fin 128 → EReal}

/-- The bits that say which tokens come no later than which. -/
def Mask (v7 : IVec S128x128 1) : Prop := ∀ t s, v7 (ix2 t s) = BitVec.ofBool (decide (s.val ≤ t.val))

/-- The arrays hold head `n`'s gates: the input gates as a column and as a row, and the running sums as both. -/
structure Gates (n : Fin 4) (v8 : Vec Ideal S128x128 .f32) (v9 : Vec Ideal S16x128 .f32) (v23 : FVec Ideal S128x128 .f32) (v35 : FVec Ideal S16x128 .f32)
    (lf ig : Fin 128 → EReal) : Prop where
  col : ∀ t, v8 (ix2 t ⟨n.val, by omega⟩) = ig t
  row : ∀ t, v9 (ix2 ⟨n.val, by omega⟩ t) = ig t
  ccum : ∀ t, v23 (ix2 t ⟨4 + n.val, by omega⟩) = cum lf t
  rcum : ∀ t, v35 (ix2 ⟨4 + n.val, by omega⟩ t) = cum lf t

/-- The first head's result. -/
theorem y0_at (hw : Mask v7) (hg : Gates 0 v8 v9 v23 v35 lf ig) (t e : Fin 128) :
    k0_pay22 (F := Ideal) (k0_pay15 v7 v9 v23 v35 m1) (k0_pay16 v7 v9 v23 v35 m1) (k0_pay17 v7 v9 v23 v35 q k m1) (k0_pay20 q C) (k0_pay21 v7 v9 v23 v35 q k v m1 C) gain og (ix2 t e)
      = hout (hv lf ig (m1 (ix2 0 0)) (fun t d => q (ix2 t d)) (fun t d => k (ix2 t d)) (fun t d => v (ix2 t d)) (fun d e => C (ix3 0 d e)) t)
        (fun e => og (ix2 t e)) (fun e => gain (ix2 0 e)) e := by
  have h9 : ∀ t, v9 (ix2 0 t) = ig t := hg.row
  have h23 : ∀ t, v23 (ix2 t 4) = cum lf t := hg.ccum
  have h35 : ∀ t, v35 (ix2 4 t) = cum lf t := hg.rcum
  pointwise [k0_pay22, k0_pay15, k0_pay16, k0_pay17, k0_pay20, k0_pay21, k0_pay14, k0_pay13, k0_pay12, k0_pay18]
  simp only [hw t, h23, h35, h9, negInf, sel_dec, hout, hv, num_eq]
  rfl

/-- The first head's state after the chunk. -/
theorem c0_at (hw : Mask v7) (hg : Gates 0 v8 v9 v23 v35 lf ig) (d : Fin 128) (e : Fin 256) :
    k0_pay26 (F := Ideal) (k0_pay24 (k0_pay14 v23 m1) (k0_pay15 v7 v9 v23 v35 m1) (k0_pay18 C)) (k0_pay25 k (k0_pay11 v8) (k0_pay12 v23) (k0_pay15 v7 v9 v23 v35 m1) (k0_pay19 k0_pay9 v)) (ix3 0 d e)
      = xn lf ig (m1 (ix2 0 0)) (fun t d => k (ix2 t d)) (fun t d => v (ix2 t d)) (fun d e => C (ix3 0 d e)) d e := by
  have h9 : ∀ t, v9 (ix2 0 t) = ig t := hg.row
  have h23 : ∀ t, v23 (ix2 t 4) = cum lf t := hg.ccum
  have h35 : ∀ t, v35 (ix2 4 t) = cum lf t := hg.rcum
  have h8 : ∀ t, v8 (ix2 t 0) = ig t := hg.col
  pointwise [k0_pay26, k0_pay24, k0_pay14, k0_pay15, k0_pay18, k0_pay25, k0_pay11, k0_pay12, k0_pay13, k0_pay19, k0_pay10, k0_pay9, k0_pay23]
  simp only [hw 127, h23, h35, h9, h8, negInf, sel_dec, vx_eq (fun s d => v (ix2 s d))]
  rfl

/-- The first head's scale after the chunk. -/
theorem m0_at (hw : Mask v7) (hg : Gates 0 v8 v9 v23 v35 lf ig) (e : Fin 128) :
    k0_pay27 (F := Ideal) (k0_pay23 (k0_pay15 v7 v9 v23 v35 m1)) (ix2 0 e) = mn lf ig (m1 (ix2 0 0)) := by
  have h9 : ∀ t, v9 (ix2 0 t) = ig t := hg.row
  have h23 : ∀ t, v23 (ix2 t 4) = cum lf t := hg.ccum
  have h35 : ∀ t, v35 (ix2 4 t) = cum lf t := hg.rcum
  pointwise [k0_pay27, k0_pay23, k0_pay15, k0_pay14, k0_pay13, k0_pay12]
  simp only [hw 127, h23, h35, h9, negInf, sel_dec]
  rfl

/-- The second head's result. -/
theorem y1_at (hw : Mask v7) (hg : Gates 1 v8 v9 v23 v35 lf ig) (t e : Fin 128) :
    k0_pay37 (F := Ideal) q v (k0_pay32 v7 v9 v23 v35 m1) (k0_pay33 v7 v9 v23 v35 m1) (k0_pay34 v7 v9 v23 v35 q k m1) C gain og (ix2 t e)
      = hout (hv lf ig (m1 (ix2 0 0)) (fun t d => q (ix2 t d)) (fun t d => k (ix2 t d)) (fun t d => v (ix2 t d)) (fun d e => C (ix3 0 d e)) t)
        (fun e => og (ix2 t e)) (fun e => gain (ix2 0 e)) e := by
  have h9 : ∀ t, v9 (ix2 1 t) = ig t := hg.row
  have h23 : ∀ t, v23 (ix2 t 5) = cum lf t := hg.ccum
  have h35 : ∀ t, v35 (ix2 5 t) = cum lf t := hg.rcum
  pointwise [k0_pay37, k0_pay32, k0_pay33, k0_pay34, k0_pay35, k0_pay31, k0_pay30, k0_pay29]
  simp only [hw t, h23, h35, h9, negInf, sel_dec, hout, hv, num_eq]
  rfl

/-- The second head's state after the chunk. -/
theorem c1_at (hw : Mask v7) (hg : Gates 1 v8 v9 v23 v35 lf ig) (d : Fin 128) (e : Fin 256) :
    k0_pay40 (F := Ideal) k (k0_pay31 v23 m1) (k0_pay35 C) (k0_pay36 (k0_pay10 k0_pay9) v) (k0_pay38 (k0_pay32 v7 v9 v23 v35 m1)) (k0_pay39 (k0_pay28 v8) (k0_pay29 v23) (k0_pay32 v7 v9 v23 v35 m1)) (ix3 0 d e)
      = xn lf ig (m1 (ix2 0 0)) (fun t d => k (ix2 t d)) (fun t d => v (ix2 t d)) (fun d e => C (ix3 0 d e)) d e := by
  have h9 : ∀ t, v9 (ix2 1 t) = ig t := hg.row
  have h23 : ∀ t, v23 (ix2 t 5) = cum lf t := hg.ccum
  have h35 : ∀ t, v35 (ix2 5 t) = cum lf t := hg.rcum
  have h8 : ∀ t, v8 (ix2 t 1) = ig t := hg.col
  pointwise [k0_pay40, k0_pay31, k0_pay35, k0_pay36, k0_pay10, k0_pay9, k0_pay38, k0_pay32, k0_pay39, k0_pay28, k0_pay29, k0_pay30]
  simp only [hw 127, h23, h35, h9, h8, negInf, sel_dec, vx_eq (fun s d => v (ix2 s d))]
  rfl

/-- The second head's scale after the chunk. -/
theorem m1_at (hw : Mask v7) (hg : Gates 1 v8 v9 v23 v35 lf ig) (e : Fin 128) :
    k0_pay41 (F := Ideal) (k0_pay38 (k0_pay32 v7 v9 v23 v35 m1)) (ix2 0 e) = mn lf ig (m1 (ix2 0 0)) := by
  have h9 : ∀ t, v9 (ix2 1 t) = ig t := hg.row
  have h23 : ∀ t, v23 (ix2 t 5) = cum lf t := hg.ccum
  have h35 : ∀ t, v35 (ix2 5 t) = cum lf t := hg.rcum
  pointwise [k0_pay41, k0_pay38, k0_pay32, k0_pay31, k0_pay30, k0_pay29]
  simp only [hw 127, h23, h35, h9, negInf, sel_dec]
  rfl

/-- The third head's result. -/
theorem y2_at (hw : Mask v7) (hg : Gates 2 v8 v9 v23 v35 lf ig) (t e : Fin 128) :
    k0_pay51 (F := Ideal) og (k0_pay50 v7 q k v (k0_pay45 v23 m1) (k0_pay46 v7 v9 v23 v35 m1) (k0_pay47 v7 v9 v23 v35 m1) C gain) (ix2 t e)
      = hout (hv lf ig (m1 (ix2 0 0)) (fun t d => q (ix2 t d)) (fun t d => k (ix2 t d)) (fun t d => v (ix2 t d)) (fun d e => C (ix3 0 d e)) t)
        (fun e => og (ix2 t e)) (fun e => gain (ix2 0 e)) e := by
  have h9 : ∀ t, v9 (ix2 2 t) = ig t := hg.row
  have h23 : ∀ t, v23 (ix2 t 6) = cum lf t := hg.ccum
  have h35 : ∀ t, v35 (ix2 6 t) = cum lf t := hg.rcum
  pointwise [k0_pay51, k0_pay50, k0_pay45, k0_pay46, k0_pay47, k0_pay48, k0_pay44, k0_pay43]
  simp only [hw t, h23, h35, h9, negInf, sel_dec, hout, hv, num_eq]
  rfl

/-- The third head's state after the chunk. -/
theorem c2_at (hw : Mask v7) (hg : Gates 2 v8 v9 v23 v35 lf ig) (d : Fin 128) (e : Fin 256) :
    k0_pay53 (F := Ideal) k (k0_pay42 v8) (k0_pay43 v23) (k0_pay45 v23 m1) (k0_pay46 v7 v9 v23 v35 m1) (k0_pay48 C) (k0_pay49 (k0_pay10 k0_pay9) v) (ix3 0 d e)
      = xn lf ig (m1 (ix2 0 0)) (fun t d => k (ix2 t d)) (fun t d => v (ix2 t d)) (fun d e => C (ix3 0 d e)) d e := by
  have h9 : ∀ t, v9 (ix2 2 t) = ig t := hg.row
  have h23 : ∀ t, v23 (ix2 t 6) = cum lf t := hg.ccum
  have h35 : ∀ t, v35 (ix2 6 t) = cum lf t := hg.rcum
  have h8 : ∀ t, v8 (ix2 t 2) = ig t := hg.col
  pointwise [k0_pay53, k0_pay42, k0_pay43, k0_pay44, k0_pay45, k0_pay46, k0_pay48, k0_pay49, k0_pay10, k0_pay9, k0_pay52]
  simp only [hw 127, h23, h35, h9, h8, negInf, sel_dec, vx_eq (fun s d => v (ix2 s d))]
  rfl

/-- The third head's scale after the chunk. -/
theorem m2_at (hw : Mask v7) (hg : Gates 2 v8 v9 v23 v35 lf ig) (e : Fin 128) :
    k0_pay54 (F := Ideal) (k0_pay46 v7 v9 v23 v35 m1) (ix2 0 e) = mn lf ig (m1 (ix2 0 0)) := by
  have h9 : ∀ t, v9 (ix2 2 t) = ig t := hg.row
  have h23 : ∀ t, v23 (ix2 t 6) = cum lf t := hg.ccum
  have h35 : ∀ t, v35 (ix2 6 t) = cum lf t := hg.rcum
  pointwise [k0_pay54, k0_pay52, k0_pay46, k0_pay45, k0_pay44, k0_pay43]
  simp only [hw 127, h23, h35, h9, negInf, sel_dec]
  rfl

/-- The fourth head's result. -/
theorem y3_at (hw : Mask v7) (hg : Gates 3 v8 v9 v23 v35 lf ig) (t e : Fin 128) :
    k0_pay66 (F := Ideal) gain og (k0_pay64 v7 q k v (k0_pay56 v23) m1 (k0_pay57 v9 v35) (k0_pay58 v23) C) (k0_pay65 v7 q k v (k0_pay56 v23) m1 (k0_pay57 v9 v35) (k0_pay58 v23) C) (ix2 t e)
      = hout (hv lf ig (m1 (ix2 0 0)) (fun t d => q (ix2 t d)) (fun t d => k (ix2 t d)) (fun t d => v (ix2 t d)) (fun d e => C (ix3 0 d e)) t)
        (fun e => og (ix2 t e)) (fun e => gain (ix2 0 e)) e := by
  have h9 : ∀ t, v9 (ix2 3 t) = ig t := hg.row
  have h23 : ∀ t, v23 (ix2 t 7) = cum lf t := hg.ccum
  have h35 : ∀ t, v35 (ix2 7 t) = cum lf t := hg.rcum
  pointwise [k0_pay66, k0_pay65, k0_pay64, k0_pay62, k0_pay61, k0_pay60, k0_pay59, k0_pay58, k0_pay57, k0_pay56]
  simp only [hw t, h23, h35, h9, negInf, sel_dec, hout, hv, num_eq]
  rfl

/-- The fourth head's state after the chunk. -/
theorem c3_at (hw : Mask v7) (hg : Gates 3 v8 v9 v23 v35 lf ig) (d : Fin 128) (e : Fin 256) :
    k0_pay68 (F := Ideal) k (k0_pay55 v8) (k0_pay56 v23) (k0_pay60 (k0_pay56 v23) m1) (k0_pay61 v7 (k0_pay56 v23) m1 (k0_pay57 v9 v35) (k0_pay58 v23)) (k0_pay62 C) (k0_pay63 (k0_pay10 k0_pay9) v) (ix3 0 d e)
      = xn lf ig (m1 (ix2 0 0)) (fun t d => k (ix2 t d)) (fun t d => v (ix2 t d)) (fun d e => C (ix3 0 d e)) d e := by
  have h9 : ∀ t, v9 (ix2 3 t) = ig t := hg.row
  have h23 : ∀ t, v23 (ix2 t 7) = cum lf t := hg.ccum
  have h35 : ∀ t, v35 (ix2 7 t) = cum lf t := hg.rcum
  have h8 : ∀ t, v8 (ix2 t 3) = ig t := hg.col
  pointwise [k0_pay68, k0_pay55, k0_pay56, k0_pay57, k0_pay58, k0_pay59, k0_pay60, k0_pay61, k0_pay62, k0_pay63, k0_pay10, k0_pay9, k0_pay67]
  simp only [hw 127, h23, h35, h9, h8, negInf, sel_dec, vx_eq (fun s d => v (ix2 s d))]
  rfl

/-- The fourth head's scale after the chunk. -/
theorem m3_at (hw : Mask v7) (hg : Gates 3 v8 v9 v23 v35 lf ig) (e : Fin 128) :
    k0_pay69 (F := Ideal) (k0_pay61 v7 (k0_pay56 v23) m1 (k0_pay57 v9 v35) (k0_pay58 v23)) (ix2 0 e) = mn lf ig (m1 (ix2 0 0)) := by
  have h9 : ∀ t, v9 (ix2 3 t) = ig t := hg.row
  have h23 : ∀ t, v23 (ix2 t 7) = cum lf t := hg.ccum
  have h35 : ∀ t, v35 (ix2 7 t) = cum lf t := hg.rcum
  pointwise [k0_pay69, k0_pay67, k0_pay61, k0_pay60, k0_pay59, k0_pay58, k0_pay57, k0_pay56]
  simp only [hw 127, h23, h35, h9, negInf, sel_dec]
  rfl

end K
end Cert.Rec
end
-- ==== Proof.Scale.lean ====
module

public import proofs.«01_k».proof.Proof.Rec
public import proofs.«01_k».proof.Proof.Gen.Kernel7Ideal.Value
public import Idealize.ShloMosaic.Lib.Pointwise
public import Idealize.ShloMosaic.Lib.Pipeline.ValueKit

@[expose] public section

set_option maxRecDepth 16384

noncomputable section

/-! The scale of the second batch's recurrence: the formulas over one sequence of eight tokens, and the body's values over a
    block of sixteen sequences. -/

namespace Cert.Scale

open Idealize.ShloMosaic Idealize.ShloMosaic.TcCoe Idealize.SL.Sem
open Cert.Kernel7Ideal Cert.Kernel7Ideal.Gen

/-- Token `s` is of the sequence of token `t` and comes no later. -/
abbrev Le (t s : Fin 128) : Prop := t.val / 8 = s.val / 8 ∧ s.val ≤ t.val

/-- Token `u` of sequence `i` of a block. -/
def tok (i : Fin 16) (u : Fin 8) : Fin 128 := ⟨i.val * 8 + u.val, by omega⟩

/-- The running sum of a sequence's forget gates. -/
def cum (lf : Fin 8 → EReal) (t : Fin 8) : EReal := ∑ s, if s.val ≤ t.val then lf s else 0

/-- The scale after a sequence. -/
def scale (lf ig : Fin 8 → EReal) (mp : EReal) : EReal :=
  max (cum lf 7 + mp) (Finset.univ.fold max ⊥ fun s => cum lf 7 + (ig s - cum lf s))

/-- The running sum over a block, within each sequence. -/
def bcum (lf : Fin 128 → EReal) (t : Fin 128) : EReal := ∑ s, if Le t s then lf s else 0

/-- The scale of a token of a block. -/
def bscale (lf ig mp : Fin 128 → EReal) (t : Fin 128) : EReal :=
  max (bcum lf t + mp t) (Finset.univ.fold max ⊥ fun s => if Le t s then bcum lf t + (ig s - bcum lf s) else ⊥)

/-- A sequence's tokens within a block. -/
theorem tok_le (i : Fin 16) (t u : Fin 8) : Le (tok i t) (tok i u) ↔ u.val ≤ t.val := by
  show (i.val * 8 + t.val) / 8 = (i.val * 8 + u.val) / 8 ∧ i.val * 8 + u.val ≤ i.val * 8 + t.val ↔ _
  omega

/-- A token no later in the sequence is one of the sequence. -/
theorem le_tok {i : Fin 16} {t : Fin 8} {s : Fin 128} (h : Le (tok i t) s) : ∃ u : Fin 8, u.val ≤ t.val ∧ s = tok i u := by
  have h' : (i.val * 8 + t.val) / 8 = s.val / 8 ∧ s.val ≤ i.val * 8 + t.val := h
  exact ⟨⟨s.val % 8, by omega⟩, by show s.val % 8 ≤ _; omega, Fin.ext (by show s.val = i.val * 8 + s.val % 8; omega)⟩

/-- The tokens of a sequence are different. -/
theorem tok_inj (i : Fin 16) : Function.Injective (tok i) := fun u v h => Fin.ext (by
  have : i.val * 8 + u.val = i.val * 8 + v.val := congrArg Fin.val h
  omega)

/-- The running sum over a block is each sequence's own. -/
theorem bcum_tok (lf : Fin 128 → EReal) (i : Fin 16) (t : Fin 8) : bcum lf (tok i t) = cum (fun u => lf (tok i u)) t := by
  unfold bcum cum
  rw [← Finset.sum_filter, ← Finset.sum_filter]
  symm
  refine Finset.sum_nbij (tok i) (fun u hu => ?_) (fun u _ v _ h => tok_inj i h) (fun s hs => ?_) fun u _ => rfl
  · simp only [Finset.mem_filter, Finset.mem_univ, true_and] at hu ⊢
    exact (tok_le i t u).2 hu
  · obtain ⟨u, hu, rfl⟩ := le_tok (by simpa using hs)
    exact ⟨u, by simpa using hu, rfl⟩

/-- The scale of a sequence's last token is the sequence's. -/
theorem bscale_tok (lf ig mp : Fin 128 → EReal) (i : Fin 16) : bscale lf ig mp (tok i 7) = scale (fun u => lf (tok i u)) (fun u => ig (tok i u)) (mp (tok i 7)) := by
  unfold bscale scale
  rw [bcum_tok]
  refine congrArg (max _) ?_
  show Finset.sup _ _ = Finset.sup _ _
  refine le_antisymm (Finset.sup_le fun s _ => ?_) (Finset.sup_le fun u _ => ?_)
  · by_cases h : Le (tok i 7) s
    · obtain ⟨u, -, rfl⟩ := le_tok h
      rw [if_pos h, bcum_tok]
      exact Finset.le_sup (f := fun s => cum (fun u => lf (tok i u)) 7 + (ig (tok i s) - cum (fun u => lf (tok i u)) s)) (Finset.mem_univ u)
    · rw [if_neg h]
      exact bot_le
  · have h : Le (tok i 7) (tok i u) := (tok_le i 7 u).2 (by show u.val ≤ 7; omega)
    refine le_trans ?_ (Finset.le_sup (f := fun s => if Le (tok i 7) s then cum (fun u => lf (tok i u)) 7 + (ig s - bcum lf s) else ⊥) (Finset.mem_univ (tok i u)))
    show _ ≤ if _ then _ else _
    rw [if_pos h, bcum_tok]

/-- A running sum of numbers none above 0 is not above 0. -/
theorem bcum_le (lf : Fin 128 → EReal) (hl : ∀ s, lf s ≤ 0) (t : Fin 128) : bcum lf t ≤ 0 :=
  Finset.sum_nonpos fun s _ => by
    by_cases h : Le t s
    · rw [if_pos h]; exact hl s
    · rw [if_neg h]

/-- And it falls along a sequence. -/
theorem bcum_anti (lf : Fin 128 → EReal) (hl : ∀ s, lf s ≤ 0) {t s : Fin 128} (h : Le t s) : bcum lf t ≤ bcum lf s := by
  refine Finset.sum_le_sum fun u _ => ?_
  by_cases hu : Le s u
  · rw [if_pos hu, if_pos (show Le t u from ⟨h.1.trans hu.1, hu.2.trans h.2⟩)]
  · rw [if_neg hu]
    by_cases ht : Le t u
    · rw [if_pos ht]; exact hl u
    · rw [if_neg ht]

/-- A token's scale is not plus infinity. -/
theorem bscale_ne (lf ig mp : Fin 128 → EReal) (hl : ∀ s, lf s ≤ 0) (hi : ∀ s, ig s < ⊤) (hm : ∀ s, mp s < ⊤) (t : Fin 128) : bscale lf ig mp t ≠ ⊤ := by
  have h0 : ∀ t, bcum lf t < ⊤ := fun t => (bcum_le lf hl t).trans_lt (by simp)
  refine ne_of_lt (max_lt (EReal.add_lt_top (h0 t).ne (hm t).ne) ?_)
  show Finset.sup _ _ < _
  refine (Finset.sup_lt_iff (by simp)).2 fun s _ => ?_
  by_cases h : Le t s
  · rw [if_pos h]
    have ha := bcum_anti lf hl h
    by_cases hb : bcum lf s = ⊥
    · rw [hb, le_bot_iff] at ha
      rw [ha, EReal.bot_add]
      simp
    · refine EReal.add_lt_top (h0 t).ne ?_
      rw [sub_eq_add_neg]
      exact (EReal.add_lt_top (hi s).ne (by simpa using hb)).ne
  · rw [if_neg h]
    simp

/-- The sum of the masked values and of their two remainders is the masked sum. -/
theorem split (f : Fin 128 → EReal) (s : Fin 128) (hf : ∀ s, f s ≠ ⊤) :
    (∑ k, (if k = s then 1 else 0) * f k) + (∑ k, (if k = s then 1 else 0) * (f k - f k)) + (∑ k, (if k = s then 1 else 0) * (f k - f k - (f k - f k))) = f s := by
  rw [Rec.split3 f (fun k => k = s) hf, Finset.sum_ite_eq' Finset.univ s f, if_pos (Finset.mem_univ s)]

/-- What the body finds in its blocks: the masks, the two layouts of the gates alike, and their bounds. -/
structure Blocks (x4 : Vec Ideal S128x128 .f32) (x5 : Vec Ideal S16x128 .f32) (x6 : Vec Ideal S128x4 .f32) (x10 x11 : Vec Ideal S128x128 .bf16) (x14 : Vec Ideal S16x128 .bf16) : Prop where
  tri : ∀ t s, x10 (ix2 t s) = if Le t s then 1 else 0
  triu : ∀ s t, x11 (ix2 s t) = if Le t s then 1 else 0
  pick : ∀ i s, x14 (ix2 i s) = if s = tok i 7 then 1 else 0
  row : ∀ (g : Fin 8) t, x5 (ix2 ⟨g.val, by omega⟩ t) = x4 (ix2 t ⟨g.val, by omega⟩)
  neg : ∀ (h : Fin 4) t, x4 (ix2 t ⟨4 + h.val, by omega⟩) ≤ 0
  inp : ∀ (h : Fin 4) t, x4 (ix2 t ⟨h.val, by omega⟩) < ⊤
  prev : ∀ (h : Fin 4) t, x6 (ix2 t h) < ⊤

variable {x4 : Vec Ideal S128x128 .f32} {x5 : Vec Ideal S16x128 .f32} {x6 : Vec Ideal S128x4 .f32} {x10 x11 : Vec Ideal S128x128 .bf16} {x14 : Vec Ideal S16x128 .bf16}

/-- A head's scale over a block. -/
def col (x4 : Vec Ideal S128x128 .f32) (x6 : Vec Ideal S128x4 .f32) (h : Fin 4) (t : Fin 128) : EReal :=
  bscale (fun s => x4 (ix2 s ⟨4 + h.val, by omega⟩)) (fun s => x4 (ix2 s ⟨h.val, by omega⟩)) (fun s => x6 (ix2 s h)) t

/-- It is not plus infinity. -/
theorem Blocks.ne (hb : Blocks x4 x5 x6 x10 x11 x14) (h : Fin 4) (t : Fin 128) : col x4 x6 h t ≠ ⊤ := bscale_ne _ _ _ (hb.neg h) (hb.inp h) (hb.prev h) t

/-- The mask's bits. -/
theorem Blocks.mask (hb : Blocks x4 x5 x6 x10 x11 x14) (t s : Fin 128) : k0_pay3 (F := Ideal) x10 (ix2 t s) = BitVec.ofBool (decide (Le t s)) := by
  pointwise [k0_pay3, k0_pay2]
  rw [hb.tri]
  by_cases h : Le t s
  · simp only [if_pos h, decide_eq_true h]
    simp
  · simp only [if_neg h, decide_eq_false h]
    simp

/-- The running sums as columns. -/
theorem Blocks.ccum (hb : Blocks x4 x5 x6 x10 x11 x14) (h : Fin 4) (t : Fin 128) : k0_pay4 (F := Ideal) x10 x4 (ix2 t ⟨4 + h.val, by omega⟩) = bcum (fun s => x4 (ix2 s ⟨4 + h.val, by omega⟩)) t := by
  pointwise [k0_pay4, k0_pay2]
  simp only [hb.tri]
  exact Rec.split3 (fun s => x4 (ix2 s ⟨4 + h.val, by omega⟩)) (fun s => Le t s) fun s => ((hb.neg h s).trans_lt (by simp)).ne

/-- The running sums as rows. -/
theorem Blocks.rcum (hb : Blocks x4 x5 x6 x10 x11 x14) (h : Fin 4) (t : Fin 128) : k0_pay5 (F := Ideal) x5 x11 (ix2 ⟨4 + h.val, by omega⟩ t) = bcum (fun s => x4 (ix2 s ⟨4 + h.val, by omega⟩)) t := by
  pointwise [k0_pay5]
  have hr : ∀ s, x5 (ix2 ⟨4 + h.val, by omega⟩ s) = x4 (ix2 s ⟨4 + h.val, by omega⟩) := hb.row ⟨4 + h.val, by omega⟩
  simp only [hb.triu, hr]
  simp only [mul_comm _ (ite _ _ _)]
  exact Rec.split3 (fun s => x4 (ix2 s ⟨4 + h.val, by omega⟩)) (fun s => Le t s) fun s => ((hb.neg h s).trans_lt (by simp)).ne

/-- The first head's scale. -/
theorem Blocks.m0 (hb : Blocks x4 x5 x6 x10 x11 x14) (p : Vec Ideal S128x1 .f32) (hp : ∀ t, p (ix2 t 0) = x6 (ix2 t 0)) (t : Fin 128) :
    k0_pay31 (F := Ideal) (k0_pay3 x10) x5 (k0_pay4 x10 x4) (k0_pay5 x5 x11) p (ix2 t 0) = col x4 x6 0 t := by
  have h1 : ∀ t, k0_pay4 (F := Ideal) x10 x4 (ix2 t 4) = bcum (fun s => x4 (ix2 s 4)) t := hb.ccum 0
  have h2 : ∀ t, k0_pay5 (F := Ideal) x5 x11 (ix2 4 t) = bcum (fun s => x4 (ix2 s 4)) t := hb.rcum 0
  have h3 : ∀ t, x5 (ix2 0 t) = x4 (ix2 t 0) := hb.row 0
  pointwise [k0_pay31, k0_pay30, k0_pay29, k0_pay28]
  simp only [hb.mask t, h1, h2, h3, hp, Rec.negInf, Rec.sel_dec]
  rfl

/-- The second head's scale. -/
theorem Blocks.m1 (hb : Blocks x4 x5 x6 x10 x11 x14) (p : Vec Ideal S128x1 .f32) (hp : ∀ t, p (ix2 t 0) = x6 (ix2 t 1)) (t : Fin 128) :
    k0_pay88 (F := Ideal) (k0_pay86 (k0_pay4 x10 x4) p) (k0_pay87 (k0_pay3 x10) x5 (k0_pay4 x10 x4) (k0_pay5 x5 x11)) (ix2 t 0) = col x4 x6 1 t := by
  have h1 : ∀ t, k0_pay4 (F := Ideal) x10 x4 (ix2 t 5) = bcum (fun s => x4 (ix2 s 5)) t := hb.ccum 1
  have h2 : ∀ t, k0_pay5 (F := Ideal) x5 x11 (ix2 5 t) = bcum (fun s => x4 (ix2 s 5)) t := hb.rcum 1
  have h3 : ∀ t, x5 (ix2 1 t) = x4 (ix2 t 1) := hb.row 1
  pointwise [k0_pay88, k0_pay87, k0_pay86, k0_pay85, k0_pay84]
  simp only [hb.mask t, h1, h2, h3, hp, Rec.negInf, Rec.sel_dec]
  rfl

/-- The third head's scale. -/
theorem Blocks.m2 (hb : Blocks x4 x5 x6 x10 x11 x14) (p : Vec Ideal S128x1 .f32) (hp : ∀ t, p (ix2 t 0) = x6 (ix2 t 2)) (t : Fin 128) :
    k0_pay138 (F := Ideal) (k0_pay3 x10) x5 (k0_pay4 x10 x4) (k0_pay5 x5 x11) p (ix2 t 0) = col x4 x6 2 t := by
  have h1 : ∀ t, k0_pay4 (F := Ideal) x10 x4 (ix2 t 6) = bcum (fun s => x4 (ix2 s 6)) t := hb.ccum 2
  have h2 : ∀ t, k0_pay5 (F := Ideal) x5 x11 (ix2 6 t) = bcum (fun s => x4 (ix2 s 6)) t := hb.rcum 2
  have h3 : ∀ t, x5 (ix2 2 t) = x4 (ix2 t 2) := hb.row 2
  pointwise [k0_pay138, k0_pay137, k0_pay136, k0_pay135]
  simp only [hb.mask t, h1, h2, h3, hp, Rec.negInf, Rec.sel_dec]
  rfl

/-- The fourth head's scale. -/
theorem Blocks.m3 (hb : Blocks x4 x5 x6 x10 x11 x14) (p : Vec Ideal S128x1 .f32) (hp : ∀ t, p (ix2 t 0) = x6 (ix2 t 3)) (t : Fin 128) :
    k0_pay191 (F := Ideal) (k0_pay3 x10) (k0_pay189 x5 (k0_pay4 x10 x4) (k0_pay5 x5 x11)) (k0_pay190 (k0_pay4 x10 x4) p) (ix2 t 0) = col x4 x6 3 t := by
  have h1 : ∀ t, k0_pay4 (F := Ideal) x10 x4 (ix2 t 7) = bcum (fun s => x4 (ix2 s 7)) t := hb.ccum 3
  have h2 : ∀ t, k0_pay5 (F := Ideal) x5 x11 (ix2 7 t) = bcum (fun s => x4 (ix2 s 7)) t := hb.rcum 3
  have h3 : ∀ t, x5 (ix2 3 t) = x4 (ix2 t 3) := hb.row 3
  pointwise [k0_pay191, k0_pay190, k0_pay189, k0_pay188]
  simp only [hb.mask t, h1, h2, h3, hp, Rec.negInf, Rec.sel_dec]
  rfl

/-- The rows of a column's last tokens, as the first head's piece picks them. -/
theorem Blocks.p0 (hb : Blocks x4 x5 x6 x10 x11 x14) (M : FVec Ideal S128x1 .f32) (hM : ∀ t, M (ix2 t 0) ≠ ⊤) (i : Fin 16) (d : Fin 128) :
    k0_pay82 (F := Ideal) (k0_pay8 x14) M (ix3 i 0 d) = M (ix2 (tok i 7) 0) := by
  pointwise [k0_pay82, k0_pay8]
  simp only [hb.pick]
  exact split (fun s => M (ix2 s 0)) (tok i 7) hM

/-- As the second head's piece picks them. -/
theorem Blocks.p1 (hb : Blocks x4 x5 x6 x10 x11 x14) (M : FVec Ideal S128x1 .f32) (hM : ∀ t, M (ix2 t 0) ≠ ⊤) (i : Fin 16) (d : Fin 128) :
    k0_pay133 (F := Ideal) (k0_pay132 (k0_pay8 x14) M) (ix3 i 0 d) = M (ix2 (tok i 7) 0) := by
  pointwise [k0_pay133, k0_pay132, k0_pay8]
  simp only [hb.pick]
  exact split (fun s => M (ix2 s 0)) (tok i 7) hM

/-- As the third head's piece picks them. -/
theorem Blocks.p2 (hb : Blocks x4 x5 x6 x10 x11 x14) (M : FVec Ideal S128x1 .f32) (hM : ∀ t, M (ix2 t 0) ≠ ⊤) (i : Fin 16) (d : Fin 128) :
    k0_pay186 (F := Ideal) (k0_pay8 x14) M (ix3 i 0 d) = M (ix2 (tok i 7) 0) := by
  pointwise [k0_pay186, k0_pay8]
  simp only [hb.pick]
  exact split (fun s => M (ix2 s 0)) (tok i 7) hM

/-- As the fourth head's piece picks them. -/
theorem Blocks.p3 (hb : Blocks x4 x5 x6 x10 x11 x14) (M : FVec Ideal S128x1 .f32) (hM : ∀ t, M (ix2 t 0) ≠ ⊤) (i : Fin 16) (d : Fin 128) :
    k0_pay1 (F := Ideal) (k0_pay8 x14) (k0_pay251 M) (k0_pay252 (k0_pay8 x14) M) (k0_pay253 (k0_pay8 x14) M) (ix3 i 0 d) = M (ix2 (tok i 7) 0) := by
  pointwise [k0_pay1, k0_pay251, k0_pay252, k0_pay253, k0_pay250, k0_pay249, k0_pay248, k0_pay247, k0_pay8]
  simp only [hb.pick]
  exact split (fun s => M (ix2 s 0)) (tok i 7) hM

end Cert.Scale
end
-- ==== Proof.Tri.lean ====
module

public import Idealize.ShloMosaic.Lib.Pipeline.ReadBack
public import Idealize.ShloMosaic.Lib.Pipeline.ValueKit

@[expose] public section

set_option maxRecDepth 16384

noncomputable section

/-! The lower triangle as the host makes it: the row and the column of an element, divided by the chunk's length and compared. -/

namespace Cert.Tri

open Idealize.ShloMosaic Idealize.ShloMosaic.TcCoe Idealize.SL.Sem

/-- A word divided by another and rounded down. -/
def fdiv (d x : BitVec 32) : BitVec 32 :=
  Scalar.select (IntOp.andi (IntOp.cmpi CmpIPredicate.ne (if x = 0 then (0 : BitVec 32) else if x.msb = true then -1 else 1) (if d = 0 then (0 : BitVec 32) else if d.msb = true then -1 else 1))
      (IntOp.cmpi CmpIPredicate.ne (IntOp.remsi ArithUnit.host x d) 0#32))
    (IntOp.subi (IntOp.divsi ArithUnit.host x d) 1#32) (IntOp.divsi ArithUnit.host x d)

/-- No word below 128 has a quotient by 128. -/
theorem fdiv_lt : ∀ r : Fin 128, fdiv 128#32 (BitVec.ofNat 32 r.val) = 0#32 := by decide +kernel

/-- The quotient by 8 of a word below 128. -/
theorem fdiv_8 : ∀ r : Fin 128, fdiv 8#32 (BitVec.ofNat 32 r.val) = BitVec.ofNat 32 (r.val / 8) := by decide +kernel

/-- The comparison of two small words is that of the numbers. -/
theorem sle_lt (r s : Fin 128) : IntOp.cmpi CmpIPredicate.sle (BitVec.ofNat 32 s.val) (BitVec.ofNat 32 r.val) = BitVec.ofBool (decide (s.val ≤ r.val)) := by
  revert r s; decide +kernel

/-- The equality of two small words is that of the numbers. -/
theorem eq_lt (r s : Fin 16) : IntOp.cmpi CmpIPredicate.eq (BitVec.ofNat 32 r.val) (BitVec.ofNat 32 s.val) = BitVec.ofBool (decide (r.val = s.val)) := by
  revert r s; decide +kernel

/-- The bit of an element, one chunk to the array. -/
theorem bit (r s : Fin 128) : IntOp.andi (IntOp.cmpi CmpIPredicate.eq (fdiv 128#32 (BitVec.ofNat 32 r.val)) (fdiv 128#32 (BitVec.ofNat 32 s.val)))
    (IntOp.cmpi CmpIPredicate.sle (BitVec.ofNat 32 s.val) (BitVec.ofNat 32 r.val)) = BitVec.ofBool (decide (s.val ≤ r.val)) := by
  rw [fdiv_lt, fdiv_lt, sle_lt]
  by_cases h : s.val ≤ r.val <;> simp [h] <;> decide

/-- The bit of an element, chunks of 8. -/
theorem bit_8 (r s : Fin 128) : IntOp.andi (IntOp.cmpi CmpIPredicate.eq (fdiv 8#32 (BitVec.ofNat 32 r.val)) (fdiv 8#32 (BitVec.ofNat 32 s.val)))
    (IntOp.cmpi CmpIPredicate.sle (BitVec.ofNat 32 s.val) (BitVec.ofNat 32 r.val)) = BitVec.ofBool (decide (r.val / 8 = s.val / 8 ∧ s.val ≤ r.val)) := by
  rw [fdiv_8, fdiv_8, sle_lt, eq_lt ⟨r.val / 8, by omega⟩ ⟨s.val / 8, by omega⟩]
  by_cases h : s.val ≤ r.val <;> by_cases h' : r.val / 8 = s.val / 8 <;> simp [h, h'] <;> decide

/-- A decided bit as a number. -/
theorem num (p : Prop) [Decidable p] : FloatOps.uitofp (F := Ideal) FTy.bf16 (BitVec.ofBool (decide p)) = if p then (1 : EReal) else 0 := by
  by_cases h : p
  · simp only [h, decide_true, if_true]
    show (((1 : ℕ) : ℝ) : EReal) = 1
    norm_cast
  · simp only [h, decide_false, if_false]
    show (((0 : ℕ) : ℝ) : EReal) = 0
    norm_cast

end Cert.Tri
end
-- ==== Proof.RecStep.lean ====
module

public import proofs.«01_k».proof.Proof.Rec
public import Idealize.ShloMosaic.Lib.Pipeline.ReadBack

@[expose] public section

set_option maxRecDepth 16384

noncomputable section

/-! One grid point of the recurrence: the stores of the body, and what they leave in the result's block and in the two
    carried arrays. -/

namespace Cert.Rec

open Idealize.ShloMosaic Idealize.ShloMosaic.TcCoe Idealize.SL.Sem
open Cert.KernelIdeal Cert.KernelIdeal.Gen

variable (x0 x1 x2 : Vec Ideal S128x512 .bf16) (x3 : Vec Ideal S128x512 .f32) (x4 : Vec Ideal S128x128 .f32) (x5 : Vec Ideal S16x128 .f32)
  (x6 : Vec Ideal S1x512 .f32) (x7 x8 : Vec Ideal S128x128 .bf16) (M : Vec Ideal S8x128 .f32) (C : Vec Ideal S4x128x256 .f32)

/-- The stores of the four heads' results. -/
def ypieces : List (View.Piece (Elt Ideal) S128x512 .bf16) :=
  [⟨Rect.unit ![0, 384] ![128, 128] inb_S128x512_S128x128_0_384,
      k0_pay66 (F := Ideal) (View.ld (Val := Elt Ideal) (e' := .f32) x6 (Rect.unit ![0, 384] ![1, 128] inb_S1x512_S1x128_0_384))
        (View.ld (Val := Elt Ideal) (e' := .f32) x3 (Rect.unit ![0, 384] ![128, 128] inb_S128x512_S128x128_0_384))
        (k0_pay64 (k0_pay6 x7) (View.ld (Val := Elt Ideal) (e' := .bf16) x0 (Rect.unit ![0, 384] ![128, 128] inb_S128x512_S128x128_0_384))
          (View.ld (Val := Elt Ideal) (e' := .bf16) x1 (Rect.unit ![0, 384] ![128, 128] inb_S128x512_S128x128_0_384))
          (View.ld (Val := Elt Ideal) (e' := .bf16) x2 (Rect.unit ![0, 384] ![128, 128] inb_S128x512_S128x128_0_384)) (k0_pay56 (k0_pay7 x7 x4))
          (View.ld (Val := Elt Ideal) (e' := .f32) M (Rect.unit ![3, 0] ![1, 1] inb_S8x128_S1x1_3_0)) (k0_pay57 x5 (k0_pay8 x5 x8))
          (k0_pay58 (k0_pay7 x7 x4))
          (View.ld (Val := Elt Ideal) (e' := .f32) C (Rect.unit ![3, 0, 0] ![1, 128, 256] inb_S4x128x256_S1x128x256_3_0_0)))
        (k0_pay65 (k0_pay6 x7) (View.ld (Val := Elt Ideal) (e' := .bf16) x0 (Rect.unit ![0, 384] ![128, 128] inb_S128x512_S128x128_0_384))
          (View.ld (Val := Elt Ideal) (e' := .bf16) x1 (Rect.unit ![0, 384] ![128, 128] inb_S128x512_S128x128_0_384))
          (View.ld (Val := Elt Ideal) (e' := .bf16) x2 (Rect.unit ![0, 384] ![128, 128] inb_S128x512_S128x128_0_384)) (k0_pay56 (k0_pay7 x7 x4))
          (View.ld (Val := Elt Ideal) (e' := .f32) M (Rect.unit ![3, 0] ![1, 1] inb_S8x128_S1x1_3_0)) (k0_pay57 x5 (k0_pay8 x5 x8))
          (k0_pay58 (k0_pay7 x7 x4))
          (View.ld (Val := Elt Ideal) (e' := .f32) C (Rect.unit ![3, 0, 0] ![1, 128, 256] inb_S4x128x256_S1x128x256_3_0_0)))⟩,
    ⟨Rect.unit ![0, 256] ![128, 128] inb_S128x512_S128x128_0_256,
      k0_pay51 (F := Ideal) (View.ld (Val := Elt Ideal) (e' := .f32) x3 (Rect.unit ![0, 256] ![128, 128] inb_S128x512_S128x128_0_256))
        (k0_pay50 (k0_pay6 x7) (View.ld (Val := Elt Ideal) (e' := .bf16) x0 (Rect.unit ![0, 256] ![128, 128] inb_S128x512_S128x128_0_256))
          (View.ld (Val := Elt Ideal) (e' := .bf16) x1 (Rect.unit ![0, 256] ![128, 128] inb_S128x512_S128x128_0_256))
          (View.ld (Val := Elt Ideal) (e' := .bf16) x2 (Rect.unit ![0, 256] ![128, 128] inb_S128x512_S128x128_0_256))
          (k0_pay45 (k0_pay7 x7 x4) (View.ld (Val := Elt Ideal) (e' := .f32) M (Rect.unit ![2, 0] ![1, 1] inb_S8x128_S1x1_2_0)))
          (k0_pay46 (k0_pay6 x7) x5 (k0_pay7 x7 x4) (k0_pay8 x5 x8)
            (View.ld (Val := Elt Ideal) (e' := .f32) M (Rect.unit ![2, 0] ![1, 1] inb_S8x128_S1x1_2_0)))
          (k0_pay47 (k0_pay6 x7) x5 (k0_pay7 x7 x4) (k0_pay8 x5 x8)
            (View.ld (Val := Elt Ideal) (e' := .f32) M (Rect.unit ![2, 0] ![1, 1] inb_S8x128_S1x1_2_0)))
          (View.ld (Val := Elt Ideal) (e' := .f32) C (Rect.unit ![2, 0, 0] ![1, 128, 256] inb_S4x128x256_S1x128x256_2_0_0))
          (View.ld (Val := Elt Ideal) (e' := .f32) x6 (Rect.unit ![0, 256] ![1, 128] inb_S1x512_S1x128_0_256)))⟩,
    ⟨Rect.unit ![0, 128] ![128, 128] inb_S128x512_S128x128_0_128,
      k0_pay37 (F := Ideal) (View.ld (Val := Elt Ideal) (e' := .bf16) x0 (Rect.unit ![0, 128] ![128, 128] inb_S128x512_S128x128_0_128))
        (View.ld (Val := Elt Ideal) (e' := .bf16) x2 (Rect.unit ![0, 128] ![128, 128] inb_S128x512_S128x128_0_128))
        (k0_pay32 (k0_pay6 x7) x5 (k0_pay7 x7 x4) (k0_pay8 x5 x8)
          (View.ld (Val := Elt Ideal) (e' := .f32) M (Rect.unit ![1, 0] ![1, 1] inb_S8x128_S1x1_1_0)))
        (k0_pay33 (k0_pay6 x7) x5 (k0_pay7 x7 x4) (k0_pay8 x5 x8)
          (View.ld (Val := Elt Ideal) (e' := .f32) M (Rect.unit ![1, 0] ![1, 1] inb_S8x128_S1x1_1_0)))
        (k0_pay34 (k0_pay6 x7) x5 (k0_pay7 x7 x4) (k0_pay8 x5 x8)
          (View.ld (Val := Elt Ideal) (e' := .bf16) x0 (Rect.unit ![0, 128] ![128, 128] inb_S128x512_S128x128_0_128))
          (View.ld (Val := Elt Ideal) (e' := .bf16) x1 (Rect.unit ![0, 128] ![128, 128] inb_S128x512_S128x128_0_128))
          (View.ld (Val := Elt Ideal) (e' := .f32) M (Rect.unit ![1, 0] ![1, 1] inb_S8x128_S1x1_1_0)))
        (View.ld (Val := Elt Ideal) (e' := .f32) C (Rect.unit ![1, 0, 0] ![1, 128, 256] inb_S4x128x256_S1x128x256_1_0_0))
        (View.ld (Val := Elt Ideal) (e' := .f32) x6 (Rect.unit ![0, 128] ![1, 128] inb_S1x512_S1x128_0_128))
        (View.ld (Val := Elt Ideal) (e' := .f32) x3 (Rect.unit ![0, 128] ![128, 128] inb_S128x512_S128x128_0_128))⟩,
    ⟨Rect.unit ![0, 0] ![128, 128] inb_S128x512_S128x128_0_0,
      k0_pay22 (F := Ideal)
        (k0_pay15 (k0_pay6 x7) x5 (k0_pay7 x7 x4) (k0_pay8 x5 x8)
          (View.ld (Val := Elt Ideal) (e' := .f32) M (Rect.unit ![0, 0] ![1, 1] inb_S8x128_S1x1_0_0)))
        (k0_pay16 (k0_pay6 x7) x5 (k0_pay7 x7 x4) (k0_pay8 x5 x8)
          (View.ld (Val := Elt Ideal) (e' := .f32) M (Rect.unit ![0, 0] ![1, 1] inb_S8x128_S1x1_0_0)))
        (k0_pay17 (k0_pay6 x7) x5 (k0_pay7 x7 x4) (k0_pay8 x5 x8)
          (View.ld (Val := Elt Ideal) (e' := .bf16) x0 (Rect.unit ![0, 0] ![128, 128] inb_S128x512_S128x128_0_0))
          (View.ld (Val := Elt Ideal) (e' := .bf16) x1 (Rect.unit ![0, 0] ![128, 128] inb_S128x512_S128x128_0_0))
          (View.ld (Val := Elt Ideal) (e' := .f32) M (Rect.unit ![0, 0] ![1, 1] inb_S8x128_S1x1_0_0)))
        (k0_pay20 (View.ld (Val := Elt Ideal) (e' := .bf16) x0 (Rect.unit ![0, 0] ![128, 128] inb_S128x512_S128x128_0_0))
          (View.ld (Val := Elt Ideal) (e' := .f32) C (Rect.unit ![0, 0, 0] ![1, 128, 256] inb_S4x128x256_S1x128x256_0_0_0)))
        (k0_pay21 (k0_pay6 x7) x5 (k0_pay7 x7 x4) (k0_pay8 x5 x8)
          (View.ld (Val := Elt Ideal) (e' := .bf16) x0 (Rect.unit ![0, 0] ![128, 128] inb_S128x512_S128x128_0_0))
          (View.ld (Val := Elt Ideal) (e' := .bf16) x1 (Rect.unit ![0, 0] ![128, 128] inb_S128x512_S128x128_0_0))
          (View.ld (Val := Elt Ideal) (e' := .bf16) x2 (Rect.unit ![0, 0] ![128, 128] inb_S128x512_S128x128_0_0))
          (View.ld (Val := Elt Ideal) (e' := .f32) M (Rect.unit ![0, 0] ![1, 1] inb_S8x128_S1x1_0_0))
          (View.ld (Val := Elt Ideal) (e' := .f32) C (Rect.unit ![0, 0, 0] ![1, 128, 256] inb_S4x128x256_S1x128x256_0_0_0)))
        (View.ld (Val := Elt Ideal) (e' := .f32) x6 (Rect.unit ![0, 0] ![1, 128] inb_S1x512_S1x128_0_0))
        (View.ld (Val := Elt Ideal) (e' := .f32) x3 (Rect.unit ![0, 0] ![128, 128] inb_S128x512_S128x128_0_0))⟩]

/-- The stores of the four heads' states. -/
def cpieces : List (View.Piece (Elt Ideal) S4x128x256 .f32) :=
  [⟨Rect.unit ![3, 0, 0] ![1, 128, 256] inb_S4x128x256_S1x128x256_3_0_0,
      k0_pay68 (F := Ideal) (View.ld (Val := Elt Ideal) (e' := .bf16) x1 (Rect.unit ![0, 384] ![128, 128] inb_S128x512_S128x128_0_384)) (k0_pay55 x4) (k0_pay56 (k0_pay7 x7 x4))
        (k0_pay60 (k0_pay56 (k0_pay7 x7 x4)) (View.ld (Val := Elt Ideal) (e' := .f32) M (Rect.unit ![3, 0] ![1, 1] inb_S8x128_S1x1_3_0)))
        (k0_pay61 (k0_pay6 x7) (k0_pay56 (k0_pay7 x7 x4)) (View.ld (Val := Elt Ideal) (e' := .f32) M (Rect.unit ![3, 0] ![1, 1] inb_S8x128_S1x1_3_0))
          (k0_pay57 x5 (k0_pay8 x5 x8)) (k0_pay58 (k0_pay7 x7 x4)))
        (k0_pay62 (View.ld (Val := Elt Ideal) (e' := .f32) C (Rect.unit ![3, 0, 0] ![1, 128, 256] inb_S4x128x256_S1x128x256_3_0_0)))
        (k0_pay63 (k0_pay10 k0_pay9) (View.ld (Val := Elt Ideal) (e' := .bf16) x2 (Rect.unit ![0, 384] ![128, 128] inb_S128x512_S128x128_0_384)))⟩,
    ⟨Rect.unit ![2, 0, 0] ![1, 128, 256] inb_S4x128x256_S1x128x256_2_0_0,
      k0_pay53 (F := Ideal) (View.ld (Val := Elt Ideal) (e' := .bf16) x1 (Rect.unit ![0, 256] ![128, 128] inb_S128x512_S128x128_0_256)) (k0_pay42 x4) (k0_pay43 (k0_pay7 x7 x4))
        (k0_pay45 (k0_pay7 x7 x4) (View.ld (Val := Elt Ideal) (e' := .f32) M (Rect.unit ![2, 0] ![1, 1] inb_S8x128_S1x1_2_0)))
        (k0_pay46 (k0_pay6 x7) x5 (k0_pay7 x7 x4) (k0_pay8 x5 x8) (View.ld (Val := Elt Ideal) (e' := .f32) M (Rect.unit ![2, 0] ![1, 1] inb_S8x128_S1x1_2_0)))
        (k0_pay48 (View.ld (Val := Elt Ideal) (e' := .f32) C (Rect.unit ![2, 0, 0] ![1, 128, 256] inb_S4x128x256_S1x128x256_2_0_0)))
        (k0_pay49 (k0_pay10 k0_pay9) (View.ld (Val := Elt Ideal) (e' := .bf16) x2 (Rect.unit ![0, 256] ![128, 128] inb_S128x512_S128x128_0_256)))⟩,
    ⟨Rect.unit ![1, 0, 0] ![1, 128, 256] inb_S4x128x256_S1x128x256_1_0_0,
      k0_pay40 (F := Ideal) (View.ld (Val := Elt Ideal) (e' := .bf16) x1 (Rect.unit ![0, 128] ![128, 128] inb_S128x512_S128x128_0_128))
        (k0_pay31 (k0_pay7 x7 x4) (View.ld (Val := Elt Ideal) (e' := .f32) M (Rect.unit ![1, 0] ![1, 1] inb_S8x128_S1x1_1_0)))
        (k0_pay35 (View.ld (Val := Elt Ideal) (e' := .f32) C (Rect.unit ![1, 0, 0] ![1, 128, 256] inb_S4x128x256_S1x128x256_1_0_0)))
        (k0_pay36 (k0_pay10 k0_pay9) (View.ld (Val := Elt Ideal) (e' := .bf16) x2 (Rect.unit ![0, 128] ![128, 128] inb_S128x512_S128x128_0_128)))
        (k0_pay38 (k0_pay32 (k0_pay6 x7) x5 (k0_pay7 x7 x4) (k0_pay8 x5 x8) (View.ld (Val := Elt Ideal) (e' := .f32) M (Rect.unit ![1, 0] ![1, 1] inb_S8x128_S1x1_1_0))))
        (k0_pay39 (k0_pay28 x4) (k0_pay29 (k0_pay7 x7 x4))
          (k0_pay32 (k0_pay6 x7) x5 (k0_pay7 x7 x4) (k0_pay8 x5 x8) (View.ld (Val := Elt Ideal) (e' := .f32) M (Rect.unit ![1, 0] ![1, 1] inb_S8x128_S1x1_1_0))))⟩,
    ⟨Rect.unit ![0, 0, 0] ![1, 128, 256] inb_S4x128x256_S1x128x256_0_0_0,
      k0_pay26 (F := Ideal)
        (k0_pay24 (k0_pay14 (k0_pay7 x7 x4) (View.ld (Val := Elt Ideal) (e' := .f32) M (Rect.unit ![0, 0] ![1, 1] inb_S8x128_S1x1_0_0)))
          (k0_pay15 (k0_pay6 x7) x5 (k0_pay7 x7 x4) (k0_pay8 x5 x8) (View.ld (Val := Elt Ideal) (e' := .f32) M (Rect.unit ![0, 0] ![1, 1] inb_S8x128_S1x1_0_0)))
          (k0_pay18 (View.ld (Val := Elt Ideal) (e' := .f32) C (Rect.unit ![0, 0, 0] ![1, 128, 256] inb_S4x128x256_S1x128x256_0_0_0))))
        (k0_pay25 (View.ld (Val := Elt Ideal) (e' := .bf16) x1 (Rect.unit ![0, 0] ![128, 128] inb_S128x512_S128x128_0_0)) (k0_pay11 x4) (k0_pay12 (k0_pay7 x7 x4))
          (k0_pay15 (k0_pay6 x7) x5 (k0_pay7 x7 x4) (k0_pay8 x5 x8) (View.ld (Val := Elt Ideal) (e' := .f32) M (Rect.unit ![0, 0] ![1, 1] inb_S8x128_S1x1_0_0)))
          (k0_pay19 k0_pay9 (View.ld (Val := Elt Ideal) (e' := .bf16) x2 (Rect.unit ![0, 0] ![128, 128] inb_S128x512_S128x128_0_0))))⟩]

/-- The stores of the four heads' scales. -/
def mpieces : List (View.Piece (Elt Ideal) S8x128 .f32) :=
  [⟨Rect.unit ![3, 0] ![1, 128] inb_S8x128_S1x128_3_0,
      k0_pay69 (F := Ideal) (k0_pay61 (k0_pay6 x7) (k0_pay56 (k0_pay7 x7 x4)) (View.ld (Val := Elt Ideal) (e' := .f32) M (Rect.unit ![3, 0] ![1, 1] inb_S8x128_S1x1_3_0))
        (k0_pay57 x5 (k0_pay8 x5 x8)) (k0_pay58 (k0_pay7 x7 x4)))⟩,
    ⟨Rect.unit ![2, 0] ![1, 128] inb_S8x128_S1x128_2_0,
      k0_pay54 (F := Ideal) (k0_pay46 (k0_pay6 x7) x5 (k0_pay7 x7 x4) (k0_pay8 x5 x8) (View.ld (Val := Elt Ideal) (e' := .f32) M (Rect.unit ![2, 0] ![1, 1] inb_S8x128_S1x1_2_0)))⟩,
    ⟨Rect.unit ![1, 0] ![1, 128] inb_S8x128_S1x128_1_0,
      k0_pay41 (F := Ideal) (k0_pay38 (k0_pay32 (k0_pay6 x7) x5 (k0_pay7 x7 x4) (k0_pay8 x5 x8) (View.ld (Val := Elt Ideal) (e' := .f32) M (Rect.unit ![1, 0] ![1, 1] inb_S8x128_S1x1_1_0))))⟩,
    ⟨Rect.unit ![0, 0] ![1, 128] inb_S8x128_S1x128_0_0,
      k0_pay27 (F := Ideal) (k0_pay23 (k0_pay15 (k0_pay6 x7) x5 (k0_pay7 x7 x4) (k0_pay8 x5 x8) (View.ld (Val := Elt Ideal) (e' := .f32) M (Rect.unit ![0, 0] ![1, 1] inb_S8x128_S1x1_0_0))))⟩]

/-- What the blocks of the gates and of the two masks are known to hold. -/
structure Blocks (x4 : Vec Ideal S128x128 .f32) (x5 : Vec Ideal S16x128 .f32) (x7 x8 : Vec Ideal S128x128 .bf16) : Prop where
  tri : ∀ t s, x7 (ix2 t s) = if s.val ≤ t.val then 1 else 0
  triu : ∀ s t, x8 (ix2 s t) = if s.val ≤ t.val then 1 else 0
  row : ∀ (g : Fin 8) t, x5 (ix2 ⟨g.val, by omega⟩ t) = x4 (ix2 t ⟨g.val, by omega⟩)
  neg : ∀ (h : Fin 4) t, x4 (ix2 t ⟨4 + h.val, by omega⟩) ≤ 0

variable {x4 x5 x7 x8}

/-- The mask's bits. -/
theorem Blocks.mask (hb : Blocks x4 x5 x7 x8) : Mask (k0_pay6 (F := Ideal) x7) := by
  intro t s
  pointwise [k0_pay6, k0_pay5]
  rw [hb.tri]
  by_cases h : s.val ≤ t.val
  · simp [h]
  · simp [h]

/-- A head's gates and their running sums, as the body finds them in its blocks. -/
theorem Blocks.gates (hb : Blocks x4 x5 x7 x8) (h : Fin 4) :
    Gates h x4 x5 (k0_pay7 (F := Ideal) x7 x4) (k0_pay8 (F := Ideal) x5 x8) (fun s => x4 (ix2 s ⟨4 + h.val, by omega⟩)) (fun s => x4 (ix2 s ⟨h.val, by omega⟩)) where
  col t := rfl
  row t := hb.row ⟨h.val, by omega⟩ t
  ccum t := by
    pointwise [k0_pay7, k0_pay5]
    simp only [hb.tri]
    exact split3 (fun s => x4 (ix2 s ⟨4 + h.val, by omega⟩)) (fun s => s.val ≤ t.val) fun s hs => by
      have := hb.neg h s
      rw [hs] at this
      exact absurd this (by simp)
  rcum t := by
    pointwise [k0_pay8]
    have hr : ∀ s, x5 (ix2 ⟨4 + h.val, by omega⟩ s) = x4 (ix2 s ⟨4 + h.val, by omega⟩) := hb.row ⟨4 + h.val, by omega⟩
    simp only [hb.triu, hr]
    simp only [mul_comm _ (ite _ _ _)]
    exact split3 (fun s => x4 (ix2 s ⟨4 + h.val, by omega⟩)) (fun s => s.val ≤ t.val) fun s hs => by
      have := hb.neg h s
      rw [hs] at this
      exact absurd this (by simp)

/-- A column of the four heads' width lies in one head. -/
theorem head_split {h n : Fin 4} {e w : Fin 128} {o : Nat} (ho : o = 128 * n.val) (hx : 128 * h.val + e.val = o + w.val) : h = n ∧ e = w :=
  ⟨Fin.ext (by omega), Fin.ext (by omega)⟩

/-- The result's block after the four heads. -/
theorem y_canon (hb : Blocks x4 x5 x7 x8) (h : Fin 4) (t e : Fin 128) :
    View.canon (ypieces x0 x1 x2 x3 x4 x5 x6 x7 x8 M C) (ix2 t ⟨128 * h.val + e.val, by omega⟩)
      = hout (hv (fun s => x4 (ix2 s ⟨4 + h.val, by omega⟩)) (fun s => x4 (ix2 s ⟨h.val, by omega⟩)) (M (ix2 ⟨h.val, by omega⟩ 0))
          (fun t d => x0 (ix2 t ⟨128 * h.val + d.val, by omega⟩)) (fun t d => x1 (ix2 t ⟨128 * h.val + d.val, by omega⟩))
          (fun t d => x2 (ix2 t ⟨128 * h.val + d.val, by omega⟩)) (fun d e => C (ix3 h d e)) t)
        (fun e => x3 (ix2 t ⟨128 * h.val + e.val, by omega⟩)) (fun e => x6 (ix2 0 ⟨128 * h.val + e.val, by omega⟩)) e := by
  unfold ypieces
  canon_tiles x hx
  all_goals
    obtain ⟨u, w, rfl⟩ : ∃ (u w : Fin 128), x = ix2 u w := ⟨x 0, x 1, by idx_ext⟩
    obtain rfl : t = u := Fin.ext hx0
  · obtain ⟨rfl, rfl⟩ := head_split (n := 3) rfl hx1
    refine (y3_at _ _ _ _ _ _ _ hb.mask (hb.gates 3) t e).trans ?_
    pointwise
  · obtain ⟨rfl, rfl⟩ := head_split (n := 2) rfl hx1
    refine (y2_at _ _ _ _ _ _ _ hb.mask (hb.gates 2) t e).trans ?_
    pointwise
  · obtain ⟨rfl, rfl⟩ := head_split (n := 1) rfl hx1
    refine (y1_at _ _ _ _ _ _ _ hb.mask (hb.gates 1) t e).trans ?_
    pointwise
  · obtain ⟨rfl, rfl⟩ := head_split (n := 0) (o := 0) rfl (by simpa using hx1)
    refine (y0_at _ _ _ _ _ _ _ hb.mask (hb.gates 0) t e).trans ?_
    pointwise

/-- The four heads' states after the stores. -/
theorem c_canon (hb : Blocks x4 x5 x7 x8) (h : Fin 4) (d : Fin 128) (e : Fin 256) :
    View.canon (cpieces x1 x2 x4 x5 x7 x8 M C) (ix3 h d e)
      = xn (fun s => x4 (ix2 s ⟨4 + h.val, by omega⟩)) (fun s => x4 (ix2 s ⟨h.val, by omega⟩)) (M (ix2 ⟨h.val, by omega⟩ 0))
          (fun t d => x1 (ix2 t ⟨128 * h.val + d.val, by omega⟩))
          (fun t d => x2 (ix2 t ⟨128 * h.val + d.val, by omega⟩)) (fun d e => C (ix3 h d e)) d e := by
  unfold cpieces
  canon_tiles x hx
  all_goals
    obtain ⟨o, u, w, rfl⟩ : ∃ (o : Fin 1) (u : Fin 128) (w : Fin 256), x = ix3 o u w := ⟨x 0, x 1, x 2, by idx_ext⟩
    obtain rfl : d = u := Fin.ext hx1
    obtain rfl : e = w := Fin.ext hx2
    obtain rfl : o = 0 := Fin.ext (by omega)
  · obtain rfl : h = 3 := Fin.ext hx0
    refine (c3_at _ _ _ _ hb.mask (hb.gates 3) d e).trans ?_
    pointwise
  · obtain rfl : h = 2 := Fin.ext hx0
    refine (c2_at _ _ _ _ hb.mask (hb.gates 2) d e).trans ?_
    pointwise
  · obtain rfl : h = 1 := Fin.ext hx0
    refine (c1_at _ _ _ _ hb.mask (hb.gates 1) d e).trans ?_
    pointwise
  · obtain rfl : h = 0 := Fin.ext (by simpa using hx0)
    refine (c0_at _ _ _ _ hb.mask (hb.gates 0) d e).trans ?_
    pointwise

/-- A row below the fourth is stored. -/
theorem m_mem (x4 : Vec Ideal S128x128 .f32) (x5 : Vec Ideal S16x128 .f32) (x7 x8 : Vec Ideal S128x128 .bf16) (h : Fin 4) (e : Fin 128) : ∃ p ∈ mpieces x4 x5 x7 x8 M, (ix2 (⟨h.val, by omega⟩ : Fin 8) e : S8x128.Idx) ∈ p.1.set := by
  unfold mpieces
  fin_cases h
  · refine ⟨_, .tail _ (.tail _ (.tail _ (.head _))), ?_⟩
    rw [Rect.mem_set_unit]; intro a; fin_cases a <;> simp
  · refine ⟨_, .tail _ (.tail _ (.head _)), ?_⟩
    rw [Rect.mem_set_unit]; intro a; fin_cases a <;> simp
  · refine ⟨_, .tail _ (.head _), ?_⟩
    rw [Rect.mem_set_unit]; intro a; fin_cases a <;> simp
  · refine ⟨_, .head _, ?_⟩
    rw [Rect.mem_set_unit]; intro a; fin_cases a <;> simp

/-- The four heads' scales after the stores. -/
theorem m_canon (hb : Blocks x4 x5 x7 x8) (h : Fin 4) (e : Fin 128) :
    View.canon (mpieces x4 x5 x7 x8 M) (ix2 ⟨h.val, by omega⟩ e)
      = mn (fun s => x4 (ix2 s ⟨4 + h.val, by omega⟩)) (fun s => x4 (ix2 s ⟨h.val, by omega⟩)) (M (ix2 ⟨h.val, by omega⟩ 0)) := by
  unfold mpieces
  canon_tiles x hx using m_mem M x4 x5 x7 x8 h e
  all_goals
    obtain ⟨o, w, rfl⟩ : ∃ (o : Fin 1) (w : Fin 128), x = ix2 o w := ⟨x 0, x 1, by idx_ext⟩
    obtain rfl : e = w := Fin.ext hx1
    obtain rfl : o = 0 := Fin.ext (by omega)
  · obtain rfl : h = 3 := Fin.ext hx0
    refine (m3_at _ hb.mask (hb.gates 3) e).trans ?_
    pointwise
  · obtain rfl : h = 2 := Fin.ext hx0
    refine (m2_at _ hb.mask (hb.gates 2) e).trans ?_
    pointwise
  · obtain rfl : h = 1 := Fin.ext hx0
    refine (m1_at _ hb.mask (hb.gates 1) e).trans ?_
    pointwise
  · obtain rfl : h = 0 := Fin.ext (by simpa using hx0)
    refine (m0_at _ hb.mask (hb.gates 0) e).trans ?_
    pointwise

variable (x4 x5 x7 x8)

/-- The stores of the states fill the carried array. -/
theorem c_cover (y : S4x128x256.Idx) : ∃ p ∈ cpieces x1 x2 x4 x5 x7 x8 M C, y ∈ p.1.set :=
  View.cover_of_tiledL (cpieces x1 x2 x4 x5 x7 x8 M C) S1x128x256.size (by sl_kernel_rfl) y

/-- The rows from the fourth on are not stored. -/
theorem m_not_mem (r : Fin 8) (hr : 4 ≤ r.val) (e : Fin 128) : ∀ p ∈ mpieces x4 x5 x7 x8 M, (ix2 r e : S8x128.Idx) ∉ p.1.set := by
  intro p hp hm
  simp only [mpieces, List.mem_cons, List.not_mem_nil, or_false] at hp
  rcases hp with rfl | rfl | rfl | rfl <;>
  · rw [Rect.mem_set_unit] at hm
    have := (hm 0).2
    simp at this
    omega

/-- Earlier stores do not matter where a later one covers. -/
theorem canon_app {S : Shape} {φ : EltTy} (L' : List (View.Piece (Elt Ideal) S φ)) (y : S.Idx) :
    ∀ L : List (View.Piece (Elt Ideal) S φ), (∃ p ∈ L, y ∈ p.1.set) → View.canon (L ++ L') y = View.canon L y
  | [], h => by obtain ⟨_, hm, _⟩ := h; exact absurd hm List.not_mem_nil
  | p :: L, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem _ _ hy, View.canon_cons_of_not_mem _ _ hy]
      obtain ⟨q, hq, hm⟩ := h
      rcases List.mem_cons.mp hq with rfl | hq
      · exact absurd hm hy
      · exact canon_app L' y L ⟨q, hq, hm⟩

/-- Later stores do not matter where none of them covers. -/
theorem canon_skip {S : Shape} {φ : EltTy} (L' : List (View.Piece (Elt Ideal) S φ)) (y : S.Idx) :
    ∀ L : List (View.Piece (Elt Ideal) S φ), (∀ p ∈ L, y ∉ p.1.set) → View.canon (L ++ L') y = View.canon L' y
  | [], _ => rfl
  | p :: L, h => by
    rw [List.cons_append, View.canon_cons_of_not_mem _ _ (h p (.head _))]
    exact canon_skip L' y L fun q hq => h q (.tail _ hq)

end Cert.Rec
end
-- ==== Proof.RecPoint.lean ====
module

public import proofs.«01_k».proof.Proof.RecStep
public import Idealize.ShloMosaic.Lib.Pipeline.ReadBack

@[expose] public section

set_option maxRecDepth 16384

noncomputable section

/-! What a grid point of the recurrence leaves, in terms of what the point before left. -/

namespace Cert.Rec

open Idealize.ShloMosaic Idealize.ShloMosaic.TcCoe Idealize.SL.Sem
open Cert.KernelIdeal Cert.KernelIdeal.Gen

section Points
variable (m : (ℓ : Loc nD τ sig) → Buf (Elt Ideal) ℓ)

/-- The result's block after a batch's first point. -/
theorem first_y (c : Dev nD) (t : Fin cfg0.N) (h0 : t.val % 16 = 0) :
    (outsAt0 m c t.val t.isLt).1 = View.canon (ypieces (iblk m c 0 t) (iblk m c 1 t) (iblk m c 2 t) (iblk m c 3 t) (iblk m c 4 t) (iblk m c 5 t) (iblk m c 6 t) (iblk m c 7 t) (iblk m c 8 t) (k0_pay4 (F := Ideal)) (k0_pay3 (F := Ideal))) := by
  rw [outsAt0_A m c t h0 (by omega)]
  frame_open
  simp (disch := decide) only [↓ View.readCov_skip, ↓ View.readCov_cons_toLoadRect, ↓ View.readCov_fill]
  frame_out
  rfl

/-- The carried states after a batch's first point. -/
theorem first_c (c : Dev nD) (t : Fin cfg0.N) (h0 : t.val % 16 = 0) :
    (outsAt0 m c t.val t.isLt).2.2.2.1 = View.canon (cpieces (iblk m c 1 t) (iblk m c 2 t) (iblk m c 4 t) (iblk m c 5 t) (iblk m c 7 t) (iblk m c 8 t) (k0_pay4 (F := Ideal)) (k0_pay3 (F := Ideal))
      ++ [⟨Rect.unit ![0, 0, 0] ![4, 128, 256] inb_S4x128x256_S4x128x256_0_0_0, k0_pay3 (F := Ideal)⟩]) := by
  rw [outsAt0_A m c t h0 (by omega)]
  frame_open
  simp (disch := decide) only [↓ View.readCov_skip, ↓ View.readCov_cons_toLoadRect, ↓ View.readCov_fill]
  frame_out
  rfl

/-- The carried scales after a batch's first point. -/
theorem first_m (c : Dev nD) (t : Fin cfg0.N) (h0 : t.val % 16 = 0) :
    (outsAt0 m c t.val t.isLt).2.2.2.2 = View.canon (mpieces (iblk m c 4 t) (iblk m c 5 t) (iblk m c 7 t) (iblk m c 8 t) (k0_pay4 (F := Ideal))
      ++ [⟨Rect.unit ![0, 0] ![8, 128] inb_S8x128_S8x128_0_0, k0_pay4 (F := Ideal)⟩]) := by
  rw [outsAt0_A m c t h0 (by omega)]
  frame_open
  simp (disch := decide) only [↓ View.readCov_skip, ↓ View.readCov_cons_toLoadRect, ↓ View.readCov_fill]
  frame_out
  rfl

/-- The result's block after a later point. -/
theorem later_y (c : Dev nD) (t : Fin cfg0.N) (h0 : ¬t.val % 16 = 0) (hp : t.val - 1 < cfg0.N) :
    (outsAt0 m c t.val t.isLt).1 = View.canon (ypieces (iblk m c 0 t) (iblk m c 1 t) (iblk m c 2 t) (iblk m c 3 t) (iblk m c 4 t) (iblk m c 5 t) (iblk m c 6 t) (iblk m c 7 t) (iblk m c 8 t)
      (outsAt0 m c (t.val - 1) hp).2.2.2.2 (outsAt0 m c (t.val - 1) hp).2.2.2.1) := by
  by_cases h1 : t.val % 16 = 15
  · rw [outsAt0_C m c t h0 h1]
    frame_out
    generalize outsAt0 m c (t.val - 1) hp = X
    generalize hM : View.read (Elt Ideal) (View.whole cc0_scratch1) (Memref.IsWhole.unread (Memref.isWhole_whole cc0_scratch1) X.2.2.2.2) = M1
    generalize hC : View.read (Elt Ideal) (View.whole cc0_scratch0) (Memref.IsWhole.unread (Memref.isWhole_whole cc0_scratch0) X.2.2.2.1) = C1
    have eM : M1 = X.2.2.2.2 := hM.symm.trans (read_unread_whole _ _ _)
    have eC : C1 = X.2.2.2.1 := hC.symm.trans (read_unread_whole _ _ _)
    rw [← eM, ← eC]
    rfl
  · rw [outsAt0_B m c t h0 h1]
    frame_out
    generalize outsAt0 m c (t.val - 1) hp = X
    generalize hM : View.read (Elt Ideal) (View.whole cc0_scratch1) (Memref.IsWhole.unread (Memref.isWhole_whole cc0_scratch1) X.2.2.2.2) = M1
    generalize hC : View.read (Elt Ideal) (View.whole cc0_scratch0) (Memref.IsWhole.unread (Memref.isWhole_whole cc0_scratch0) X.2.2.2.1) = C1
    have eM : M1 = X.2.2.2.2 := hM.symm.trans (read_unread_whole _ _ _)
    have eC : C1 = X.2.2.2.1 := hC.symm.trans (read_unread_whole _ _ _)
    rw [← eM, ← eC]
    rfl

/-- The carried states after a later point. -/
theorem later_c (c : Dev nD) (t : Fin cfg0.N) (h0 : ¬t.val % 16 = 0) (hp : t.val - 1 < cfg0.N) :
    (outsAt0 m c t.val t.isLt).2.2.2.1 = View.canon (cpieces (iblk m c 1 t) (iblk m c 2 t) (iblk m c 4 t) (iblk m c 5 t) (iblk m c 7 t) (iblk m c 8 t)
      (outsAt0 m c (t.val - 1) hp).2.2.2.2 (outsAt0 m c (t.val - 1) hp).2.2.2.1) := by
  by_cases h1 : t.val % 16 = 15
  · rw [outsAt0_C m c t h0 h1]
    frame_out
    generalize outsAt0 m c (t.val - 1) hp = X
    generalize hM : View.read (Elt Ideal) (View.whole cc0_scratch1) (Memref.IsWhole.unread (Memref.isWhole_whole cc0_scratch1) X.2.2.2.2) = M1
    generalize hC : View.read (Elt Ideal) (View.whole cc0_scratch0) (Memref.IsWhole.unread (Memref.isWhole_whole cc0_scratch0) X.2.2.2.1) = C1
    have eM : M1 = X.2.2.2.2 := hM.symm.trans (read_unread_whole _ _ _)
    have eC : C1 = X.2.2.2.1 := hC.symm.trans (read_unread_whole _ _ _)
    rw [← eM, ← eC]
    rfl
  · rw [outsAt0_B m c t h0 h1]
    frame_out
    generalize outsAt0 m c (t.val - 1) hp = X
    generalize hM : View.read (Elt Ideal) (View.whole cc0_scratch1) (Memref.IsWhole.unread (Memref.isWhole_whole cc0_scratch1) X.2.2.2.2) = M1
    generalize hC : View.read (Elt Ideal) (View.whole cc0_scratch0) (Memref.IsWhole.unread (Memref.isWhole_whole cc0_scratch0) X.2.2.2.1) = C1
    have eM : M1 = X.2.2.2.2 := hM.symm.trans (read_unread_whole _ _ _)
    have eC : C1 = X.2.2.2.1 := hC.symm.trans (read_unread_whole _ _ _)
    rw [← eM, ← eC]
    rfl

/-- The carried scales after a later point: the stores over the scales before it. -/
theorem later_m (c : Dev nD) (t : Fin cfg0.N) (h0 : ¬t.val % 16 = 0) (hp : t.val - 1 < cfg0.N) :
    ∃ f : (View.whole (cc0_scratch1 : Ref sig .tc)).ty.Contents (Elt Ideal), View.read (Elt Ideal) (View.whole cc0_scratch1) f = (outsAt0 m c (t.val - 1) hp).2.2.2.2 ∧
    (outsAt0 m c t.val t.isLt).2.2.2.2 = View.read (Elt Ideal) (View.whole cc0_scratch1) ((View.whole cc0_scratch1).writes (Elt Ideal) f
      (mpieces (iblk m c 4 t) (iblk m c 5 t) (iblk m c 7 t) (iblk m c 8 t) (outsAt0 m c (t.val - 1) hp).2.2.2.2)) := by
  by_cases h1 : t.val % 16 = 15
  · rw [outsAt0_C m c t h0 h1]
    frame_out
    generalize outsAt0 m c (t.val - 1) hp = X
    refine ⟨Memref.IsWhole.unread (Memref.isWhole_whole cc0_scratch1) X.2.2.2.2, read_unread_whole _ _ _, ?_⟩
    generalize hM : View.read (Elt Ideal) (View.whole cc0_scratch1) (Memref.IsWhole.unread (Memref.isWhole_whole cc0_scratch1) X.2.2.2.2) = M1
    have eM : M1 = X.2.2.2.2 := hM.symm.trans (read_unread_whole _ _ _)
    generalize hf : Memref.IsWhole.unread (Memref.isWhole_whole cc0_scratch1) X.2.2.2.2 = f
    rw [← eM]
    rfl
  · rw [outsAt0_B m c t h0 h1]
    frame_out
    generalize outsAt0 m c (t.val - 1) hp = X
    refine ⟨Memref.IsWhole.unread (Memref.isWhole_whole cc0_scratch1) X.2.2.2.2, read_unread_whole _ _ _, ?_⟩
    generalize hM : View.read (Elt Ideal) (View.whole cc0_scratch1) (Memref.IsWhole.unread (Memref.isWhole_whole cc0_scratch1) X.2.2.2.2) = M1
    have eM : M1 = X.2.2.2.2 := hM.symm.trans (read_unread_whole _ _ _)
    generalize hf : Memref.IsWhole.unread (Memref.isWhole_whole cc0_scratch1) X.2.2.2.2 = f
    rw [← eM]
    rfl

/-- A batch's last point copies the carried arrays out. -/
theorem last_c (c : Dev nD) (t : Fin cfg0.N) (h1 : t.val % 16 = 15) :
    (outsAt0 m c t.val t.isLt).2.1 = k0_pay1 (F := Ideal) (outsAt0 m c t.val t.isLt).2.2.2.1 := by
  rw [outsAt0_C m c t (by omega) h1]
  frame_out
  refine congrArg (k0_pay1 (F := Ideal)) ?_
  rw [View.readCov_eq_canon']
  generalize hA : View.canon (Val := Elt Ideal) _ = A
  funext j
  refine congrArg A (funext fun a => Fin.ext ?_)
  fin_cases a
  · show 0 + 1 * (j 0).val = (j 0).val
    omega
  · show 0 + 1 * (j 1).val = (j 1).val
    omega
  · show 0 + 1 * (j 2).val = (j 2).val
    omega

/-- The same for the scales. -/
theorem last_m (c : Dev nD) (t : Fin cfg0.N) (h1 : t.val % 16 = 15) :
    (outsAt0 m c t.val t.isLt).2.2.1 = k0_pay2 (F := Ideal) (outsAt0 m c t.val t.isLt).2.2.2.2 := by
  rw [outsAt0_C m c t (by omega) h1]
  frame_out

end Points

end Cert.Rec
end
-- ==== Proof.RecKernel.lean ====
module

public import proofs.«01_k».proof.Proof.RecPoint
public import proofs.«01_k».proof.Proof.Tri
public import proofs.«01_k».proof.Proof.Gen.KernelIdeal.Value
public import Idealize.ShloMosaic.Lib.Pipeline.ReadBack
public import Idealize.ShloMosaic.Lib.Pipeline.ValueKit

@[expose] public section

set_option maxRecDepth 16384

noncomputable section

/-! The recurrence as the kernel runs it over its grid: what every point leaves, in terms of the call's arguments. -/

namespace Cert.Rec

open Idealize.ShloMosaic Idealize.ShloMosaic.TcCoe Idealize.SL.Sem
open Cert.KernelIdeal Cert.KernelIdeal.Gen

/-- Token `s` of chunk `j` of batch `b`. -/
def tok (b j : ℕ) (s : Fin 128) : Fin 16384 := ⟨(2048 * b + 128 * j + s.val) % 16384, Nat.mod_lt _ (by decide)⟩

/-- Head `h` of a chunk of an array of four heads. -/
def hd (x : Fin 16384 → Fin 512 → EReal) (b j : ℕ) (h : Fin 4) (t e : Fin 128) : EReal := x (tok b j t) ⟨128 * h.val + e.val, by omega⟩

/-- The logarithms of head `h`'s forget gates over a chunk. -/
def lfs (g : Fin 16384 → Fin 128 → EReal) (b j : ℕ) (h : Fin 4) (s : Fin 128) : EReal := g (tok b j s) ⟨4 + h.val, by omega⟩

/-- Head `h`'s input gates over a chunk. -/
def igs (g : Fin 16384 → Fin 128 → EReal) (b j : ℕ) (h : Fin 4) (s : Fin 128) : EReal := g (tok b j s) ⟨h.val, by omega⟩

/-- The state and its scale after `j` chunks of batch `b`, head `h`. -/
def st (k v : Fin 16384 → Fin 512 → EReal) (g : Fin 16384 → Fin 128 → EReal) (b : ℕ) (h : Fin 4) : ℕ → (Fin 128 → Fin 256 → EReal) × EReal
  | 0 => (fun _ _ => 0, 0)
  | j + 1 => (xn (lfs g b j h) (igs g b j h) (st k v g b h j).2 (hd k b j h) (hd v b j h) (st k v g b h j).1, mn (lfs g b j h) (igs g b j h) (st k v g b h j).2)

/-- The result of head `h` over a chunk. -/
def yv (q k v : Fin 16384 → Fin 512 → EReal) (g : Fin 16384 → Fin 128 → EReal) (b j : ℕ) (h : Fin 4) (t e : Fin 128) : EReal :=
  hv (lfs g b j h) (igs g b j h) (st k v g b h j).2 (hd q b j h) (hd k b j h) (hd v b j h) (st k v g b h j).1 t e

variable (m : (ℓ : Loc nD τ sig) → Buf (Elt Ideal) ℓ)

/-- The blocks of the grid. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, t.val] ∧ win0_6.index t = ![0, 0] ∧ win0_7.index t = ![0, 0] ∧ win0_8.index t = ![0, 0] := (by decide +kernel : ∀ t : Fin grid0.N, _)

/-- Row `r` of block `t` of the tokens. -/
def at_ (t : Fin cfg0.N) (r : Fin 128) : Fin 16384 := ⟨t.val * 128 + r.val, by have := t.isLt; have : cfg0.N = 128 := N_0; omega⟩

/-- Block `t` holds chunk `t % 16` of batch `t / 16`. -/
theorem at_tok (t : Fin cfg0.N) (r : Fin 128) : at_ t r = tok (t.val / 16) (t.val % 16) r := by
  refine Fin.ext ?_
  show t.val * 128 + r.val = (2048 * (t.val / 16) + 128 * (t.val % 16) + r.val) % 16384
  have := t.isLt; have : cfg0.N = 128 := N_0
  omega

/-- A point's block of the queries. -/
theorem b0 (c : Dev nD) (t : Fin cfg0.N) (r : Fin 128) (j : Fin 512) : (iblk m c 0 t : FVec Ideal S128x512 .bf16) (ix2 r j) = (m ((c : Thread nD τ).loc main_arg0) : FVec Ideal S16384x512 .bf16) (ix2 (at_ t r) j) := by
  unfold at_; blk_ext [iblk, V, idx t]

/-- A point's block of the keys. -/
theorem b1 (c : Dev nD) (t : Fin cfg0.N) (r : Fin 128) (j : Fin 512) : (iblk m c 1 t : FVec Ideal S128x512 .bf16) (ix2 r j) = (m ((c : Thread nD τ).loc main_arg1) : FVec Ideal S16384x512 .bf16) (ix2 (at_ t r) j) := by
  unfold at_; blk_ext [iblk, V, idx t]

/-- A point's block of the values. -/
theorem b2 (c : Dev nD) (t : Fin cfg0.N) (r : Fin 128) (j : Fin 512) : (iblk m c 2 t : FVec Ideal S128x512 .bf16) (ix2 r j) = (m ((c : Thread nD τ).loc main_arg2) : FVec Ideal S16384x512 .bf16) (ix2 (at_ t r) j) := by
  unfold at_; blk_ext [iblk, V, idx t]

/-- A point's block of the output gates. -/
theorem b3 (c : Dev nD) (t : Fin cfg0.N) (r : Fin 128) (j : Fin 512) : (iblk m c 3 t : FVec Ideal S128x512 .f32) (ix2 r j) = (m ((c : Thread nD τ).loc main_arg3) : FVec Ideal S16384x512 .f32) (ix2 (at_ t r) j) := by
  unfold at_; blk_ext [iblk, V, idx t]

/-- A point's block of the gates, a token per row. -/
theorem b4 (c : Dev nD) (t : Fin cfg0.N) (r : Fin 128) (j : Fin 128) : (iblk m c 4 t : FVec Ideal S128x128 .f32) (ix2 r j) = (m ((c : Thread nD τ).loc main_arg4) : FVec Ideal S16384x128 .f32) (ix2 (at_ t r) j) := by
  unfold at_; blk_ext [iblk, V, idx t]

/-- A point's block of the gates, a token per column. -/
theorem b5 (c : Dev nD) (t : Fin cfg0.N) (r : Fin 16) (j : Fin 128) : (iblk m c 5 t : FVec Ideal S16x128 .f32) (ix2 r j) = (m ((c : Thread nD τ).loc main_arg5) : FVec Ideal S16x16384 .f32) (ix2 r (at_ t j)) := by
  unfold at_; blk_ext [iblk, V, idx t]

/-- Every point's block of the scale of the normalization. -/
theorem b6 (c : Dev nD) (t : Fin cfg0.N) (j : Fin 512) : (iblk m c 6 t : FVec Ideal S1x512 .f32) (ix2 0 j) = (m ((c : Thread nD τ).loc main_arg6) : FVec Ideal S1x512 .f32) (ix2 0 j) := by
  blk_ext [iblk, V, idx t]

/-- The mask the host makes. -/
theorem tri_at (c : Dev nD) (r s : Fin 128) : (V m c main_v13 : FVec Ideal S128x128 .bf16) (ix2 r s) = if s.val ≤ r.val then (1 : EReal) else 0 := by
  simp only [V, hostOps0, hostOps0_1, hostOps0_2, hostOps0_3, hostOps0_4, List.flatten_cons, List.flatten_nil, List.append_nil, List.cons_append, List.nil_append]
  entry_read
  simp only [StableHlo.TRef.ofBuf, StableHlo.TRef.toBuf, cast_eq]
  pointwise
  exact (congrArg (FloatOps.uitofp (F := Ideal) FTy.bf16) (Tri.bit r s)).trans (Tri.num _)

/-- The mask, its rows and columns exchanged. -/
theorem triu_at (c : Dev nD) (s r : Fin 128) : (V m c main_v14 : FVec Ideal S128x128 .bf16) (ix2 s r) = if s.val ≤ r.val then (1 : EReal) else 0 := by
  simp only [V, hostOps0, hostOps0_1, hostOps0_2, hostOps0_3, hostOps0_4, List.flatten_cons, List.flatten_nil, List.append_nil, List.cons_append, List.nil_append]
  entry_read
  simp only [StableHlo.TRef.ofBuf, StableHlo.TRef.toBuf, cast_eq]
  pointwise
  exact (congrArg (FloatOps.uitofp (F := Ideal) FTy.bf16) (Tri.bit r s)).trans (Tri.num _)

/-- Every point's block of the mask. -/
theorem b7 (c : Dev nD) (t : Fin cfg0.N) (r s : Fin 128) : (iblk m c 7 t : FVec Ideal S128x128 .bf16) (ix2 r s) = if s.val ≤ r.val then (1 : EReal) else 0 := by
  refine Eq.trans ?_ (tri_at m c r s)
  unfold iblk
  show (V m c main_v13) _ = _
  generalize V m c main_v13 = X
  blk_ext [idx t]

/-- Every point's block of the mask, its rows and columns exchanged. -/
theorem b8 (c : Dev nD) (t : Fin cfg0.N) (s r : Fin 128) : (iblk m c 8 t : FVec Ideal S128x128 .bf16) (ix2 s r) = if s.val ≤ r.val then (1 : EReal) else 0 := by
  refine Eq.trans ?_ (triu_at m c s r)
  unfold iblk
  show (V m c main_v14) _ = _
  generalize V m c main_v14 = X
  blk_ext [idx t]

/-- The queries by row and column. -/
def aq (c : Dev nD) (r : Fin 16384) (j : Fin 512) : EReal := (m ((c : Thread nD τ).loc main_arg0) : FVec Ideal S16384x512 .bf16) (ix2 r j)
/-- The keys. -/
def ak (c : Dev nD) (r : Fin 16384) (j : Fin 512) : EReal := (m ((c : Thread nD τ).loc main_arg1) : FVec Ideal S16384x512 .bf16) (ix2 r j)
/-- The values. -/
def av (c : Dev nD) (r : Fin 16384) (j : Fin 512) : EReal := (m ((c : Thread nD τ).loc main_arg2) : FVec Ideal S16384x512 .bf16) (ix2 r j)
/-- The gates, a token per row. -/
def ag (c : Dev nD) (r : Fin 16384) (j : Fin 128) : EReal := (m ((c : Thread nD τ).loc main_arg4) : FVec Ideal S16384x128 .f32) (ix2 r j)

/-- The precondition by elements: the two layouts of the gates agree and the logarithms of the forget gates are not positive. -/
def GateOk (c : Dev nD) : Prop :=
  (∀ (g : Fin 8) (r : Fin 16384), (m ((c : Thread nD τ).loc main_arg5) : FVec Ideal S16x16384 .f32) (ix2 ⟨g.val, by omega⟩ r) = ag m c r ⟨g.val, by omega⟩)
    ∧ ∀ (h : Fin 4) (r : Fin 16384), ag m c r ⟨4 + h.val, by omega⟩ ≤ 0

/-- Every point's blocks are as its arithmetic needs them. -/
theorem blocks (c : Dev nD) (hG : GateOk m c) (t : Fin cfg0.N) : Blocks (iblk m c 4 t) (iblk m c 5 t) (iblk m c 7 t) (iblk m c 8 t) where
  tri r s := b7 m c t r s
  triu s r := b8 m c t s r
  row g r := (b5 m c t _ r).trans ((hG.1 g (at_ t r)).trans (b4 m c t r _).symm)
  neg h r := le_of_eq_of_le (α := EReal) (b4 m c t r _) (hG.2 h (at_ t r))

/-- A point's forget gates. -/
theorem lf_eq (c : Dev nD) (t : Fin cfg0.N) (h : Fin 4) : (fun s : Fin 128 => (iblk m c 4 t : FVec Ideal S128x128 .f32) (ix2 s ⟨4 + h.val, by omega⟩)) = lfs (ag m c) (t.val / 16) (t.val % 16) h := by
  funext s; exact (b4 m c t s _).trans (by rw [at_tok]; rfl)

/-- A point's input gates. -/
theorem ig_eq (c : Dev nD) (t : Fin cfg0.N) (h : Fin 4) : (fun s : Fin 128 => (iblk m c 4 t : FVec Ideal S128x128 .f32) (ix2 s ⟨h.val, by omega⟩)) = igs (ag m c) (t.val / 16) (t.val % 16) h := by
  funext s; exact (b4 m c t s _).trans (by rw [at_tok]; rfl)

/-- A point's queries of a head. -/
theorem q_eq (c : Dev nD) (t : Fin cfg0.N) (h : Fin 4) : (fun (s d : Fin 128) => (iblk m c 0 t : FVec Ideal S128x512 .bf16) (ix2 s ⟨128 * h.val + d.val, by omega⟩)) = hd (aq m c) (t.val / 16) (t.val % 16) h := by
  funext s d; exact (b0 m c t s _).trans (by rw [at_tok]; rfl)

/-- A point's keys of a head. -/
theorem k_eq (c : Dev nD) (t : Fin cfg0.N) (h : Fin 4) : (fun (s d : Fin 128) => (iblk m c 1 t : FVec Ideal S128x512 .bf16) (ix2 s ⟨128 * h.val + d.val, by omega⟩)) = hd (ak m c) (t.val / 16) (t.val % 16) h := by
  funext s d; exact (b1 m c t s _).trans (by rw [at_tok]; rfl)

/-- A point's values of a head. -/
theorem v_eq (c : Dev nD) (t : Fin cfg0.N) (h : Fin 4) : (fun (s d : Fin 128) => (iblk m c 2 t : FVec Ideal S128x512 .bf16) (ix2 s ⟨128 * h.val + d.val, by omega⟩)) = hd (av m c) (t.val / 16) (t.val % 16) h := by
  funext s d; exact (b2 m c t s _).trans (by rw [at_tok]; rfl)

/-- The state after `j` chunks of the kernel's arrays. -/
abbrev sk (c : Dev nD) (b : ℕ) (h : Fin 4) (j : ℕ) : (Fin 128 → Fin 256 → EReal) × EReal := st (ak m c) (av m c) (ag m c) b h j

variable {m}
variable {M : Vec Ideal S8x128 .f32} {C : Vec Ideal S4x128x256 .f32}

/-- A point's new state. -/
theorem c_step (c : Dev nD) (hG : GateOk m c) (t : Fin cfg0.N) (h : Fin 4) (hM : M (ix2 ⟨h.val, by omega⟩ 0) = (sk m c (t.val / 16) h (t.val % 16)).2)
    (hC : ∀ d e, C (ix3 h d e) = (sk m c (t.val / 16) h (t.val % 16)).1 d e) (d : Fin 128) (e : Fin 256) :
    View.canon (cpieces (iblk m c 1 t) (iblk m c 2 t) (iblk m c 4 t) (iblk m c 5 t) (iblk m c 7 t) (iblk m c 8 t) M C) (ix3 h d e) = (sk m c (t.val / 16) h (t.val % 16 + 1)).1 d e := by
  have hC' : (fun d e => C (ix3 h d e)) = (sk m c (t.val / 16) h (t.val % 16)).1 := funext fun d => funext fun e => hC d e
  have := c_canon (iblk m c 1 t) (iblk m c 2 t) M C (blocks m c hG t) h d e
  rw [hM, hC', lf_eq, ig_eq, k_eq, v_eq] at this
  exact this

/-- A point's new scale. -/
theorem m_step (c : Dev nD) (hG : GateOk m c) (t : Fin cfg0.N) (h : Fin 4) (hM : M (ix2 ⟨h.val, by omega⟩ 0) = (sk m c (t.val / 16) h (t.val % 16)).2) (e : Fin 128) :
    View.canon (mpieces (iblk m c 4 t) (iblk m c 5 t) (iblk m c 7 t) (iblk m c 8 t) M) (ix2 ⟨h.val, by omega⟩ e) = (sk m c (t.val / 16) h (t.val % 16 + 1)).2 := by
  have := m_canon M (blocks m c hG t) h e
  rw [hM, lf_eq, ig_eq] at this
  exact this

/-- A point's result. -/
theorem y_step (c : Dev nD) (hG : GateOk m c) (t : Fin cfg0.N) (h : Fin 4) (hM : M (ix2 ⟨h.val, by omega⟩ 0) = (sk m c (t.val / 16) h (t.val % 16)).2)
    (hC : ∀ d e, C (ix3 h d e) = (sk m c (t.val / 16) h (t.val % 16)).1 d e) (r e : Fin 128) :
    View.canon (ypieces (iblk m c 0 t) (iblk m c 1 t) (iblk m c 2 t) (iblk m c 3 t) (iblk m c 4 t) (iblk m c 5 t) (iblk m c 6 t) (iblk m c 7 t) (iblk m c 8 t) M C) (ix2 r ⟨128 * h.val + e.val, by omega⟩)
      = hout (yv (aq m c) (ak m c) (av m c) (ag m c) (t.val / 16) (t.val % 16) h r)
          (fun e => (m ((c : Thread nD τ).loc main_arg3) : FVec Ideal S16384x512 .f32) (ix2 (at_ t r) ⟨128 * h.val + e.val, by omega⟩))
          (fun e => (m ((c : Thread nD τ).loc main_arg6) : FVec Ideal S1x512 .f32) (ix2 0 ⟨128 * h.val + e.val, by omega⟩)) e := by
  have hC' : (fun d e => C (ix3 h d e)) = (sk m c (t.val / 16) h (t.val % 16)).1 := funext fun d => funext fun e => hC d e
  have := y_canon (iblk m c 0 t) (iblk m c 1 t) (iblk m c 2 t) (iblk m c 3 t) (iblk m c 6 t) M C (blocks m c hG t) h r e
  rw [hM, hC', lf_eq, ig_eq, q_eq, k_eq, v_eq] at this
  rw [this]
  have e3 : (fun e : Fin 128 => (iblk m c 3 t : FVec Ideal S128x512 .f32) (ix2 r ⟨128 * h.val + e.val, by omega⟩)) = _ := funext fun e => b3 m c t r _
  have e6 : (fun e : Fin 128 => (iblk m c 6 t : FVec Ideal S1x512 .f32) (ix2 0 ⟨128 * h.val + e.val, by omega⟩)) = _ := funext fun e => b6 m c t _
  rw [e3, e6]
  rfl

/-- The states begin at 0. -/
theorem pay3_at (h : Fin 4) (d : Fin 128) (e : Fin 256) : k0_pay3 (F := Ideal) (ix3 h d e) = 0 := by
  pointwise [k0_pay3]

/-- The scales begin at 0. -/
theorem pay4_at (r : Fin 8) (e : Fin 128) : k0_pay4 (F := Ideal) (ix2 r e) = 0 := by
  pointwise [k0_pay4]

variable (m)

/-- What a point leaves in the carried arrays. -/
structure Carried (c : Dev nD) (n : ℕ) (hn : n < cfg0.N) : Prop where
  state : ∀ (h : Fin 4) d e, (outsAt0 m c n hn).2.2.2.1 (ix3 h d e) = (sk m c (n / 16) h (n % 16 + 1)).1 d e
  scale : ∀ (h : Fin 4) e, (outsAt0 m c n hn).2.2.2.2 (ix2 ⟨h.val, by omega⟩ e) = (sk m c (n / 16) h (n % 16 + 1)).2
  rest : ∀ (r : Fin 8) e, 4 ≤ r.val → (outsAt0 m c n hn).2.2.2.2 (ix2 r e) = 0

/-- A batch's first point. -/
theorem carried_first (c : Dev nD) (hG : GateOk m c) (t : Fin cfg0.N) (h0 : t.val % 16 = 0) : Carried m c t.val t.isLt where
  state h d e := by
    rw [first_c m c t h0, canon_app _ _ _ (c_cover _ _ _ _ _ _ _ _ _)]
    exact c_step c hG t h (by rw [h0]; exact pay4_at _ _) (fun d e => by rw [h0]; exact pay3_at _ _ _) d e
  scale h e := by
    rw [first_m m c t h0, canon_app _ _ _ (m_mem _ _ _ _ _ h e)]
    exact m_step c hG t h (by rw [h0]; exact pay4_at _ _) e
  rest r e hr := by
    rw [first_m m c t h0, canon_skip _ _ _ (m_not_mem _ _ _ _ _ r hr e)]
    canon_tiles x hx
    obtain ⟨u, w, rfl⟩ : ∃ (u : Fin 8) (w : Fin 128), x = ix2 u w := ⟨x 0, x 1, by idx_ext⟩
    exact pay4_at u w

/-- A later point over what the one before left. -/
theorem carried_later (c : Dev nD) (hG : GateOk m c) (t : Fin cfg0.N) (h0 : ¬t.val % 16 = 0) (hp : t.val - 1 < cfg0.N) (ih : Carried m c (t.val - 1) hp) : Carried m c t.val t.isLt := by
  have hd : (t.val - 1) / 16 = t.val / 16 := by omega
  have hm : (t.val - 1) % 16 + 1 = t.val % 16 := by omega
  obtain ⟨i1, i2, i3⟩ := ih
  rw [hd, hm] at i1 i2
  obtain ⟨f, hf, hm⟩ := later_m m c t h0 hp
  refine ⟨fun h d e => ?_, fun h e => ?_, fun r e hr => ?_⟩
  · rw [later_c m c t h0 hp]
    exact c_step c hG t h (i2 h 0) (i1 h) d e
  · rw [hm, View.read_writes_apply_eq_canon _ _ _ _ (m_mem _ _ _ _ _ h e)]
    exact m_step c hG t h (i2 h 0) e
  · rw [hm, View.read_writes_apply_of_forall_not_mem _ _ _ _ (m_not_mem _ _ _ _ _ r hr e), hf]
    exact i3 r e hr

/-- Every point leaves the states and the scales of its batch so far. -/
theorem carried (c : Dev nD) (hG : GateOk m c) : ∀ (n : ℕ) (hn : n < cfg0.N), Carried m c n hn
  | 0, hn => carried_first m c hG ⟨0, hn⟩ rfl
  | n + 1, hn => by
    by_cases h0 : (n + 1) % 16 = 0
    · exact carried_first m c hG ⟨n + 1, hn⟩ h0
    · exact carried_later m c hG ⟨n + 1, hn⟩ h0 (by show n < _; omega) (carried c hG n (by omega))

/-- Every point's result. -/
theorem y_point (c : Dev nD) (hG : GateOk m c) (t : Fin cfg0.N) (h : Fin 4) (r e : Fin 128) :
    (outsAt0 m c t.val t.isLt).1 (ix2 r ⟨128 * h.val + e.val, by omega⟩)
      = hout (yv (aq m c) (ak m c) (av m c) (ag m c) (t.val / 16) (t.val % 16) h r)
          (fun e => (m ((c : Thread nD τ).loc main_arg3) : FVec Ideal S16384x512 .f32) (ix2 (at_ t r) ⟨128 * h.val + e.val, by omega⟩))
          (fun e => (m ((c : Thread nD τ).loc main_arg6) : FVec Ideal S1x512 .f32) (ix2 0 ⟨128 * h.val + e.val, by omega⟩)) e := by
  by_cases h0 : t.val % 16 = 0
  · rw [first_y m c t h0]
    exact y_step c hG t h (by rw [h0]; exact pay4_at _ _) (fun d e => by rw [h0]; exact pay3_at _ _ _) r e
  · have hp : t.val - 1 < cfg0.N := by have := t.isLt; omega
    obtain ⟨i1, i2, -⟩ := carried m c hG (t.val - 1) hp
    rw [show (t.val - 1) / 16 = t.val / 16 by omega, show (t.val - 1) % 16 + 1 = t.val % 16 by omega] at i1 i2
    rw [later_y m c t h0 hp]
    exact y_step c hG t h (i2 h 0) (i1 h) r e

/-- The carried states after a batch, as the result has them. -/
theorem pay1_at (x : Vec Ideal S4x128x256 .f32) (h : Fin 4) (d : Fin 128) (e : Fin 256) : k0_pay1 (F := Ideal) x (ix4 0 h d e) = x (ix3 h d e) := by
  pointwise [k0_pay1]

/-- The carried scales after a batch, as the result has them. -/
theorem pay2_at (x : Vec Ideal S8x128 .f32) (r : Fin 8) (e : Fin 128) : k0_pay2 (F := Ideal) x (ix3 0 r e) = x (ix2 r e) := by
  pointwise [k0_pay2]

/-- The result array by elements. -/
theorem g9_at (c : Dev nD) (hG : GateOk m c) (b : Fin 8) (j : Fin 16) (h : Fin 4) (r e : Fin 128) :
    (Value.G9 m c : FVec Ideal S16384x512 .bf16) (ix2 (tok b.val j.val r) ⟨128 * h.val + e.val, by omega⟩)
      = hout (yv (aq m c) (ak m c) (av m c) (ag m c) b.val j.val h r)
          (fun e => (m ((c : Thread nD τ).loc main_arg3) : FVec Ideal S16384x512 .f32) (ix2 (tok b.val j.val r) ⟨128 * h.val + e.val, by omega⟩))
          (fun e => (m ((c : Thread nD τ).loc main_arg6) : FVec Ideal S1x512 .f32) (ix2 0 ⟨128 * h.val + e.val, by omega⟩)) e := by
  have hN : cfg0.N = 128 := N_0
  have hv : (tok b.val j.val r).val = (16 * b.val + j.val) * 128 + r.val := by
    show (2048 * b.val + 128 * j.val + r.val) % 16384 = _; omega
  have hp : Value.pt9Of (ix2 (tok b.val j.val r) ⟨128 * h.val + e.val, by omega⟩) = 16 * b.val + j.val := by
    show 1 * ((tok b.val j.val r).val / 128 - 0) + 1 * ((128 * h.val + e.val) / 512 - 0) = _
    rw [hv]; omega
  have hl : Value.loc9Of (ix2 (tok b.val j.val r) ⟨128 * h.val + e.val, by omega⟩) = (ix2 r ⟨128 * h.val + e.val, by omega⟩ : S128x512.Idx) := by
    funext a; apply Fin.ext
    match a with
    | ⟨0, _⟩ => show (tok b.val j.val r).val % 128 = r.val; rw [hv]; omega
    | ⟨1, _⟩ => show (128 * h.val + e.val) % 512 = 128 * h.val + e.val; omega
  have := y_point m c hG ⟨16 * b.val + j.val, by omega⟩ h r e
  rw [at_tok, Value.outsAt0_sweep] at this
  simp only [show (16 * b.val + j.val) / 16 = b.val by omega, show (16 * b.val + j.val) % 16 = j.val by omega] at this
  refine Eq.trans ?_ this
  unfold Value.G9
  rw [dif_pos (by rw [hp]; omega), hl]
  simp only [hp]

/-- The array of the last states by elements. -/
theorem g10_at (c : Dev nD) (hG : GateOk m c) (b : Fin 8) (h : Fin 4) (d : Fin 128) (e : Fin 256) :
    (Value.G10 m c : FVec Ideal S8x4x128x256 .f32) (ix4 b h d e) = (sk m c b.val h 16).1 d e := by
  have hN : cfg0.N = 128 := N_0
  have hp : Value.pt10Of (ix4 b h d e) = 16 * b.val + 15 := by
    show 16 * (1 * (b.val / 1 - 0) + 1 * (h.val / 4 - 0) + 1 * (d.val / 128 - 0) + 1 * (e.val / 256 - 0)) + 15 = _
    omega
  have hl : Value.loc10Of (ix4 b h d e) = (ix4 0 h d e : S1x4x128x256.Idx) := by
    funext a; apply Fin.ext
    match a with
    | ⟨0, _⟩ => show b.val % 1 = 0; omega
    | ⟨1, _⟩ => show h.val % 4 = h.val; omega
    | ⟨2, _⟩ => show d.val % 128 = d.val; omega
    | ⟨3, _⟩ => show e.val % 256 = e.val; omega
  have := (carried m c hG (16 * b.val + 15) (by omega)).state h d e
  have e1 := congrFun (last_c m c ⟨16 * b.val + 15, by omega⟩ (by show (16 * b.val + 15) % 16 = 15; omega)) (ix4 0 h d e)
  rw [pay1_at] at e1
  rw [show (16 * b.val + 15) / 16 = b.val by omega, show (16 * b.val + 15) % 16 + 1 = 16 by omega] at this
  refine Eq.trans ?_ (e1.trans this)
  rw [Value.outsAt0_sweep]
  unfold Value.G10
  rw [dif_pos (by rw [hp]; omega), hl]
  simp only [hp]

/-- The array of the last scales by elements. -/
theorem g11_at (c : Dev nD) (hG : GateOk m c) (b r : Fin 8) (e : Fin 128) :
    (Value.G11 m c : FVec Ideal S8x8x128 .f32) (ix3 b r e) = if h : r.val < 4 then (sk m c b.val ⟨r.val, h⟩ 16).2 else 0 := by
  have hN : cfg0.N = 128 := N_0
  have hp : Value.pt11Of (ix3 b r e) = 16 * b.val + 15 := by
    show 16 * (1 * (b.val / 1 - 0) + 1 * (r.val / 8 - 0) + 1 * (e.val / 128 - 0)) + 15 = _
    omega
  have hl : Value.loc11Of (ix3 b r e) = (ix3 0 r e : S1x8x128.Idx) := by
    funext a; apply Fin.ext
    match a with
    | ⟨0, _⟩ => show b.val % 1 = 0; omega
    | ⟨1, _⟩ => show r.val % 8 = r.val; omega
    | ⟨2, _⟩ => show e.val % 128 = e.val; omega
  have hc := carried m c hG (16 * b.val + 15) (by omega)
  have e1 := congrFun (last_m m c ⟨16 * b.val + 15, by omega⟩ (by show (16 * b.val + 15) % 16 = 15; omega)) (ix3 0 r e)
  rw [pay2_at] at e1
  have e2 : (outsAt0 m c (16 * b.val + 15) (by omega)).2.2.2.2 (ix2 r e) = if h : r.val < 4 then (sk m c b.val ⟨r.val, h⟩ 16).2 else 0 := by
    by_cases h : r.val < 4
    · rw [dif_pos h]
      have := hc.scale ⟨r.val, h⟩ e
      rw [show (16 * b.val + 15) / 16 = b.val by omega, show (16 * b.val + 15) % 16 + 1 = 16 by omega] at this
      exact this
    · rw [dif_neg h]
      exact hc.rest r e (by omega)
  refine Eq.trans ?_ (e1.trans e2)
  rw [Value.outsAt0_sweep]
  unfold Value.G11
  rw [dif_pos (by rw [hp]; omega), hl]
  simp only [hp]

end Cert.Rec
end
-- ==== Proof.RunningSum.lean ====
module

public import Idealize.ShloMosaic.Lib.Pointwise
public import Idealize.ShloMosaic.Lib.Pipeline.ValueKit

@[expose] public section

noncomputable section

/-! The running sum along the last axis of an array of three, as a reference computes it, a windowed reduction. -/

namespace Cert.RunningSum

open Idealize.ShloMosaic

/-- A running fold of additions is the sum. -/
theorem foldl_add {ι : Type} (g : ι → EReal) : ∀ (l : List ι) (v : EReal), l.foldl (fun r n => r + g n) v = v + (l.map g).sum
  | [], v => by simp
  | a :: l, v => by rw [List.foldl_cons, foldl_add g l, List.map_cons, List.sum_cons, add_assoc]

variable {B H L : ℕ}

/-- The positions of a window along the last axis. -/
def winEquiv (L : ℕ) : (⟨3, ![1, 1, L + 1]⟩ : Shape).Idx ≃ Fin (L + 1) where
  toFun w := w 2
  invFun n := ix3 (0 : Fin 1) (0 : Fin 1) n
  left_inv w := by
    funext a
    match a with
    | ⟨0, _⟩ => exact Subsingleton.elim (α := Fin 1) _ _
    | ⟨1, _⟩ => exact Subsingleton.elim (α := Fin 1) _ _
    | ⟨2, _⟩ => rfl
  right_inv n := rfl

/-- The positions of a window in their order. -/
abbrev W (i : Fin (⟨3, ![1, 1, L + 1]⟩ : Shape).numel) : (⟨3, ![1, 1, L + 1]⟩ : Shape).Idx := (Shape.rowMajor (⟨3, ![1, 1, L + 1]⟩ : Shape)).symm i

/-- The windowed reduction at an element is the sum of the elements up to it. -/
theorem cumsum_at (x : FVec Ideal ⟨3, ![B, H, L + 1]⟩ .f32) (init : FVec Ideal ⟨0, ![]⟩ .f32) (h0 : ∀ i, init i = (0 : EReal))
    (h : (⟨3, ![B, H, L + 1]⟩ : Shape).ReduceWindows ![1, 1, L + 1] ![1, 1, 1] ![0, 0, L] ![0, 0, 0] ⟨3, ![B, H, L + 1]⟩)
    (hu : 0 < (⟨0, ![]⟩ : Shape).numel) (b : Fin B) (n : Fin H) (t : Fin (L + 1)) :
    Host.reduceWindowAdd ![1, 1, L + 1] ![1, 1, 1] ![0, 0, L] ![0, 0, 0] x init h hu (ix3 b n t) = ∑ s : Fin (L + 1), if s.val ≤ t.val then x (ix3 b n s) else (0 : EReal) := by
  show Host.reduceWindow (· + ·) ![1, 1, L + 1] ![1, 1, 1] ![0, 0, L] ![0, 0, 0] x (fun _ : (⟨0, ![]⟩ : Shape).Idx => init (Shape.Idx.first hu)) h (by decide) (ix3 b n t) = _
  unfold Host.reduceWindow
  dsimp only
  rw [foldl_add (fun n' => _), h0, zero_add, ← Fin.sum_univ_def]
  refine (Fintype.sum_equiv ((Shape.rowMajor (⟨3, ![1, 1, L + 1]⟩ : Shape)).symm.trans (winEquiv L)) _
    (fun w : Fin (L + 1) => if hw : L ≤ t.val + w.val then x (ix3 b n ⟨t.val + w.val - L, by omega⟩) else (0 : EReal)) fun i => ?_).trans ?_
  · show _ = if hw : L ≤ t.val + (W i 2).val then x (ix3 b n ⟨t.val + (W i 2).val - L, _⟩) else (0 : EReal)
    have w0 : (W i 0).val < 1 := (W i 0).isLt
    have w1 : (W i 1).val < 1 := (W i 1).isLt
    have w2 : (W i 2).val < L + 1 := (W i 2).isLt
    have hb := b.isLt
    have hn := n.isLt
    by_cases hw : L ≤ t.val + (W i 2).val
    · rw [dif_pos hw, dif_pos (show _ from fun a => by
        match a with
        | ⟨0, _⟩ => show 0 ≤ b.val * 1 + (W i 0).val ∧ b.val * 1 + (W i 0).val - 0 < B; omega
        | ⟨1, _⟩ => show 0 ≤ n.val * 1 + (W i 1).val ∧ n.val * 1 + (W i 1).val - 0 < H; omega
        | ⟨2, _⟩ => show L ≤ t.val * 1 + (W i 2).val ∧ t.val * 1 + (W i 2).val - L < L + 1; omega)]
      refine congrArg x (funext fun a => Fin.ext ?_)
      match a with
      | ⟨0, _⟩ => show b.val * 1 + (W i 0).val - 0 = b.val; omega
      | ⟨1, _⟩ => show n.val * 1 + (W i 1).val - 0 = n.val; omega
      | ⟨2, _⟩ => show t.val * 1 + (W i 2).val - L = t.val + (W i 2).val - L; omega
    · rw [dif_neg hw, dif_neg]
      intro hin
      have : L ≤ t.val * 1 + (W i 2).val := (hin 2).1
      omega
  · rw [← Equiv.sum_comp (Equiv.addRight (t + 1)) (fun s : Fin (L + 1) => if s.val ≤ t.val then x (ix3 b n s) else 0)]
    refine Finset.sum_congr rfl fun w _ => ?_
    have ht := t.isLt
    have hw' := w.isLt
    have e : (w + (t + 1)).val = if t.val = L then w.val else if L ≤ t.val + w.val then t.val + w.val - L else w.val + (t.val + 1) := by
      have e1 : (t + 1).val = if t.val = L then 0 else t.val + 1 := by
        rw [Fin.val_add_one]
        exact if_congr (by rw [Fin.ext_iff]; rfl) rfl rfl
      rw [Fin.val_add, e1]
      by_cases h1 : t.val = L
      · rw [if_pos h1, if_pos h1]; exact Nat.mod_eq_of_lt (by omega)
      · rw [if_neg h1, if_neg h1]
        by_cases h2 : L ≤ t.val + w.val
        · rw [if_pos h2, Nat.mod_eq_sub_mod (by omega), Nat.mod_eq_of_lt (by omega)]; omega
        · rw [if_neg h2, Nat.mod_eq_of_lt (by omega)]
    show _ = if (w + (t + 1)).val ≤ t.val then x (ix3 b n (w + (t + 1))) else 0
    by_cases hw : L ≤ t.val + w.val
    · have e' : (w + (t + 1)).val = t.val + w.val - L := by
        rw [e]
        by_cases h1 : t.val = L
        · rw [if_pos h1]; omega
        · rw [if_neg h1, if_pos hw]
      rw [dif_pos hw, if_pos (by omega)]
      exact congrArg (fun s => x (ix3 b n s)) (Fin.ext e'.symm)
    · rw [dif_neg hw, if_neg]
      rw [e, if_neg (by omega), if_neg hw]
      omega

end Cert.RunningSum
end
-- ==== Proof.RecRef.lean ====
module

public import proofs.«01_k».proof.Proof.RecKernel
public import proofs.«01_k».proof.Proof.RunningSum
public import proofs.«01_k».proof.Proof.Gen.ReferenceIdeal.Run
public import Idealize.ShloMosaic.Lib.Pipeline.ReadBack
public import Idealize.ShloMosaic.Lib.DynamicIndex

@[expose] public section

set_option maxRecDepth 16384

noncomputable section

/-! The recurrence as the reference runs it: what one trip of its loop makes of the carried arrays. -/

namespace Cert.Rec

open Idealize.ShloMosaic Idealize.ShloMosaic.TcCoe Idealize.SL.Sem
open Cert.ReferenceIdeal Cert.ReferenceIdeal.Gen Cert.ReferenceIdeal.Value

/-- A trip's slice of an array of chunks of rows. -/
theorem slice5 (x : FVec Ideal S16x8x4x128x128 .f32) (c : IVec S_ 32) (j : ℕ) (hj : j < 16) (hc : ∀ i, c i = BitVec.ofNat 32 j) (b : Fin 8) (h : Fin 4) (t e : Fin 128) :
    shapeCast S8x4x128x128 (Host.dynamicSlice S1x8x4x128x128 x (fun k => (((![c, constantI S_ 32 0#32, constantI S_ 32 0#32, constantI S_ 32 0#32, constantI S_ 32 0#32] : Fin 5 → IVec S_ 32)) k (Shape.Idx.first h_S_)).toInt) sliceFits_S16x8x4x128x128_S1x8x4x128x128) shapeCasts_S1x8x4x128x128_S8x4x128x128 (ix4 b h t e)
      = x (ix5 ⟨j, hj⟩ b h t e) := by
  rw [Host.dynamicSlice_eq_extractStridedSlice (s := S16x8x4x128x128) S1x8x4x128x128 x _ (![j, 0, 0, 0, 0] : Fin 5 → ℕ) sliceFits_S16x8x4x128x128_S1x8x4x128x128 ⟨rfl, fun a => by
    match a with
    | ⟨0, _⟩ => show j + 1 ≤ 16; omega
    | ⟨1, _⟩ => show 0 + 8 ≤ 8; omega
    | ⟨2, _⟩ => show 0 + 4 ≤ 4; omega
    | ⟨3, _⟩ => show 0 + 128 ≤ 128; omega
    | ⟨4, _⟩ => show 0 + 128 ≤ 128; omega⟩ fun a => by
    match a with
    | ⟨0, _⟩ => show (c _).toInt = (j : Int); rw [hc, toInt_ofNat_of_lt (by omega)]
    | ⟨1, _⟩ => rfl
    | ⟨2, _⟩ => rfl
    | ⟨3, _⟩ => rfl
    | ⟨4, _⟩ => rfl]
  pointwise

/-- A trip's slice of an array of chunks of numbers. -/
theorem slice4 (x : FVec Ideal S16x8x4x128 .f32) (c : IVec S_ 32) (j : ℕ) (hj : j < 16) (hc : ∀ i, c i = BitVec.ofNat 32 j) (b : Fin 8) (h : Fin 4) (t : Fin 128) :
    shapeCast S8x4x128 (Host.dynamicSlice S1x8x4x128 x (fun k => (((![c, constantI S_ 32 0#32, constantI S_ 32 0#32, constantI S_ 32 0#32] : Fin 4 → IVec S_ 32)) k (Shape.Idx.first h_S_)).toInt) sliceFits_S16x8x4x128_S1x8x4x128) shapeCasts_S1x8x4x128_S8x4x128 (ix3 b h t)
      = x (ix4 ⟨j, hj⟩ b h t) := by
  rw [Host.dynamicSlice_eq_extractStridedSlice (s := S16x8x4x128) S1x8x4x128 x _ (![j, 0, 0, 0] : Fin 4 → ℕ) sliceFits_S16x8x4x128_S1x8x4x128 ⟨rfl, fun a => by
    match a with
    | ⟨0, _⟩ => show j + 1 ≤ 16; omega
    | ⟨1, _⟩ => show 0 + 8 ≤ 8; omega
    | ⟨2, _⟩ => show 0 + 4 ≤ 4; omega
    | ⟨3, _⟩ => show 0 + 128 ≤ 128; omega⟩ fun a => by
    match a with
    | ⟨0, _⟩ => show (c _).toInt = (j : Int); rw [hc, toInt_ofNat_of_lt (by omega)]
    | ⟨1, _⟩ => rfl
    | ⟨2, _⟩ => rfl
    | ⟨3, _⟩ => rfl]
  pointwise

variable (V0 : Valuation τ sig (Elt Ideal))
variable (q k v : Fin 16384 → Fin 512 → EReal) (g : Fin 16384 → Fin 128 → EReal)

/-- The carried arrays before trip `j`. -/
structure Before (j : ℕ) : Prop where
  ctr : ∀ i, (V0 (Proc.devRef .tc main_v21_6) : IVec S_ 32) i = BitVec.ofNat 32 j
  qs : ∀ (i : Fin 16) (b : Fin 8) (h : Fin 4) (t e : Fin 128), (V0 (Proc.devRef .tc main_v21_0) : FVec Ideal S16x8x4x128x128 .f32) (ix5 i b h t e) = hd q b.val i.val h t e
  ks : ∀ (i : Fin 16) (b : Fin 8) (h : Fin 4) (t e : Fin 128), (V0 (Proc.devRef .tc main_v21_1) : FVec Ideal S16x8x4x128x128 .f32) (ix5 i b h t e) = hd k b.val i.val h t e
  vs : ∀ (i : Fin 16) (b : Fin 8) (h : Fin 4) (t e : Fin 128), (V0 (Proc.devRef .tc main_v21_2) : FVec Ideal S16x8x4x128x128 .f32) (ix5 i b h t e) = hd v b.val i.val h t e
  ig : ∀ (i : Fin 16) (b : Fin 8) (h : Fin 4) (t : Fin 128), (V0 (Proc.devRef .tc main_v21_3) : FVec Ideal S16x8x4x128 .f32) (ix4 i b h t) = igs g b.val i.val h t
  lf : ∀ (i : Fin 16) (b : Fin 8) (h : Fin 4) (t : Fin 128), (V0 (Proc.devRef .tc main_v21_4) : FVec Ideal S16x8x4x128 .f32) (ix4 i b h t) = lfs g b.val i.val h t
  tri : ∀ (t s : Fin 128), (V0 (Proc.devRef .tc main_v21_5) : IVec S128x128 1) (ix2 t s) = BitVec.ofBool (decide (s.val ≤ t.val))
  cs : ∀ (b : Fin 8) (h : Fin 4) (d e : Fin 128), (V0 (Proc.devRef .tc main_v21_7) : FVec Ideal S8x4x128x128 .f32) (ix4 b h d e) = (st k v g b.val h j).1 d ⟨e.val, by omega⟩
  ns : ∀ (b : Fin 8) (h : Fin 4) (d : Fin 128), (V0 (Proc.devRef .tc main_v21_8) : FVec Ideal S8x4x128 .f32) (ix3 b h d) = (st k v g b.val h j).1 d 128
  ms : ∀ (b : Fin 8) (h : Fin 4), (V0 (Proc.devRef .tc main_v21_9) : FVec Ideal S8x4 .f32) (ix2 b h) = (st k v g b.val h j).2
  ys : ∀ (i : Fin 16) (b : Fin 8) (h : Fin 4) (t e : Fin 128), i.val < j → (V0 (Proc.devRef .tc main_v21_10) : FVec Ideal S16x8x4x128x128 .f32) (ix5 i b h t e) = yv q k v g b.val i.val h t e

variable {V0 q k v g} {j : ℕ} (hB : Before V0 q k v g j) (hj : j < 16) (b : Fin 8) (h : Fin 4)
include hB hj

/-- The trip's queries. -/
theorem v48_at (t e : Fin 128) : res_main_while0b_v48 V0 (ix4 b h t e) = hd q b.val j h t e :=
  (slice5 _ _ j hj hB.ctr b h t e).trans (hB.qs ⟨j, hj⟩ b h t e)

/-- The trip's keys. -/
theorem v49_at (t e : Fin 128) : res_main_while0b_v49 V0 (ix4 b h t e) = hd k b.val j h t e :=
  (slice5 _ _ j hj hB.ctr b h t e).trans (hB.ks ⟨j, hj⟩ b h t e)

/-- The trip's values. -/
theorem v50_at (t e : Fin 128) : res_main_while0b_v50 V0 (ix4 b h t e) = hd v b.val j h t e :=
  (slice5 _ _ j hj hB.ctr b h t e).trans (hB.vs ⟨j, hj⟩ b h t e)

/-- The running sums of the trip's forget gates. -/
theorem v53_at (t : Fin 128) : res_main_while0b_v53 V0 (ix3 b h t) = cum (lfs g b.val j h) t := by
  unfold res_main_while0b_v53
  refine (RunningSum.cumsum_at (B := 8) (H := 4) (L := 127) _ _ (fun i => by pointwise) _ _ b h t).trans ?_
  exact congrArg (fun f => cum f t) (funext fun s => (slice4 _ _ j hj hB.ctr b h s).trans (hB.lf ⟨j, hj⟩ b h s))

/-- The logarithms of the weights of the state the chunk began with. -/
theorem v56_at (t : Fin 128) : res_main_while0b_v56 V0 (ix3 b h t) = gv (lfs g b.val j h) (st k v g b.val h j).2 t := by
  pointwise [res_main_while0b_v56]
  rw [v53_at hB hj, hB.ms]
  rfl

/-- The masked logarithms of the weights. -/
theorem v65_at (t s : Fin 128) : res_main_while0b_v65 V0 (ix4 b h t s) = if s.val ≤ t.val then dm (lfs g b.val j h) (igs g b.val j h) t s else ⊥ := by
  unfold res_main_while0b_v65
  generalize hX : shapeCast S8x4x128 (Host.dynamicSlice S1x8x4x128 (V0 (Proc.devRef .tc main_v21_3)) _ _) _ = X
  have hX' : X (ix3 b h s) = igs g b.val j h s := by
    rw [← hX]; exact (slice4 _ _ j hj hB.ctr b h s).trans (hB.ig ⟨j, hj⟩ b h s)
  pointwise
  rw [hB.tri, v53_at hB hj, v53_at hB hj, hX', sel_dec]
  by_cases hs : s.val ≤ t.val
  · rw [if_pos hs, if_pos hs]
    unfold dm
    rw [sub_eq_add_neg, sub_eq_add_neg, add_assoc, add_comm (-_)]
  · rw [if_neg hs, if_neg hs]
    exact negInf

/-- The largest logarithms. -/
theorem v67_at (t : Fin 128) : res_main_while0b_v67 V0 (ix3 b h t) = mt (lfs g b.val j h) (igs g b.val j h) (st k v g b.val h j).2 t := by
  pointwise [res_main_while0b_v67]
  rw [v56_at hB hj]
  refine congrArg (max (α := EReal) _) ((Shape.ReducesTo.fold_fiber_r4_a3 _ _ _ _ _).trans ?_)
  rw [negInf]
  exact congrArg (fun f : Fin 128 → EReal => Finset.univ.fold max ⊥ f) (funext fun s => v65_at hB hj b h t s)

/-- The weights of the state the chunk began with. -/
theorem v73_at (t : Fin 128) : res_main_while0b_v73 V0 (ix3 b h t) = wi (lfs g b.val j h) (igs g b.val j h) (st k v g b.val h j).2 t := by
  pointwise [res_main_while0b_v73]
  rw [v56_at hB hj, v67_at hB hj]
  rfl

/-- The weighted products of queries and keys. -/
theorem v75_at (t s : Fin 128) : res_main_while0b_v75 V0 (ix4 b h t s) = sc (lfs g b.val j h) (igs g b.val j h) (st k v g b.val h j).2 (hd q b.val j h) (hd k b.val j h) t s := by
  pointwise [res_main_while0b_v75]
  simp only [v48_at hB hj, v49_at hB hj, v65_at hB hj, v67_at hB hj]
  unfold sc
  by_cases hs : s.val ≤ t.val
  · rw [if_pos hs, if_pos hs]
  · rw [if_neg hs, if_neg hs, sub_eq_add_neg, EReal.bot_add]
    show _ * (0 : EReal) = 0
    rw [mul_zero]

/-- The scale after the chunk. -/
theorem v94_at : res_main_while0b_v94 V0 (ix2 b h) = mn (lfs g b.val j h) (igs g b.val j h) (st k v g b.val h j).2 := by
  pointwise [res_main_while0b_v94]
  exact v67_at hB hj b h 127

/-- The weight of the old state. -/
theorem v104_at : res_main_while0b_v104 V0 (ix2 b h) = Ideal.exp (gv (lfs g b.val j h) (st k v g b.val h j).2 127 - mn (lfs g b.val j h) (igs g b.val j h) (st k v g b.val h j).2) := by
  pointwise [res_main_while0b_v104]
  rw [v94_at hB hj]
  exact congrArg (fun x => Ideal.exp (x - _)) (v56_at hB hj b h 127)

/-- The weighted keys. -/
theorem v107_at (s d : Fin 128) : res_main_while0b_v107 V0 (ix4 b h s d) = hd k b.val j h s d * we (lfs g b.val j h) (igs g b.val j h) (st k v g b.val h j).2 s := by
  pointwise [res_main_while0b_v107]
  rw [v94_at hB hj, v49_at hB hj, mul_comm]
  refine congrArg (fun x => hd k b.val j h s d * Ideal.exp (x - _)) ((v65_at hB hj b h 127 s).trans ?_)
  rw [if_pos (show s.val ≤ (127 : Fin 128).val by show s.val ≤ 127; omega)]
  unfold dm
  rw [sub_eq_add_neg, sub_eq_add_neg, add_assoc, add_comm (-_)]

/-- The new states. -/
theorem step7_at (d e : Fin 128) : step_main_v21_7 V0 (ix4 b h d e) = (st k v g b.val h (j + 1)).1 d ⟨e.val, by omega⟩ := by
  have he := e.isLt
  pointwise [step_main_v21_7, id_eq]
  simp only [v104_at hB hj, v107_at hB hj, v50_at hB hj, hB.cs]
  show _ = xn _ _ _ _ _ _ _ _
  unfold xn vx
  simp only [he, dif_pos]

/-- The new normalizers. -/
theorem step8_at (d : Fin 128) : step_main_v21_8 V0 (ix3 b h d) = (st k v g b.val h (j + 1)).1 d 128 := by
  pointwise [step_main_v21_8, id_eq]
  simp only [v104_at hB hj, v107_at hB hj, hB.ns]
  show _ = xn _ _ _ _ _ _ _ _
  unfold xn vx
  refine congrArg (_ + ·) (Finset.sum_congr rfl fun s _ => ?_)
  rw [dif_neg (by decide), if_pos (by decide), mul_one]

omit hB in
/-- An array with one chunk replaced. -/
theorem upd5 (y : FVec Ideal S16x8x4x128x128 .f32) (u : FVec Ideal S1x8x4x128x128 .f32) (c : IVec S_ 32) (hc : ∀ i, c i = BitVec.ofNat 32 j) (i : Fin 16) (t e : Fin 128) :
    Host.dynamicUpdateSlice y u (fun k => (((![c, constantI S_ 32 0#32, constantI S_ 32 0#32, constantI S_ 32 0#32, constantI S_ 32 0#32] : Fin 5 → IVec S_ 32)) k (Shape.Idx.first h_S_)).toInt) updateFits_S16x8x4x128x128_S1x8x4x128x128 (ix5 i b h t e)
      = if i.val = j then u (ix5 0 b h t e) else y (ix5 i b h t e) := by
  have hs : S16x8x4x128x128.Slices (![j, 0, 0, 0, 0] : Fin 5 → ℕ) S1x8x4x128x128 := ⟨rfl, fun a => by
    match a with
    | ⟨0, _⟩ => show j + 1 ≤ 16; omega
    | ⟨1, _⟩ => show 0 + 8 ≤ 8; omega
    | ⟨2, _⟩ => show 0 + 4 ≤ 4; omega
    | ⟨3, _⟩ => show 0 + 128 ≤ 128; omega
    | ⟨4, _⟩ => show 0 + 128 ≤ 128; omega⟩
  rw [Host.dynamicUpdateSlice_eq_updateSlice _ _ _ _ (![j, 0, 0, 0, 0] : Fin 5 → ℕ) (fun a => by
    match a with
    | ⟨0, _⟩ => show (min (max (c _).toInt 0) ((16 - 1 : Nat) : Int)).toNat = j; rw [hc, toInt_ofNat_of_lt (by omega)]; omega
    | ⟨1, _⟩ => rfl
    | ⟨2, _⟩ => rfl
    | ⟨3, _⟩ => rfl
    | ⟨4, _⟩ => rfl) hs]
  unfold updateSlice
  by_cases hi : i.val = j
  · rw [if_pos hi, dif_pos (show _ from fun a => by
      match a with
      | ⟨0, _⟩ => show j ≤ i.val ∧ i.val < j + 1; omega
      | ⟨1, _⟩ => show 0 ≤ b.val ∧ b.val < 0 + 8; omega
      | ⟨2, _⟩ => show 0 ≤ h.val ∧ h.val < 0 + 4; omega
      | ⟨3, _⟩ => show 0 ≤ t.val ∧ t.val < 0 + 128; omega
      | ⟨4, _⟩ => show 0 ≤ e.val ∧ e.val < 0 + 128; omega)]
    refine congrArg u (funext fun a => Fin.ext ?_)
    match a with
    | ⟨0, _⟩ => show i.val - j = 0; omega
    | ⟨1, _⟩ => rfl
    | ⟨2, _⟩ => rfl
    | ⟨3, _⟩ => rfl
    | ⟨4, _⟩ => rfl
  · rw [if_neg hi, dif_neg]
    intro hin
    have : j ≤ i.val ∧ i.val < j + 1 := hin 0
    omega

/-- The results after the trip. -/
theorem step10_at (i : Fin 16) (t e : Fin 128) (hi : i.val < j + 1) : step_main_v21_10 V0 (ix5 i b h t e) = yv q k v g b.val i.val h t e := by
  unfold step_main_v21_10
  refine (upd5 hj b h _ _ _ hB.ctr i t e).trans ?_
  by_cases hij : i.val = j
  · rw [if_pos hij, hij]
    pointwise
    simp only [v75_at hB hj, v73_at hB hj, v48_at hB hj, v50_at hB hj, v67_at hB hj, hB.cs, hB.ns]
    unfold yv hv num den
    rw [zero_sub]
  · rw [if_neg hij]
    exact hB.ys i b h t e (by omega)

omit hj in
/-- The counter counts. -/
theorem step6_at (i : S_.Idx) : step_main_v21_6 V0 i = BitVec.ofNat 32 (j + 1) := by
  show IntOp.addi ((V0 (Proc.devRef .tc main_v21_6) : IVec S_ 32) i) 1#32 = _
  rw [hB.ctr]
  exact (BitVec.ofNat_add j 1).symm

/-- One trip carries the arrays on. -/
theorem next : Before (STEP V0) q k v g (j + 1) where
  ctr i := (congrFun (STEP_main_v21_6 V0) i).trans (step6_at hB i)
  qs i b h t e := (congrFun (STEP_main_v21_0 V0) _).trans (hB.qs i b h t e)
  ks i b h t e := (congrFun (STEP_main_v21_1 V0) _).trans (hB.ks i b h t e)
  vs i b h t e := (congrFun (STEP_main_v21_2 V0) _).trans (hB.vs i b h t e)
  ig i b h t := (congrFun (STEP_main_v21_3 V0) _).trans (hB.ig i b h t)
  lf i b h t := (congrFun (STEP_main_v21_4 V0) _).trans (hB.lf i b h t)
  tri t s := (congrFun (STEP_main_v21_5 V0) _).trans (hB.tri t s)
  cs b h d e := (congrFun (STEP_main_v21_7 V0) _).trans (step7_at hB hj b h d e)
  ns b h d := (congrFun (STEP_main_v21_8 V0) _).trans (step8_at hB hj b h d)
  ms b h := (congrFun (STEP_main_v21_9 V0) _).trans (v94_at hB hj b h)
  ys i b h t e hi := (congrFun (STEP_main_v21_10 V0) _).trans (step10_at hB hj b h i t e hi)

omit hB hj
/-- All the trips. -/
theorem trips (hB : Before V0 q k v g 0) : ∀ j, j ≤ 16 → Before (STEP^[j] V0) q k v g j
  | 0, _ => hB
  | j + 1, hj => by
    rw [Function.iterate_succ_apply']
    exact next (trips hB j (by omega)) (by omega)

/-- The columns beside the normalizer stay zero. -/
theorem st_zero (k v : Fin 16384 → Fin 512 → EReal) (g : Fin 16384 → Fin 128 → EReal) (b : ℕ) (h : Fin 4) (d : Fin 128) (e : Fin 256) (he : 128 < e.val) :
    ∀ j, (st k v g b h j).1 d e = 0
  | 0 => rfl
  | j + 1 => by
    show xn _ _ _ _ _ _ _ _ = 0
    unfold xn vx
    rw [st_zero k v g b h d e he j, mul_zero, zero_add]
    refine Finset.sum_eq_zero fun s _ => ?_
    rw [dif_neg (by omega), if_neg (by omega), mul_zero]

end Cert.Rec
end
-- ==== Proof.RecRun.lean ====
module

public import proofs.«01_k».proof.Proof.RecRef
public import proofs.«01_k».proof.Proof.Tri
public import proofs.«01_k».proof.Proof.Gen.ReferenceIdeal.Run
public import Idealize.ShloMosaic.Lib.Pipeline.ReadBack
public import Idealize.ShloMosaic.Lib.DynamicIndex

@[expose] public section

set_option maxRecDepth 16384

noncomputable section

/-! The recurrence as the reference runs it: the arrays its loop starts from, and the results it leaves. -/

namespace Cert.Rec

open Idealize.ShloMosaic Idealize.ShloMosaic.TcCoe Idealize.SL.Sem
open Idealize.ShloMosaic.StableHlo Cert.ReferenceIdeal Cert.ReferenceIdeal.Gen Cert.ReferenceIdeal.Value

variable {V0 : Valuation τ sig (Elt Ideal)} {q k v : Fin 16384 → Fin 512 → EReal} {g : Fin 16384 → Fin 128 → EReal}

/-- The reference's states as one array. -/
theorem out42_at (hB : Before V0 q k v g 16) (b : Fin 8) (h : Fin 4) (d : Fin 128) (e : Fin 256) :
    (out_main_v42 V0 : FVec Ideal S8x4x128x256 .f32) (ix4 b h d e) = (st k v g b.val h 16).1 d e := by
  pointwise [out_main_v42]
  by_cases h1 : e.val < 128
  · rw [dif_pos h1]
    exact hB.cs b h d ⟨e.val, h1⟩
  · rw [dif_neg h1]
    by_cases h2 : e.val - 128 < 1
    · rw [dif_pos h2, hB.ns]
      exact congrArg ((st k v g b.val h 16).1 d) (Fin.ext (by show 128 = e.val; omega))
    · rw [dif_neg h2, st_zero _ _ _ _ _ _ _ (by omega)]

/-- The reference's scales as one array. -/
theorem out46_at (hB : Before V0 q k v g 16) (b : Fin 8) (r : Fin 8) (e : Fin 128) :
    (out_main_v46 V0 : FVec Ideal S8x8x128 .f32) (ix3 b r e) = if h : r.val < 4 then (st k v g b.val ⟨r.val, h⟩ 16).2 else 0 := by
  pointwise [out_main_v46]
  by_cases h : r.val < 4
  · rw [dif_pos h, dif_pos h]
    exact hB.ms b ⟨r.val, h⟩
  · rw [dif_neg h, dif_neg h]

/-- The reference's results as one array. -/
theorem out47_at (hB : Before V0 q k v g 16) (b : Fin 8) (j : Fin 16) (h : Fin 4) (r e : Fin 128) :
    (out_main_v47 V0 : FVec Ideal S16384x512 .bf16) (ix2 (tok b.val j.val r) ⟨128 * h.val + e.val, by omega⟩)
      = hout (yv q k v g b.val j.val h r) (fun e => (V0 (Proc.devRef .tc main_arg3) : FVec Ideal S16384x512 .f32) (ix2 (tok b.val j.val r) ⟨128 * h.val + e.val, by omega⟩))
        (fun e => (V0 (Proc.devRef .tc main_arg6) : FVec Ideal S1x512 .f32) (ix2 0 ⟨128 * h.val + e.val, by omega⟩)) e := by
  have hb := b.isLt
  have hj := j.isLt
  have hr := r.isLt
  have ht : (tok b.val j.val r).val = 2048 * b.val + 128 * j.val + r.val := Nat.mod_eq_of_lt (by omega)
  have hx : ∀ x : Fin 128, (V0 (Proc.devRef .tc main_v21_10) : FVec Ideal S16x8x4x128x128 .f32)
      (ix5 ⟨(tok b.val j.val r).val / 128 % 16, by omega⟩ ⟨(tok b.val j.val r).val / 2048, by omega⟩ h ⟨(tok b.val j.val r).val % 128, by omega⟩ x) = yv q k v g b.val j.val h r x := fun x => by
    rw [show (⟨(tok b.val j.val r).val / 128 % 16, by omega⟩ : Fin 16) = j from Fin.ext (by show _ / 128 % 16 = _; omega),
      show (⟨(tok b.val j.val r).val / 2048, by omega⟩ : Fin 8) = b from Fin.ext (by show _ / 2048 = _; omega),
      show (⟨(tok b.val j.val r).val % 128, by omega⟩ : Fin 128) = r from Fin.ext (by show _ % 128 = _; omega)]
    exact hB.ys j b h r x hj
  pointwise [out_main_v47]
  simp only [hx]
  unfold hout
  have h6 : (⟨h.val * 128 + e.val, by omega⟩ : Fin 512) = ⟨128 * h.val + e.val, by omega⟩ := Fin.ext (by show h.val * 128 + e.val = 128 * h.val + e.val; omega)
  rw [h6]

variable (m : (ℓ : Loc nD τ sig) → Buf (Elt Ideal) ℓ)

/-- The queries by row and column. -/
def rq (c : Dev nD) (r : Fin 16384) (s : Fin 512) : EReal := (m ((c.tc : Thread nD τ).loc main_arg0) : FVec Ideal S16384x512 .bf16) (ix2 r s)
/-- The keys by row and column. -/
def rk (c : Dev nD) (r : Fin 16384) (s : Fin 512) : EReal := (m ((c.tc : Thread nD τ).loc main_arg1) : FVec Ideal S16384x512 .bf16) (ix2 r s)
/-- The values by row and column. -/
def rv (c : Dev nD) (r : Fin 16384) (s : Fin 512) : EReal := (m ((c.tc : Thread nD τ).loc main_arg2) : FVec Ideal S16384x512 .bf16) (ix2 r s)
/-- The gates by row and column. -/
def rg (c : Dev nD) (r : Fin 16384) (s : Fin 128) : EReal := (m ((c.tc : Thread nD τ).loc main_arg4) : FVec Ideal S16384x128 .f32) (ix2 r s)

/-- A sequence's rows cut into chunks and heads. -/
theorem cut5 (x : FVec Ideal S16384x512 .f32) (i : Fin 16) (b : Fin 8) (h : Fin 4) (t e : Fin 128) :
    transpose S16x8x4x128x128 [1, 0, 3, 2, 4] (shapeCast S8x16x128x4x128 x shapeCasts_S16384x512_S8x16x128x4x128) transposes_S8x16x128x4x128_S16x8x4x128x128_1_0_3_2_4 (ix5 i b h t e)
      = hd (fun r s => x (ix2 r s)) b.val i.val h t e := by
  have hb := b.isLt
  have hi := i.isLt
  have ht := t.isLt
  pointwise
  unfold hd
  refine congrArg x (congrArg₂ ix2 (Fin.ext ?_) (Fin.ext ?_))
  · show b.val * 2048 + i.val * 128 + t.val = (2048 * b.val + 128 * i.val + t.val) % 16384
    omega
  · show h.val * 128 + e.val = 128 * h.val + e.val
    omega

/-- A sequence's gates cut into chunks and heads. -/
theorem cut4 (x : FVec Ideal S16384x4 .f32) (i : Fin 16) (b : Fin 8) (h : Fin 4) (t : Fin 128) :
    transpose S16x8x4x128 [1, 0, 3, 2] (shapeCast S8x16x128x4 x shapeCasts_S16384x4_S8x16x128x4) transposes_S8x16x128x4_S16x8x4x128_1_0_3_2 (ix4 i b h t)
      = x (ix2 (tok b.val i.val t) h) := by
  have hb := b.isLt
  have hi := i.isLt
  have ht := t.isLt
  pointwise
  refine congrArg x (congrArg₂ ix2 (Fin.ext ?_) rfl)
  show b.val * 2048 + i.val * 128 + t.val = (2048 * b.val + 128 * i.val + t.val) % 16384
  omega

/-- The arrays before the first trip. -/
theorem entry (c : Dev nD) : Before (entryContents preI m c) (rq m c) (rk m c) (rv m c) (rg m c) 0 where
  ctr i := congrFun (ctr_entry m c) i
  qs i b h t e := by
    simp only [entryContents, afterL_cons, afterL_nil]
    after_reads_simp
    exact cut5 _ i b h t e
  ks i b h t e := by
    simp only [entryContents, afterL_cons, afterL_nil]
    after_reads_simp
    exact cut5 _ i b h t e
  vs i b h t e := by
    simp only [entryContents, afterL_cons, afterL_nil]
    after_reads_simp
    exact cut5 _ i b h t e
  ig i b h t := by
    simp only [entryContents, afterL_cons, afterL_nil]
    after_reads_simp
    refine (cut4 _ i b h t).trans ?_
    pointwise
    rfl
  lf i b h t := by
    simp only [entryContents, afterL_cons, afterL_nil]
    after_reads_simp
    refine (cut4 _ i b h t).trans ?_
    pointwise
    rfl
  tri t s := by
    simp only [entryContents, afterL_cons, afterL_nil]
    after_reads_simp
    simp only [StableHlo.TRef.ofBuf, StableHlo.TRef.toBuf, cast_eq, id_eq]
    pointwise
    show Scalar.select (IntOp.cmpi CmpIPredicate.sle (BitVec.ofNat 32 s.val) (BitVec.ofNat 32 t.val + 0#32)) 1#1 0#1 = _
    rw [BitVec.add_zero, Tri.sle_lt, sel_dec]
    by_cases hs : s.val ≤ t.val <;> simp only [hs, if_true, if_false, decide_true, decide_false] <;> rfl
  cs b h d e := by
    simp only [entryContents, afterL_cons, afterL_nil]
    after_reads_simp
    pointwise [id_eq]
    rfl
  ns b h d := by
    simp only [entryContents, afterL_cons, afterL_nil]
    after_reads_simp
    pointwise [id_eq]
    rfl
  ms b h := by
    simp only [entryContents, afterL_cons, afterL_nil]
    after_reads_simp
    pointwise [id_eq]
    rfl
  ys i b h t e hi := absurd hi (Nat.not_lt_zero _)

end Cert.Rec
end
-- ==== Proof.RecClaim.lean ====
module

public import proofs.«01_k».proof.Proof.RecRun
public import proofs.«01_k».proof.Proof.Gen.Pre_gates
public import proofs.«01_k».proof.Defs
public import Idealize.ShloMosaic.Lib.ReduceAll
public import proofs.«01_k».proof.Proof.Gen.ReferenceIdeal.Run
public import Idealize.ShloMosaic.Lib.Pipeline.ReadBack
public import Idealize.ShloMosaic.Lib.DynamicIndex

@[expose] public section

set_option maxRecDepth 16384

noncomputable section

/-! The recurrence's two programs leave the same results: what the precondition says of the gates, and the comparison. -/

namespace Cert.Rec

open Idealize.ShloMosaic Idealize.ShloMosaic.TcCoe Idealize.SL.Sem

/-- A decided bit that is set. -/
theorem of_bit {p : Prop} [Decidable p] (h : BitVec.ofBool (decide p) = 1#1) : p := by
  by_contra hp
  rw [decide_eq_false hp] at h
  exact absurd h (by decide)

/-- The precondition read at the elements. -/
theorem gateOk (m : (ℓ : Loc Cert.KernelIdeal.nD Cert.KernelIdeal.τ Cert.KernelIdeal.sig) → Buf (Elt Ideal) ℓ)
    (hpre : Cert.Pre_KernelIdeal_gates (hPre_gates := Cert.Pre_gates.Gen.facts) m) (c : Dev Cert.KernelIdeal.nD) : GateOk m c := by
  haveI : Subsingleton Cert.Pre_gates.S_.Idx := ⟨fun a b => funext fun i => i.elim0⟩
  have h0 := congrFun (hpre c) ix0
  obtain ⟨h1, h2⟩ := IntOp.andi_eq_one.1 h0
  refine ⟨fun g r => ?_, fun h r => ?_⟩
  · have := Host.reduce_andi_all _ _ _ _ _ h1 (ix2 g r)
    refine Eq.trans (Eq.symm ?_) ((of_bit this).trans ?_)
    · pointwise
    · pointwise
      rfl
  · have := Host.reduce_andi_all _ _ _ _ _ h2 (ix2 r h)
    refine Eq.trans_le ?_ ((of_bit this).trans_eq ?_)
    · pointwise
      rfl
    · pointwise

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- A row is a token of a chunk of a sequence. -/
theorem tok_row (r : Fin 16384) : r = tok (⟨r.val / 2048, by omega⟩ : Fin 8).val (⟨r.val / 128 % 16, by omega⟩ : Fin 16).val ⟨r.val % 128, by omega⟩ :=
  Fin.ext (by show r.val = (2048 * (r.val / 2048) + 128 * (r.val / 128 % 16) + r.val % 128) % 16384; omega)

variable {V0 : Valuation Cert.ReferenceIdeal.τ Cert.ReferenceIdeal.sig (Elt Ideal)}

/-- The results agree. -/
theorem same9 (c : Dev Cert.KernelIdeal.nD) (hG : GateOk m c) (hB : Before V0 (aq m c) (ak m c) (av m c) (ag m c) 16)
    (h3 : V0 (Proc.devRef .tc Cert.ReferenceIdeal.main_arg3) = m ((c.tc : Thread Cert.KernelIdeal.nD Cert.KernelIdeal.τ).loc Cert.KernelIdeal.main_arg3))
    (h6 : V0 (Proc.devRef .tc Cert.ReferenceIdeal.main_arg6) = m ((c.tc : Thread Cert.KernelIdeal.nD Cert.KernelIdeal.τ).loc Cert.KernelIdeal.main_arg6)) :
    Cert.ReferenceIdeal.Value.out_main_v47 V0 = Cert.KernelIdeal.Value.G9 m c := by
  funext y
  obtain ⟨r, s, rfl⟩ : ∃ (r : Fin 16384) (s : Fin 512), y = ix2 r s := ⟨y 0, y 1, by funext a; match a with | ⟨0, _⟩ => rfl | ⟨1, _⟩ => rfl⟩
  have hs : s = ⟨128 * (⟨s.val / 128, by omega⟩ : Fin 4).val + (⟨s.val % 128, by omega⟩ : Fin 128).val, by show 128 * (s.val / 128) + s.val % 128 < 512; omega⟩ :=
    Fin.ext (by show s.val = 128 * (s.val / 128) + s.val % 128; omega)
  rw [tok_row r, hs]
  refine (out47_at hB _ _ _ _ _).trans (Eq.trans ?_ (g9_at m c hG _ _ _ _ _).symm)
  rw [h3, h6]

/-- The states agree. -/
theorem same10 (c : Dev Cert.KernelIdeal.nD) (hG : GateOk m c) (hB : Before V0 (aq m c) (ak m c) (av m c) (ag m c) 16) :
    Cert.ReferenceIdeal.Value.out_main_v42 V0 = Cert.KernelIdeal.Value.G10 m c := by
  funext y
  obtain ⟨b, h, d, e, rfl⟩ : ∃ (b : Fin 8) (h : Fin 4) (d : Fin 128) (e : Fin 256), y = ix4 b h d e :=
    ⟨y 0, y 1, y 2, y 3, by funext a; match a with | ⟨0, _⟩ => rfl | ⟨1, _⟩ => rfl | ⟨2, _⟩ => rfl | ⟨3, _⟩ => rfl⟩
  exact (out42_at hB b h d e).trans (g10_at m c hG b h d e).symm

/-- The scales agree. -/
theorem same11 (c : Dev Cert.KernelIdeal.nD) (hG : GateOk m c) (hB : Before V0 (aq m c) (ak m c) (av m c) (ag m c) 16) :
    Cert.ReferenceIdeal.Value.out_main_v46 V0 = Cert.KernelIdeal.Value.G11 m c := by
  funext y
  obtain ⟨b, r, e, rfl⟩ : ∃ (b r : Fin 8) (e : Fin 128), y = ix3 b r e :=
    ⟨y 0, y 1, y 2, by funext a; match a with | ⟨0, _⟩ => rfl | ⟨1, _⟩ => rfl | ⟨2, _⟩ => rfl⟩
  exact (out46_at hB b r e).trans (g11_at m c hG b r e).symm

/-- The reference's loop, from the kernel's arguments. -/
theorem ran (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Before (Cert.ReferenceIdeal.Value.STEP^[16] (StableHlo.entryContents Cert.ReferenceIdeal.Value.preI m' c)) (aq m c) (ak m c) (av m c) (ag m c) 16 := by
  have e0 : rq m' c = aq m c := by unfold rq aq; rw [h0]
  have e1 : rk m' c = ak m c := by unfold rk ak; rw [h1]
  have e2 : rv m' c = av m c := by unfold rv av; rw [h2]
  have e4 : rg m' c = ag m c := by unfold rg ag; rw [h4]
  rw [← e0, ← e1, ← e2, ← e4]
  exact trips (entry m' c) 16 (Nat.le_refl 16)

end Cert.Rec
end
-- ==== Proof.ScaleHost.lean ====
module

public import proofs.«01_k».proof.Proof.Scale
public import proofs.«01_k».proof.Proof.Tri
public import proofs.«01_k».proof.Proof.RecClaim
public import proofs.«01_k».proof.Proof.Gen.Kernel7Ideal.Value
public import proofs.«01_k».proof.Proof.Gen.Pre_gates7
public import Idealize.ShloMosaic.Lib.Pipeline.ReadBack
public import Idealize.ShloMosaic.Lib.Pipeline.ValueKit

@[expose] public section

set_option maxRecDepth 16384

noncomputable section

/-! The operands of the second batch's recurrence that its scale depends on, and the block of scales a grid point writes. -/

namespace Cert.Scale

open Idealize.ShloMosaic Idealize.ShloMosaic.TcCoe Idealize.SL.Sem
open Cert.Kernel7Ideal Cert.Kernel7Ideal.Gen

variable (m : (ℓ : Loc nD τ sig) → Buf (Elt Ideal) ℓ)

/-- The blocks of the grid. -/
theorem idx : ∀ t : Fin cfg0.N, win0_4.index t = ![t.val, 0] ∧ win0_5.index t = ![0, t.val] ∧ win0_6.index t = ![t.val, 0] ∧ win0_10.index t = ![0, 0]
    ∧ win0_11.index t = ![0, 0] ∧ win0_14.index t = ![0, 0] ∧ win0_19.index t = ![t.val, 0, 0] := (by decide +kernel : ∀ t : Fin grid0.N, _)

/-- Row `r` of block `t` of the tokens. -/
def at_ (t : Fin cfg0.N) (r : Fin 128) : Fin 1024 := ⟨t.val * 128 + r.val, by have := t.isLt; have : cfg0.N = 8 := N_0; omega⟩

/-- Sequence `i` of block `t`. -/
def seq_ (t : Fin cfg0.N) (i : Fin 16) : Fin 128 := ⟨t.val * 16 + i.val, by have := t.isLt; have : cfg0.N = 8 := N_0; omega⟩

/-- The gates, a token per row. -/
def ag (c : Dev nD) (r : Fin 1024) (j : Fin 128) : EReal := (m ((c : Thread nD τ).loc main_arg4) : FVec Ideal S1024x128 .f32) (ix2 r j)
/-- The gates, a token per column. -/
def agr (c : Dev nD) (j : Fin 16) (r : Fin 1024) : EReal := (m ((c : Thread nD τ).loc main_arg5) : FVec Ideal S16x1024 .f32) (ix2 j r)
/-- The scales before. -/
def am (c : Dev nD) (b : Fin 128) (h : Fin 4) : EReal := (m ((c : Thread nD τ).loc main_arg8) : FVec Ideal S128x4 .f32) (ix2 b h)

/-- The mask the host makes. -/
theorem h13_at (c : Dev nD) (r s : Fin 128) : (V m c main_v13 : FVec Ideal S128x128 .bf16) (ix2 r s) = if Le r s then (1 : EReal) else 0 := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp only [StableHlo.TRef.ofBuf, StableHlo.TRef.toBuf, cast_eq]
  pointwise
  exact (congrArg (FloatOps.uitofp (F := Ideal) FTy.bf16) (Tri.bit_8 r s)).trans (Tri.num _)

/-- The mask, its rows and columns exchanged. -/
theorem h57_at (c : Dev nD) (s r : Fin 128) : (V m c main_v57 : FVec Ideal S128x128 .bf16) (ix2 s r) = if Le r s then (1 : EReal) else 0 := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp only [StableHlo.TRef.ofBuf, StableHlo.TRef.toBuf, cast_eq]
  pointwise
  exact (congrArg (FloatOps.uitofp (F := Ideal) FTy.bf16) (Tri.bit_8 r s)).trans (Tri.num _)

/-- The bit that says a token is a sequence's last. -/
theorem last_bit : ∀ (i : Fin 16) (s : Fin 128), IntOp.cmpi CmpIPredicate.eq (BitVec.ofNat 32 s.val)
    (IntOp.subi (IntOp.addi (IntOp.muli (BitVec.ofNat 32 i.val) 8#32) 8#32) 1#32) = BitVec.ofBool (decide (s = tok i 7)) := by decide +kernel

/-- The choice of each sequence's last token. -/
theorem h47_at (c : Dev nD) (i : Fin 16) (s : Fin 128) : (V m c main_v47 : FVec Ideal S16x128 .bf16) (ix2 i s) = if s = tok i 7 then (1 : EReal) else 0 := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  pointwise
  exact (congrArg (FloatOps.uitofp (F := Ideal) FTy.bf16) (last_bit i s)).trans (Tri.num _)

/-- The scales before, one row for each token. -/
theorem h56_at (c : Dev nD) (r : Fin 1024) (h : Fin 4) : (V m c main_v56 : FVec Ideal S1024x4 .f32) (ix2 r h) = am m c ⟨r.val / 8, by omega⟩ h := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  pointwise
  rfl

/-- A point's block of the gates. -/
theorem b4 (c : Dev nD) (t : Fin cfg0.N) (r : Fin 128) (j : Fin 128) : (iblk m c 4 t : FVec Ideal S128x128 .f32) (ix2 r j) = ag m c (at_ t r) j := by
  unfold at_ ag; blk_ext [iblk, V, idx t]
/-- A point's block of the gates as columns. -/
theorem b5 (c : Dev nD) (t : Fin cfg0.N) (j : Fin 16) (r : Fin 128) : (iblk m c 5 t : FVec Ideal S16x128 .f32) (ix2 j r) = agr m c j (at_ t r) := by
  unfold at_ agr; blk_ext [iblk, V, idx t]
/-- A point's block of the scales before. -/
theorem b6 (c : Dev nD) (t : Fin cfg0.N) (r : Fin 128) (h : Fin 4) : (iblk m c 6 t : FVec Ideal S128x4 .f32) (ix2 r h) = am m c ⟨(at_ t r).val / 8, by omega⟩ h := by
  refine Eq.trans ?_ (h56_at m c (at_ t r) h)
  unfold iblk
  show (V m c main_v56) _ = _
  generalize V m c main_v56 = X
  unfold at_
  blk_ext [idx t]
/-- Every point's block of the mask. -/
theorem b10 (c : Dev nD) (t : Fin cfg0.N) (r s : Fin 128) : (iblk m c 10 t : FVec Ideal S128x128 .bf16) (ix2 r s) = if Le r s then (1 : EReal) else 0 := by
  refine Eq.trans ?_ (h13_at m c r s)
  unfold iblk
  show (V m c main_v13) _ = _
  generalize V m c main_v13 = X
  blk_ext [idx t]
/-- Every point's block of the exchanged mask. -/
theorem b11 (c : Dev nD) (t : Fin cfg0.N) (s r : Fin 128) : (iblk m c 11 t : FVec Ideal S128x128 .bf16) (ix2 s r) = if Le r s then (1 : EReal) else 0 := by
  refine Eq.trans ?_ (h57_at m c s r)
  unfold iblk
  show (V m c main_v57) _ = _
  generalize V m c main_v57 = X
  blk_ext [idx t]
/-- Every point's block of the choice of last tokens. -/
theorem b14 (c : Dev nD) (t : Fin cfg0.N) (i : Fin 16) (s : Fin 128) : (iblk m c 14 t : FVec Ideal S16x128 .bf16) (ix2 i s) = if s = tok i 7 then (1 : EReal) else 0 := by
  refine Eq.trans ?_ (h47_at m c i s)
  unfold iblk
  show (V m c main_v47) _ = _
  generalize V m c main_v47 = X
  blk_ext [idx t]

/-- What the precondition says of the gates and of the scales before. -/
structure GateOk (c : Dev nD) : Prop where
  row : ∀ (g : Fin 8) (r : Fin 1024), agr m c ⟨g.val, by omega⟩ r = ag m c r ⟨g.val, by omega⟩
  neg : ∀ (h : Fin 4) (r : Fin 1024), ag m c r ⟨4 + h.val, by omega⟩ ≤ 0
  inp : ∀ (h : Fin 4) (r : Fin 1024), ag m c r ⟨h.val, by omega⟩ < ⊤
  prev : ∀ (b : Fin 128) (h : Fin 4), am m c b h < ⊤

/-- The word of plus infinity. -/
theorem posInf : Ideal.ofBits FTy.f32 2139095040#32 = ⊤ := by
  simp [Ideal.ofBits, Ideal.ieee]

/-- The precondition read at the elements. -/
theorem gateOk (hpre : Cert.Pre_Kernel7Ideal_gates7 (hPre_gates7 := Cert.Pre_gates7.Gen.facts) m) (c : Dev nD) : GateOk m c := by
  haveI : Subsingleton Cert.Pre_gates7.S_.Idx := ⟨fun a b => funext fun i => i.elim0⟩
  have h0 := congrFun (hpre c) ix0
  obtain ⟨h123, h4⟩ := IntOp.andi_eq_one.1 h0
  obtain ⟨h12, h3⟩ := IntOp.andi_eq_one.1 h123
  obtain ⟨h1, h2⟩ := IntOp.andi_eq_one.1 h12
  refine ⟨fun g r => ?_, fun h r => ?_, fun h r => ?_, fun b h => ?_⟩
  · have := Host.reduce_andi_all _ _ _ _ _ h1 (ix2 g r)
    refine Eq.trans (Eq.symm ?_) ((Rec.of_bit this).trans ?_)
    · pointwise
      rfl
    · pointwise
      rfl
  · have := Host.reduce_andi_all _ _ _ _ _ h2 (ix2 r h)
    refine Eq.trans_le ?_ ((Rec.of_bit this).trans_eq ?_)
    · pointwise
      rfl
    · pointwise
  · have := Host.reduce_andi_all _ _ _ _ _ h3 (ix2 r h)
    refine Eq.trans_lt ?_ ((Rec.of_bit this).trans_eq ?_)
    · pointwise
      rfl
    · pointwise
      exact posInf
  · have := Host.reduce_andi_all _ _ _ _ _ h4 (ix2 b h)
    refine Eq.trans_lt ?_ ((Rec.of_bit this).trans_eq ?_)
    · pointwise
      rfl
    · pointwise
      exact posInf

/-- The blocks of a point are as the body needs them. -/
theorem blocks (c : Dev nD) (hG : GateOk m c) (t : Fin cfg0.N) : Blocks (iblk m c 4 t) (iblk m c 5 t) (iblk m c 6 t) (iblk m c 10 t) (iblk m c 11 t) (iblk m c 14 t) where
  tri r s := b10 m c t r s
  triu s r := b11 m c t s r
  pick i s := b14 m c t i s
  row g r := (b5 m c t _ r).trans ((hG.row g _).trans (b4 m c t r _).symm)
  neg h r := le_of_eq_of_le (α := EReal) (b4 m c t r _) (hG.neg h _)
  inp h r := lt_of_eq_of_lt (α := EReal) (b4 m c t r _) (hG.inp h _)
  prev h r := lt_of_eq_of_lt (α := EReal) (b6 m c t r h) (hG.prev _ h)

variable (x0 x1 x2 : Vec Ideal S128x512 .bf16) (x3 : Vec Ideal S128x512 .f32) (x4 : Vec Ideal S128x128 .f32) (x5 : Vec Ideal S16x128 .f32) (x6 : Vec Ideal S128x4 .f32) (x7 : Vec Ideal S16x4x128x128 .f32)
  (x8 : Vec Ideal S16x4x128 .f32) (x9 : Vec Ideal S1x512 .f32) (x10 x11 x12 : Vec Ideal S128x128 .bf16) (x13 : Vec Ideal S128x16 .bf16) (x14 x15 : Vec Ideal S16x128 .bf16)

/-- The block of scales the body stores. -/
theorem out19_at (hb : Blocks x4 x5 x6 x10 x11 x14) (i : Fin 16) (h : Fin 4) (d : Fin 128) :
    out0_19 (F := Ideal) x0 x1 x2 x3 x4 x5 x6 x7 x8 x9 x10 x11 x12 x13 x14 x15 (ix3 i h d) = col x4 x6 h (tok i 7) := by
  have e4 : View.ld (Val := Elt Ideal) (e' := .f32) x4 r0_0 = x4 := View.ld_unit_lit _ _ (by decide)
  have e5 : View.ld (Val := Elt Ideal) (e' := .f32) x5 r0_1 = x5 := View.ld_unit_lit _ _ (by decide)
  have e10 : View.ld (Val := Elt Ideal) (e' := .bf16) x10 r0_0 = x10 := View.ld_unit_lit _ _ (by decide)
  have e11 : View.ld (Val := Elt Ideal) (e' := .bf16) x11 r0_0 = x11 := View.ld_unit_lit _ _ (by decide)
  have e14 : View.ld (Val := Elt Ideal) (e' := .bf16) x14 r0_1 = x14 := View.ld_unit_lit _ _ (by decide)
  unfold_out out0_19
  rw [e4, e5, e10, e11, e14]
  have m0 := hb.m0 (View.ld (Val := Elt Ideal) (e' := .f32) x6 r0_4) (fun t => by pointwise)
  have m1 := hb.m1 (View.ld (Val := Elt Ideal) (e' := .f32) x6 r0_25) (fun t => by pointwise)
  have m2 := hb.m2 (View.ld (Val := Elt Ideal) (e' := .f32) x6 r0_46) (fun t => by pointwise)
  have m3 := hb.m3 (View.ld (Val := Elt Ideal) (e' := .f32) x6 r0_67) (fun t => by pointwise)
  canon_tiles x hx using cover0_19 _ _ _ _ (ix3 i h d)
  all_goals
    obtain ⟨u, o, w, rfl⟩ : ∃ (u : Fin 16) (o : Fin 1) (w : Fin 128), x = ix3 u o w := ⟨x 0, x 1, x 2, by idx_ext⟩
    obtain rfl : o = 0 := Fin.ext (by omega)
    obtain rfl : i = u := Fin.ext (by simpa using hx0)
  · obtain rfl : h = 3 := Fin.ext hx1
    exact (hb.p3 _ (fun t => (m3 t).trans_ne (hb.ne 3 t)) i w).trans (m3 _)
  · obtain rfl : h = 2 := Fin.ext hx1
    exact (hb.p2 _ (fun t => (m2 t).trans_ne (hb.ne 2 t)) i w).trans (m2 _)
  · obtain rfl : h = 1 := Fin.ext hx1
    exact (hb.p1 _ (fun t => (m1 t).trans_ne (hb.ne 1 t)) i w).trans (m1 _)
  · obtain rfl : h = 0 := Fin.ext (by simpa using hx1)
    exact (hb.p0 _ (fun t => (m0 t).trans_ne (hb.ne 0 t)) i w).trans (m0 _)

/-- A sequence's scale after its tokens, from the arguments. -/
def res (c : Dev nD) (b : Fin 128) (h : Fin 4) : EReal :=
  scale (fun u : Fin 8 => ag m c ⟨b.val * 8 + u.val, by omega⟩ ⟨4 + h.val, by omega⟩) (fun u : Fin 8 => ag m c ⟨b.val * 8 + u.val, by omega⟩ ⟨h.val, by omega⟩) (am m c b h)

/-- The block of scales at a point. -/
theorem point (c : Dev nD) (hG : GateOk m c) (t : Fin cfg0.N) (i : Fin 16) (h : Fin 4) (d : Fin 128) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 i h d)
      = res m c (seq_ t i) h := by
  refine (out19_at _ _ _ _ _ _ _ _ _ _ _ _ _ _ _ _ (blocks m c hG t) i h d).trans ?_
  unfold col res
  rw [bscale_tok]
  have e : ∀ u : Fin 8, at_ t (tok i u) = ⟨(seq_ t i).val * 8 + u.val, by omega⟩ := fun u => Fin.ext (by
    show t.val * 128 + (i.val * 8 + u.val) = (t.val * 16 + i.val) * 8 + u.val
    omega)
  simp only [b4 m c t, b6 m c t, e]
  refine congrArg (fun b => scale _ _ (am m c b h)) (Fin.ext ?_)
  show ((seq_ t i).val * 8 + 7) / 8 = _
  omega

end Cert.Scale
end
-- ==== Proof.ScaleRef.lean ====
module

public import proofs.«01_k».proof.Proof.ScaleHost
public import proofs.«01_k».proof.Proof.RunningSum
public import proofs.«01_k».proof.Proof.Gen.Reference7Ideal.Run
public import proofs.«01_k».proof.Proof.Gen.Reference7Ideal.Read
public import Idealize.ShloMosaic.Lib.ReduceAll
public import Idealize.ShloMosaic.Lib.Pipeline.ValueKit
public import Idealize.ShloMosaic.Lib.Claim

@[expose] public section

set_option maxRecDepth 16384

noncomputable section

/-! The reference's scale of the second batch, read at an element, and the kernel's array of scales beside it. -/

namespace Cert.Scale

open Idealize.ShloMosaic Idealize.ShloMosaic.TcCoe Idealize.SL.Sem
open Cert.Reference7Ideal Cert.Reference7Ideal.Gen Cert.Reference7Ideal.Read

variable (x4 : FVec Ideal S1024x128 .f32) (x8 : FVec Ideal S128x4 .f32)

/-- The input gates of a sequence. -/
theorem v2_at (b : Fin 128) (h : Fin 4) (u : Fin 8) : val_main_v2 (F := Ideal) x4 (ix3 b h u) = x4 (ix2 ⟨b.val * 8 + u.val, by omega⟩ ⟨h.val, by omega⟩) := by
  unfold val_main_v2 val_main_v1 val_main_v0
  pointwise
/-- The forget gates of a sequence. -/
theorem v5_at (b : Fin 128) (h : Fin 4) (u : Fin 8) : val_main_v5 (F := Ideal) x4 (ix3 b h u) = x4 (ix2 ⟨b.val * 8 + u.val, by omega⟩ ⟨4 + h.val, by omega⟩) := by
  unfold val_main_v5 val_main_v4 val_main_v3
  pointwise

/-- The running sums of a sequence's forget gates. -/
theorem v6_at (b : Fin 128) (h : Fin 4) (u : Fin 8) : val_main_v6 (F := Ideal) x4 (ix3 b h u) = cum (fun u => x4 (ix2 ⟨b.val * 8 + u.val, by omega⟩ ⟨4 + h.val, by omega⟩)) u := by
  unfold val_main_v6
  refine (RunningSum.cumsum_at (B := 128) (H := 4) (L := 7) _ _ (fun i => by unfold val_main_call0_call0_v0 val_main_call0_call0_cst; pointwise) _ _ b h u).trans ?_
  simp only [v5_at]
  rfl

/-- The mask keeps every token for the last one. -/
theorem v20_at (b : Fin 128) (h : Fin 4) (s : Fin 8) : val_main_v20 (F := Ideal) x4 (ix4 b h (7 : Fin 8) s)
    = cum (fun u => x4 (ix2 ⟨b.val * 8 + u.val, by omega⟩ ⟨4 + h.val, by omega⟩)) 7
      + (x4 (ix2 ⟨b.val * 8 + s.val, by omega⟩ ⟨h.val, by omega⟩) - cum (fun u => x4 (ix2 ⟨b.val * 8 + u.val, by omega⟩ ⟨4 + h.val, by omega⟩)) s) := by
  rw [← v2_at x4 b h s, ← v6_at x4 b h 7, ← v6_at x4 b h s]
  unfold val_main_v20 val_main_call2_v1 val_main_v19 val_main_call1_v5 val_main_call1_c_0 val_main_call1_v4 val_main_call1_v3 val_main_call1_v2 val_main_call1_v1 val_main_call1_c val_main_call1_v0 val_main_v18 val_main_c
    val_main_v17 val_main_v16 val_main_v15 val_main_v14 val_main_v13 val_main_v12 val_main_v11 val_main_v10
  generalize val_main_v6 (F := Ideal) x4 = z
  generalize val_main_v2 (F := Ideal) x4 = g
  pointwise
  have hs : ∀ (s : Fin 8) (p q : EReal), Scalar.select (Scalar.select (IntOp.cmpi CmpIPredicate.sge (IntOp.addi (BitVec.ofNat 32 7) 0#32) (BitVec.ofNat 32 s.val)) 1#1 0#1) p q = p := by
    intro s p q
    fin_cases s <;> exact if_pos (by decide)
  refine (hs s _ _).trans ?_
  rw [sub_eq_add_neg, sub_eq_add_neg, add_assoc, add_comm (-_)]

/-- The reference's scale. -/
theorem v26_at (b : Fin 128) (h : Fin 4) (d : Fin 128) : val_main_v26 (F := Ideal) x4 x8 (ix3 b h d)
    = scale (fun u : Fin 8 => x4 (ix2 ⟨b.val * 8 + u.val, by omega⟩ ⟨4 + h.val, by omega⟩)) (fun u : Fin 8 => x4 (ix2 ⟨b.val * 8 + u.val, by omega⟩ ⟨h.val, by omega⟩)) (x8 (ix2 b h)) := by
  have h21 : val_main_v21 (F := Ideal) x4 (ix3 b h (7 : Fin 8)) = Finset.univ.fold max ⊥ fun s : Fin 8 => val_main_v20 (F := Ideal) x4 (ix4 b h (7 : Fin 8) s) := by
    unfold val_main_v21 val_main_cst_0
    generalize val_main_v20 (F := Ideal) x4 = z
    pointwise
    rw [Rec.negInf]
  have h6 := v6_at x4 b h 7
  unfold val_main_v26 val_main_v25 val_main_v24 val_main_v23 val_main_v22 val_main_v9 val_main_v8 val_main_v7
  revert h21 h6
  generalize val_main_v21 (F := Ideal) x4 = y
  generalize val_main_v6 (F := Ideal) x4 = z
  intro h21 h6
  pointwise
  refine (congrArg₂ max (congrArg (· + _) h6) h21).trans ?_
  simp only [v20_at]
  rfl

end Cert.Scale

namespace Cert.Scale

open Idealize.ShloMosaic Idealize.ShloMosaic.TcCoe Idealize.SL.Sem
open Cert.Kernel7Ideal Cert.Kernel7Ideal.Gen

variable (m : (ℓ : Loc nD τ sig) → Buf (Elt Ideal) ℓ)

/-- The reference's scales, over the kernel's arguments. -/
abbrev ref (c : Dev nD) : FVec Ideal S128x4x128 .f32 := Cert.Reference7Ideal.Read.val_main_v26 (F := Ideal) (m ((c : Thread nD τ).loc main_arg4)) (m ((c : Thread nD τ).loc main_arg8))

/-- The array of the scales after the run is the reference's. -/
theorem final (c : Dev nD) (hG : GateOk m c) : (dats m 0 c).arrAt 19 (cfgs 0).N = ref m c := by
  refine (dats m 0 c).arrAt_eq_of_covers 19 _ (by decide +kernel) fun t _ y => ?_
  blk_simp
  rw [after0_19]
  idx_vars y
  refine (point m c hG t y0 y1 y2).trans ((v26_at _ _ (seq_ t y0) y1 y2).symm.trans (congrArg (ref m c) ?_))
  unfold seq_
  blk_ext [idx t]

end Cert.Scale
end
-- ==== Proof.Back.lean ====
module

public import proofs.«01_k».proof.Proof.Gen.Kernel2Ideal.Frame
public import proofs.«01_k».proof.Proof.Gen.Reference2Ideal.Read
public import Idealize.ShloMosaic.Lib.Pointwise

@[expose] public section

set_option maxRecDepth 16384

noncomputable section

/-! The arithmetic of the back call, one row at a time: the row formulas, the kernel body read at an element, the
    reference's stages read at an element. -/

namespace Cert.Back

open Idealize.ShloMosaic Idealize.ShloMosaic.TcCoe Idealize.SL.Sem

/-- One row divided by its root mean square and scaled. -/
def nrm (h g : Fin 1024 → EReal) (j : Fin 1024) : EReal :=
  h j * Ideal.rsqrt (Ideal.div (∑ x, h x * h x) (Ideal.ofBits FTy.f32 1149239296#32) + Ideal.ofBits FTy.f32 897988541#32) * g j

/-- The residual row plus the two mixers' rows times the output projection. -/
def mix (x : Fin 1024 → EReal) (ya yb : Fin 512 → EReal) (wa wb : Fin 512 → Fin 1024 → EReal) (j : Fin 1024) : EReal :=
  x j + (∑ k, ya k * wa k j + ∑ k, yb k * wb k j)

/-- One hidden unit of the feed-forward layer: the squared positive part of the row times a column. -/
def act (a : Fin 1024 → EReal) (w : Fin 1024 → EReal) : EReal := max (∑ x, a x * w x) 0 * max (∑ x, a x * w x) 0

/-- The row after the feed-forward layer. -/
def ffn (h a : Fin 1024 → EReal) (wup : Fin 1024 → Fin 4096 → EReal) (wdn : Fin 4096 → Fin 1024 → EReal) (j : Fin 1024) : EReal :=
  h j + ∑ f, act a (fun x => wup x f) * wdn f j

/-- The row after the gated per-layer embedding. -/
def ple (h a : Fin 1024 → EReal) (wg : Fin 1024 → Fin 1024 → EReal) (p : Fin 256 → EReal) (wp : Fin 256 → Fin 1024 → EReal) (j : Fin 1024) : EReal :=
  h j + Ideal.logistic (∑ x, a x * wg x j) * ∑ x, p x * wp x j

/-- The whole row. -/
def row (x : Fin 1024 → EReal) (ya yb : Fin 512 → EReal) (wa wb : Fin 512 → Fin 1024 → EReal) (g1 : Fin 1024 → EReal)
    (wup : Fin 1024 → Fin 4096 → EReal) (wdn : Fin 4096 → Fin 1024 → EReal) (g2 : Fin 1024 → EReal) (wg : Fin 1024 → Fin 1024 → EReal)
    (p : Fin 256 → EReal) (wp : Fin 256 → Fin 1024 → EReal) (g3 : Fin 1024 → EReal) : Fin 1024 → EReal :=
  nrm (ple (ffn (mix x ya yb wa wb) (nrm (mix x ya yb wa wb) g1) wup wdn)
    (nrm (ffn (mix x ya yb wa wb) (nrm (mix x ya yb wa wb) g1) wup wdn) g2) wg p wp) g3

/-- The columns of the hidden layer in four tiles. -/
theorem ffn_tiles (h a : Fin 1024 → EReal) (wup : Fin 1024 → Fin 4096 → EReal) (wdn : Fin 4096 → Fin 1024 → EReal) (j : Fin 1024) :
    ffn h a wup wdn j = h j + (∑ f : Fin 1024, act a (fun x => wup x ⟨0 + f.val, by omega⟩) * wdn ⟨0 + f.val, by omega⟩ j
      + ∑ f : Fin 1024, act a (fun x => wup x ⟨1024 + f.val, by omega⟩) * wdn ⟨1024 + f.val, by omega⟩ j
      + ∑ f : Fin 1024, act a (fun x => wup x ⟨2048 + f.val, by omega⟩) * wdn ⟨2048 + f.val, by omega⟩ j
      + ∑ f : Fin 1024, act a (fun x => wup x ⟨3072 + f.val, by omega⟩) * wdn ⟨3072 + f.val, by omega⟩ j) := by
  unfold ffn
  rw [Fin.sum_univ_tiles 4 1024 rfl, Fin.sum_univ_four]
  rfl

section K
open Cert.Kernel2Ideal Cert.Kernel2Ideal.Gen

/-- The residual after the output projection. -/
theorem pay1_at (v0 : FVec Ideal S512x1024 .f32) (v1 : FVec Ideal S512x512 .bf16) (v2 : FVec Ideal S512x1024 .bf16) (v6 : FVec Ideal S512x512 .bf16) (v7 : FVec Ideal S512x1024 .bf16) (r : Fin 512) (j : Fin 1024) :
    k0_pay1 (F := Ideal) v0 v1 v2 v6 v7 (ix2 r j) = mix (fun j => v0 (ix2 r j)) (fun k => v1 (ix2 r k)) (fun k => v6 (ix2 r k)) (fun k j => v2 (ix2 k j)) (fun k j => v7 (ix2 k j)) j := by
  pointwise [k0_pay1]
  unfold mix
  rw [add_assoc]

/-- The normalized row the first part of the MLP reads. -/
theorem pay2_at (v0 : FVec Ideal S512x1024 .f32) (v1 : FVec Ideal S512x512 .bf16) (v2 : FVec Ideal S512x1024 .bf16) (v6 : FVec Ideal S512x512 .bf16) (v7 : FVec Ideal S512x1024 .bf16) (g : FVec Ideal S1x1024 .f32) (r : Fin 512) (j : Fin 1024) :
    k0_pay2 (F := Ideal) v0 v1 v2 v6 v7 g (ix2 r j) = nrm (fun j => k0_pay1 (F := Ideal) v0 v1 v2 v6 v7 (ix2 r j)) (fun j => g (ix2 0 j)) j := by
  pointwise [k0_pay2]
  rfl

/-- One quarter of the squared rectifier. -/
theorem pay3_at (v0 : FVec Ideal S512x1024 .f32) (v1 : FVec Ideal S512x512 .bf16) (v2 : FVec Ideal S512x1024 .bf16) (v6 : FVec Ideal S512x512 .bf16) (v7 : FVec Ideal S512x1024 .bf16) (g : FVec Ideal S1x1024 .f32) (w : FVec Ideal S1024x1024 .bf16) (r : Fin 512) (j : Fin 1024) :
    k0_pay3 (F := Ideal) v0 v1 v2 v6 v7 g w (ix2 r j) = act (fun x => k0_pay2 (F := Ideal) v0 v1 v2 v6 v7 g (ix2 r x)) (fun x => w (ix2 x j)) := by
  pointwise [k0_pay3]
  rfl

/-- The residual after the MLP. -/
theorem pay5_at (v10 : FVec Ideal S512x1024 .f32) (v25 v32 : FVec Ideal S512x1024 .bf16) (v34 : FVec Ideal S1024x1024 .bf16) (a1 b1 a2 b2 a3 b3 : FVec Ideal S1024x1024 .bf16) (r : Fin 512) (j : Fin 1024) :
    k0_pay5 (F := Ideal) v10 v25 v32 v34 (constant S512x1024 .f32 0x00000000#32) a1 b1 a2 b2 a3 b3 (ix2 r j) = v10 (ix2 r j) + (∑ x : Fin 1024, v32 (ix2 r x) * v34 (ix2 x j)
      + ∑ f : Fin 1024, act (fun x => v25 (ix2 r x)) (fun x => a1 (ix2 x f)) * b1 (ix2 f j)
      + ∑ f : Fin 1024, act (fun x => v25 (ix2 r x)) (fun x => a2 (ix2 x f)) * b2 (ix2 f j)
      + ∑ f : Fin 1024, act (fun x => v25 (ix2 r x)) (fun x => a3 (ix2 x f)) * b3 (ix2 f j)) := by
  pointwise [k0_pay5]
  rfl

/-- The result row. -/
theorem pay7_at (v69 : FVec Ideal S512x1024 .f32) (v71 : FVec Ideal S1x1024 .f32) (v85 : FVec Ideal S1024x1024 .bf16) (v89 : FVec Ideal S512x256 .f32) (v91 : FVec Ideal S256x1024 .bf16) (v96 : FVec Ideal S1x1024 .f32) (r : Fin 512) (j : Fin 1024) :
    k0_pay7 (F := Ideal) v69 v71 v85 v89 v91 v96 (ix2 r j) = nrm (ple (fun j => v69 (ix2 r j)) (nrm (fun j => v69 (ix2 r j)) (fun j => v71 (ix2 0 j))) (fun k j => v85 (ix2 k j)) (fun k => v89 (ix2 r k)) (fun k j => v91 (ix2 k j))) (fun j => v96 (ix2 0 j)) j := by
  pointwise [k0_pay7]
  rfl
end K

section R
open Cert.Reference2Ideal Cert.Reference2Ideal.Gen Cert.Reference2Ideal.Read

/-- The residual row and the mixers: the joined mixers' row times the whole projection is the two halves' sum. -/
theorem v3_at (x0 : FVec Ideal S16384x1024 .f32) (x1 x2 : FVec Ideal S16384x512 .bf16) (x4 : FVec Ideal S1024x1024 .f32) (r : Fin 16384) (j : Fin 1024) :
    val_main_v3 (F := Ideal) x0 x1 x2 x4 (ix2 r j) = mix (fun j => x0 (ix2 r j)) (fun k => x1 (ix2 r k)) (fun k => x2 (ix2 r k)) (fun k j => x4 (ix2 ⟨k.val, by omega⟩ j)) (fun k j => x4 (ix2 ⟨512 + k.val, by omega⟩ j)) j := by
  pointwise [val_main_v3, val_main_v2, val_main_v1, val_main_v0]
  rfl

/-- The first normalization of a row. -/
theorem v16_at (x0 : FVec Ideal S16384x1024 .f32) (x1 x2 : FVec Ideal S16384x512 .bf16) (x4 : FVec Ideal S1024x1024 .f32) (x5 : FVec Ideal S1024 .f32) (r : Fin 16384) (j : Fin 1024) :
    val_main_v16 (F := Ideal) x0 x1 x2 x4 x5 (ix2 r j) = nrm (fun j => val_main_v3 (F := Ideal) x0 x1 x2 x4 (ix2 r j)) (fun j => x5 (ix1 j)) j := by
  unfold val_main_v16 val_main_v15 val_main_v14 val_main_v13 val_main_v12 val_main_v11 val_main_v10 val_main_v9 val_main_v8 val_main_v7 val_main_v6 val_main_v5 val_main_v4 val_main_cst val_main_cst_0 val_main_cst_1
  generalize val_main_v3 (F := Ideal) x0 x1 x2 x4 = y
  pointwise
  rfl

/-- The feed-forward layer on a row. -/
theorem v21_at (x0 : FVec Ideal S16384x1024 .f32) (x1 x2 : FVec Ideal S16384x512 .bf16) (x4 : FVec Ideal S1024x1024 .f32) (x5 : FVec Ideal S1024 .f32) (x6 : FVec Ideal S1024x4096 .f32) (x7 : FVec Ideal S4096x1024 .f32) (r : Fin 16384) (j : Fin 1024) :
    val_main_v21 (F := Ideal) x0 x1 x2 x4 x5 x6 x7 (ix2 r j) = ffn (fun j => val_main_v3 (F := Ideal) x0 x1 x2 x4 (ix2 r j)) (fun j => val_main_v16 (F := Ideal) x0 x1 x2 x4 x5 (ix2 r j))
      (fun k f => x6 (ix2 k f)) (fun f j => x7 (ix2 f j)) j := by
  unfold val_main_v21 val_main_v20 val_main_v19 val_main_v18 val_main_v17 val_main_call0_v0 val_main_call0_cst
  generalize val_main_v3 (F := Ideal) x0 x1 x2 x4 = y
  generalize val_main_v16 (F := Ideal) x0 x1 x2 x4 x5 = a
  pointwise
  rfl

/-- The second normalization of a row. -/
theorem v34_at (x0 : FVec Ideal S16384x1024 .f32) (x1 x2 : FVec Ideal S16384x512 .bf16) (x4 : FVec Ideal S1024x1024 .f32) (x5 : FVec Ideal S1024 .f32) (x6 : FVec Ideal S1024x4096 .f32) (x7 : FVec Ideal S4096x1024 .f32) (x8 : FVec Ideal S1024 .f32) (r : Fin 16384) (j : Fin 1024) :
    val_main_v34 (F := Ideal) x0 x1 x2 x4 x5 x6 x7 x8 (ix2 r j) = nrm (fun j => val_main_v21 (F := Ideal) x0 x1 x2 x4 x5 x6 x7 (ix2 r j)) (fun j => x8 (ix1 j)) j := by
  unfold val_main_v34 val_main_v33 val_main_v32 val_main_v31 val_main_v30 val_main_v29 val_main_v28 val_main_v27 val_main_v26 val_main_v25 val_main_v24 val_main_v23 val_main_v22 val_main_cst_2 val_main_cst_3 val_main_cst_4
  generalize val_main_v21 (F := Ideal) x0 x1 x2 x4 x5 x6 x7 = y
  pointwise
  rfl

/-- The gated per-layer embedding on a row. -/
theorem v44_at (x0 : FVec Ideal S16384x1024 .f32) (x1 x2 : FVec Ideal S16384x512 .bf16) (x3 : FVec Ideal S16384x256 .f32) (x4 : FVec Ideal S1024x1024 .f32) (x5 : FVec Ideal S1024 .f32) (x6 : FVec Ideal S1024x4096 .f32) (x7 : FVec Ideal S4096x1024 .f32) (x8 : FVec Ideal S1024 .f32) (x9 : FVec Ideal S1024x1024 .f32) (x10 : FVec Ideal S256x1024 .f32) (r : Fin 16384) (j : Fin 1024) :
    val_main_v44 (F := Ideal) x0 x1 x2 x3 x4 x5 x6 x7 x8 x9 x10 (ix2 r j) = ple (fun j => val_main_v21 (F := Ideal) x0 x1 x2 x4 x5 x6 x7 (ix2 r j)) (fun j => val_main_v34 (F := Ideal) x0 x1 x2 x4 x5 x6 x7 x8 (ix2 r j))
      (fun k j => x9 (ix2 k j)) (fun k => x3 (ix2 r k)) (fun k j => x10 (ix2 k j)) j := by
  unfold val_main_v44 val_main_v43 val_main_v42 val_main_v41 val_main_v40 val_main_v39 val_main_v38 val_main_v37 val_main_v36 val_main_v35 val_main_cst_5 val_main_cst_6
  generalize val_main_v21 (F := Ideal) x0 x1 x2 x4 x5 x6 x7 = y
  generalize val_main_v34 (F := Ideal) x0 x1 x2 x4 x5 x6 x7 x8 = a
  pointwise
  rfl

/-- The last normalization of a row. -/
theorem v57_at (x0 : FVec Ideal S16384x1024 .f32) (x1 x2 : FVec Ideal S16384x512 .bf16) (x3 : FVec Ideal S16384x256 .f32) (x4 : FVec Ideal S1024x1024 .f32) (x5 : FVec Ideal S1024 .f32) (x6 : FVec Ideal S1024x4096 .f32) (x7 : FVec Ideal S4096x1024 .f32) (x8 : FVec Ideal S1024 .f32) (x9 : FVec Ideal S1024x1024 .f32) (x10 : FVec Ideal S256x1024 .f32) (x11 : FVec Ideal S1024 .f32) (r : Fin 16384) (j : Fin 1024) :
    val_main_v57 (F := Ideal) x0 x1 x2 x3 x4 x5 x6 x7 x8 x9 x10 x11 (ix2 r j) = nrm (fun j => val_main_v44 (F := Ideal) x0 x1 x2 x3 x4 x5 x6 x7 x8 x9 x10 (ix2 r j)) (fun j => x11 (ix1 j)) j := by
  unfold val_main_v57 val_main_v56 val_main_v55 val_main_v54 val_main_v53 val_main_v52 val_main_v51 val_main_v50 val_main_v49 val_main_v48 val_main_v47 val_main_v46 val_main_v45 val_main_cst_7 val_main_cst_8 val_main_cst_9
  generalize val_main_v44 (F := Ideal) x0 x1 x2 x3 x4 x5 x6 x7 x8 x9 x10 = y
  pointwise
  rfl

/-- The reference's result at an element is the row formula over its arguments' rows. -/
theorem ref_at (x0 : FVec Ideal S16384x1024 .f32) (x1 x2 : FVec Ideal S16384x512 .bf16) (x3 : FVec Ideal S16384x256 .f32) (x4 : FVec Ideal S1024x1024 .f32) (x5 : FVec Ideal S1024 .f32) (x6 : FVec Ideal S1024x4096 .f32) (x7 : FVec Ideal S4096x1024 .f32) (x8 : FVec Ideal S1024 .f32) (x9 : FVec Ideal S1024x1024 .f32) (x10 : FVec Ideal S256x1024 .f32) (x11 : FVec Ideal S1024 .f32) (r : Fin 16384) (j : Fin 1024) :
    val_main_v57 (F := Ideal) x0 x1 x2 x3 x4 x5 x6 x7 x8 x9 x10 x11 (ix2 r j) =
      row (fun j => x0 (ix2 r j)) (fun k => x1 (ix2 r k)) (fun k => x2 (ix2 r k)) (fun k j => x4 (ix2 ⟨k.val, by omega⟩ j)) (fun k j => x4 (ix2 ⟨512 + k.val, by omega⟩ j)) (fun j => x5 (ix1 j))
        (fun k f => x6 (ix2 k f)) (fun f j => x7 (ix2 f j)) (fun j => x8 (ix1 j)) (fun k j => x9 (ix2 k j)) (fun k => x3 (ix2 r k)) (fun k j => x10 (ix2 k j)) (fun j => x11 (ix1 j)) j := by
  simp only [v57_at, v44_at, v34_at, v21_at, v16_at, v3_at]
  rfl
end R

section K
open Cert.Kernel2Ideal Cert.Kernel2Ideal.Gen

/-- The feed-forward layer in the body: its four tiles of the two weights are the weights' columns and rows. -/
theorem tiles_at (h : FVec Ideal S512x1024 .f32) (s : FVec Ideal S512x1024 .bf16) (b : FVec Ideal S512x1024 .bf16) (x7 : FVec Ideal S1024x4096 .bf16) (x8 : FVec Ideal S4096x1024 .bf16) (r : Fin 512)
    (w : FVec Ideal S1024x1024 .bf16) (hw : w = View.ld (Val := Elt Ideal) (e' := .bf16) x7 r0_3)
    (hs : ∀ f : Fin 1024, s (ix2 r f) = act (fun x => b (ix2 r x)) (fun x => w (ix2 x f))) (j : Fin 1024) :
    k0_pay5 (F := Ideal) h b s (k0_pay4 (View.ld x8 r0_4)) (constant S512x1024 .f32 0x00000000#32) (View.ld x7 r0_5) (View.ld x8 r0_6) (View.ld x7 r0_7) (View.ld x8 r0_8) (View.ld x7 r0_9) (View.ld x8 r0_10) (ix2 r j)
      = ffn (fun j => h (ix2 r j)) (fun x => b (ix2 r x)) (fun k f => x7 (ix2 k f)) (fun f j => x8 (ix2 f j)) j := by
  rw [ffn_tiles, pay5_at]
  simp only [hs]
  subst hw
  pointwise [k0_pay4]

/-- The kernel body's stored block at an element is the row formula over its blocks' rows: the hidden layer's four
    tiles are the columns of one weight block. -/
theorem body_at (x0 : FVec Ideal S512x1024 .f32) (x1 x2 : FVec Ideal S512x512 .bf16) (x3 : FVec Ideal S512x256 .f32) (x4 x5 : FVec Ideal S512x1024 .bf16) (x6 : FVec Ideal S1x1024 .f32) (x7 : FVec Ideal S1024x4096 .bf16) (x8 : FVec Ideal S4096x1024 .bf16) (x9 : FVec Ideal S1x1024 .f32) (x10 : FVec Ideal S1024x1024 .bf16) (x11 : FVec Ideal S256x1024 .bf16) (x12 : FVec Ideal S1x1024 .f32) (r : Fin 512) (j : Fin 1024) :
    k0_pay7 (F := Ideal) (k0_pay5 (k0_pay1 x0 x1 x4 x2 x5) (k0_pay2 x0 x1 x4 x2 x5 x6) (k0_pay3 x0 x1 x4 x2 x5 x6 (View.ld x7 r0_3)) (k0_pay4 (View.ld x8 r0_4)) (constant S512x1024 .f32 0x00000000#32) (View.ld x7 r0_5) (View.ld x8 r0_6) (View.ld x7 r0_7) (View.ld x8 r0_8) (View.ld x7 r0_9) (View.ld x8 r0_10)) (k0_pay6 x9) x10 x3 x11 x12 (ix2 r j) =
      row (fun j => x0 (ix2 r j)) (fun k => x1 (ix2 r k)) (fun k => x2 (ix2 r k)) (fun k j => x4 (ix2 k j)) (fun k j => x5 (ix2 k j)) (fun j => x6 (ix2 0 j))
        (fun k f => x7 (ix2 k f)) (fun f j => x8 (ix2 f j)) (fun j => x9 (ix2 0 j)) (fun k j => x10 (ix2 k j)) (fun k => x3 (ix2 r k)) (fun k j => x11 (ix2 k j)) (fun j => x12 (ix2 0 j)) j := by
  unfold row
  obtain ⟨w, hw⟩ : ∃ w : FVec Ideal S1024x1024 .bf16, w = View.ld (Val := Elt Ideal) (e' := .bf16) x7 r0_3 := ⟨_, rfl⟩
  rw [← hw, pay7_at]
  have ht := tiles_at (k0_pay1 x0 x1 x4 x2 x5) (k0_pay3 x0 x1 x4 x2 x5 x6 w) (k0_pay2 x0 x1 x4 x2 x5 x6) x7 x8 r w hw (fun f => pay3_at x0 x1 x4 x2 x5 x6 w r f)
  have h6 : ∀ j : Fin 1024, k0_pay6 (F := Ideal) x9 (ix2 0 j) = x9 (ix2 0 j) := fun j => by pointwise [k0_pay6]
  simp only [ht, pay2_at, pay1_at, h6]
end K
end Cert.Back
end
-- ==== Proof.Front.lean ====
module

public import proofs.«01_k».proof.Proof.Back
public import proofs.«01_k».proof.Proof.Gen.Kernel3Ideal.Frame
public import proofs.«01_k».proof.Proof.Gen.Reference3Ideal.Read
public import Idealize.ShloMosaic.Lib.Pointwise
public import Idealize.ShloMosaic.Lib.Pipeline.ValueKit

@[expose] public section

set_option maxRecDepth 16384

noncomputable section

/-! The arithmetic of the front call: the formulas of a row, and the kernel body read at an element. -/

namespace Cert.Front

open Idealize.ShloMosaic Idealize.ShloMosaic.TcCoe Idealize.SL.Sem
/-- The smooth rectifier of a number, by its hyperbolic tangent formula. -/
def gelu (z : EReal) : EReal :=
  z * (Ideal.ofBits FTy.f32 1056964608#32 * (1 + Ideal.tanh (Ideal.ofBits FTy.f32 1061962282#32 * (z + Ideal.ofBits FTy.f32 1027024659#32 * (z * (z * z))))))

/-- The mean of a row. -/
def mean (x : Fin 512 → EReal) : EReal := Ideal.div (∑ j, x j) (Ideal.ofBits FTy.f32 1140850688#32)

/-- One row less its mean, divided by its deviation, scaled and shifted. -/
def lnorm (x g b : Fin 512 → EReal) (j : Fin 512) : EReal :=
  (x j - mean x) * Ideal.rsqrt (mean (fun j => (x j - mean x) * (x j - mean x)) + Ideal.ofBits FTy.f32 897988541#32) * g j + b j

/-- The logarithm of the logistic function, as the kernel spells it. -/
def lsig (z : EReal) : EReal := 0 - (max (0 - z) 0 + Ideal.log1p (Ideal.exp (0 - FloatOps.absf (F := Ideal) (φ := .f32) z)))

/-- The same as the reference spells it. -/
theorem lsig_neg (z : EReal) : -(max (-z) 0 + Ideal.log1p (Ideal.exp (-FloatOps.absf (F := Ideal) (φ := .f32) (-z)))) = lsig z := by
  have e : FloatOps.absf (F := Ideal) (φ := .f32) (-z) = FloatOps.absf (F := Ideal) (φ := .f32) z := by
    show max (-z) (-(-z)) = max z (-z)
    rw [neg_neg, max_comm]
  unfold lsig
  rw [e]
  simp only [sub_eq_add_neg, zero_add]

/-- A choice by the comparison of two small words. -/
theorem tri (r s : Fin 128) (x y : EReal) : Scalar.select (Scalar.select (IntOp.cmpi CmpIPredicate.sge (IntOp.addi (BitVec.ofNat 32 r.val) 0#32) (BitVec.ofNat 32 s.val)) 1#1 0#1) x y = if s.val ≤ r.val then x else y := by
  have h : ∀ r s : Fin 128, Scalar.select (IntOp.cmpi CmpIPredicate.sge (IntOp.addi (BitVec.ofNat 32 r.val) 0#32) (BitVec.ofNat 32 s.val)) 1#1 0#1 = BitVec.ofBool (decide (s.val ≤ r.val)) := by decide +kernel
  rw [h]
  by_cases h : s.val ≤ r.val <;> simp [h, Scalar.select]

/-- A gate's lane: the input gates as they are, the lanes from 4 the logarithm of the logistic function. -/
def lane (n : Nat) (z : EReal) : EReal := if 4 ≤ n then lsig z else z

/-- The comparison with 4 of a small word. -/
theorem sge4 : ∀ j : Fin 128, IntOp.cmpi CmpIPredicate.sge (BitVec.ofNat 32 j.val) 4#32 = BitVec.ofBool (decide (4 ≤ j.val)) := by decide +kernel

/-- A choice by the comparison with 4. -/
theorem sel4 {j : Nat} (hj : j < 128) (x y : EReal) : Scalar.select (IntOp.cmpi CmpIPredicate.sge (BitVec.ofNat 32 j) 4#32) x y = if 4 ≤ j then x else y := by
  rw [show IntOp.cmpi CmpIPredicate.sge (BitVec.ofNat 32 j) 4#32 = BitVec.ofBool (decide (4 ≤ j)) from sge4 ⟨j, hj⟩]
  by_cases h : 4 ≤ j <;> simp [h, Scalar.select]

section K
open Cert.Kernel3Ideal Cert.Kernel3Ideal.Gen

/-- The normalized row. -/
theorem pay2_at (v0 : FVec Ideal S512x1024 .f32) (v1 : FVec Ideal S1x1024 .f32) (r : Fin 512) (j : Fin 1024) :
    k0_pay2 (F := Ideal) v0 v1 (ix2 r j) = Back.nrm (fun j => v0 (ix2 r j)) (fun j => v1 (ix2 0 j)) j := by
  pointwise [k0_pay2]
  rfl

/-- The gating branch. -/
theorem pay3_at (v0 : FVec Ideal S512x1024 .f32) (v1 : FVec Ideal S1x1024 .f32) (w : FVec Ideal S1024x512 .bf16) (r : Fin 512) (j : Fin 512) :
    k0_pay3 (F := Ideal) v0 v1 w (ix2 r j) = gelu (∑ k, k0_pay2 (F := Ideal) v0 v1 (ix2 r k) * w (ix2 k j)) := by
  unfold k0_pay3
  generalize k0_pay2 (F := Ideal) v0 v1 = a
  pointwise
  rfl

/-- The value branch's product. -/
theorem pay4_at (v0 : FVec Ideal S512x1024 .f32) (v1 : FVec Ideal S1x1024 .f32) (w : FVec Ideal S1024x512 .bf16) (r : Fin 512) (j : Fin 512) :
    k0_pay4 (F := Ideal) v0 v1 w (ix2 r j) = ∑ k, k0_pay2 (F := Ideal) v0 v1 (ix2 r k) * w (ix2 k j) := by
  pointwise [k0_pay4]

/-- The value branch after its layer norm. -/
theorem pay6_at (v0 : FVec Ideal S512x1024 .f32) (v1 : FVec Ideal S1x1024 .f32) (w : FVec Ideal S1024x512 .bf16) (g b : FVec Ideal S1x512 .f32) (r : Fin 512) (j : Fin 512) :
    k0_pay6 (F := Ideal) (k0_pay4 v0 v1 w) (k0_pay5 v0 v1 w) (Scalar.ofBits .f32 0x3F4C422A#32) g b (ix2 r j)
      = lnorm (fun j => gelu (∑ k, k0_pay2 (F := Ideal) v0 v1 (ix2 r k) * w (ix2 k j))) (fun j => g (ix2 0 j)) (fun j => b (ix2 0 j)) j := by
  simp only [← pay4_at]
  unfold k0_pay6 k0_pay5
  generalize k0_pay4 (F := Ideal) v0 v1 w = a
  pointwise
  rfl

/-- The gates, a token per row. -/
theorem pay32_at (a : FVec Ideal S512x1024 .bf16) (w : FVec Ideal S1024x128 .bf16) (b : FVec Ideal S1x128 .f32) (r : Fin 512) (j : Fin 128) :
    k0_pay32 (F := Ideal) a w b (ix2 r j) = lane j.val (∑ k, a (ix2 r k) * w (ix2 k j) + b (ix2 0 j)) := by
  pointwise [k0_pay32]
  exact sel4 j.isLt _ _

/-- The gates, a token per column. -/
theorem pay1_at (a : FVec Ideal S512x1024 .bf16) (w : FVec Ideal S16x1024 .bf16) (b : FVec Ideal S16x512 .f32) (j : Fin 16) (r : Fin 512) :
    k0_pay1 (F := Ideal) (k0_pay33 a w) (k0_pay34 b) (ix2 j r) = lane j.val (∑ k, a (ix2 r k) * w (ix2 j k) + b (ix2 j r)) := by
  simp only [mul_comm (a _)]
  pointwise [k0_pay1, k0_pay33, k0_pay34]
  exact sel4 (by omega) _ _

/-- The mixed tile, at an element of the block: `I` its chunk, `J` its head. -/
def mixed (u v : Fin 512 → Fin 512 → EReal) (w : Fin 4 → Fin 128 → Fin 128 → EReal) (b : Fin 4 → Fin 128 → Fin 128 → EReal) (I J : Fin 4) (r j : Fin 128) : EReal :=
  u ⟨128 * I.val + r.val, by omega⟩ ⟨128 * J.val + j.val, by omega⟩
    * (∑ s : Fin 128, w J r s * v ⟨128 * I.val + s.val, by omega⟩ ⟨128 * J.val + j.val, by omega⟩ + b J r j)

/-- An element of the block lies in one tile. -/
theorem tile_split (I n : Fin 4) (r u : Fin 128) (o : Nat) (ho : o = 128 * n.val) (h : 128 * I.val + r.val = o + u.val) (P : Prop) (k : I = n → r = u → P) : P :=
  k (Fin.ext (by omega)) (Fin.ext (by omega))

/-- The block of the mixed values. -/
theorem out11_at (x0 : FVec Ideal S512x1024 .f32) (x1 : FVec Ideal S1x1024 .f32) (x2 : FVec Ideal S1024x3072 .bf16) (x3 : FVec Ideal S1024x128 .bf16) (x4 : FVec Ideal S16x1024 .bf16) (x5 : FVec Ideal S1x128 .f32) (x6 : FVec Ideal S16x512 .f32) (x7 x8 : FVec Ideal S1x512 .f32) (x9 : FVec Ideal S4x128x128 .bf16) (x10 : FVec Ideal S4x128x128 .f32) (I J : Fin 4) (r j : Fin 128) :
    out0_11 (F := Ideal) x0 x1 x2 x3 x4 x5 x6 x7 x8 x9 x10 (ix2 ⟨128 * I.val + r.val, by omega⟩ ⟨128 * J.val + j.val, by omega⟩)
      = mixed (fun r j => k0_pay36 (F := Ideal) x0 x1 x2 x3 x4 x5 x6 x7 x8 x9 x10 (ix2 r j)) (fun r j => k0_pay39 (F := Ideal) x0 x1 x2 x3 x4 x5 x6 x7 x8 x9 x10 (ix2 r j)) (fun n r s => x9 (ix3 n r s)) (fun n r s => x10 (ix3 n r s)) I J r j := by
  unfold out0_11
  have h8 : ∀ w : FVec Ideal S1x128x128 .bf16, k0_pay8 (F := Ideal) (k0_pay37 x0 x1 x2 x3 x4 x5 x6 x7 x8 x9 x10) (k0_pay38 x0 x1 x2 x3 x4 x5 x6 x7 x8 x9 x10) (Scalar.ofBits .f32 0x3F4C422A#32) (View.ld x7 r0_4) (View.ld x8 r0_4) w
      = matmul dot_S128x128_S128x128_S128x128_1_0_0_1_n_n none (shapeCast S128x128 w shapeCasts_S1x128x128_S128x128)
        (extractStridedSlice S128x128 ![0, 0] (k0_pay39 (F := Ideal) x0 x1 x2 x3 x4 x5 x6 x7 x8 x9 x10) slices_S512x512_o0_0_S128x128) (constant S128x128 .f32 0x00000000#32) := fun w => rfl
  rw [h8]
  generalize k0_pay36 (F := Ideal) x0 x1 x2 x3 x4 x5 x6 x7 x8 x9 x10 = U
  generalize k0_pay39 (F := Ideal) x0 x1 x2 x3 x4 x5 x6 x7 x8 x9 x10 = W
  canon_tiles x hx using cover0_11 _ _ _ _ _ _ _ _ _ _ _ _ _ _ _ _ _
  all_goals
    obtain ⟨u, w, rfl⟩ : ∃ (u w : Fin 128), x = ix2 u w := ⟨x 0, x 1, by idx_ext⟩
    first
      | refine tile_split I 3 r u 384 rfl hx0 _ ?_
      | refine tile_split I 2 r u 256 rfl hx0 _ ?_
      | refine tile_split I 1 r u 128 rfl hx0 _ ?_
      | refine tile_split I 0 r u 0 rfl (hx0.trans (Nat.zero_add _).symm) _ ?_
    rintro rfl rfl
    first
      | refine tile_split J 3 j w 384 rfl hx1 _ ?_
      | refine tile_split J 2 j w 256 rfl hx1 _ ?_
      | refine tile_split J 1 j w 128 rfl hx1 _ ?_
      | refine tile_split J 0 j w 0 rfl (hx1.trans (Nat.zero_add _).symm) _ ?_
    rintro rfl rfl
    clear h8 hx0 hx1
    unfold mixed
    pointwise [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
  all_goals rfl

/-- The block's normalized rows. -/
theorem pay35_at (x0 : FVec Ideal S512x1024 .f32) (x1 : FVec Ideal S1x1024 .f32) (x2 : FVec Ideal S1024x3072 .bf16) (x3 : FVec Ideal S1024x128 .bf16) (x4 : FVec Ideal S16x1024 .bf16) (x5 : FVec Ideal S1x128 .f32) (x6 : FVec Ideal S16x512 .f32) (x7 x8 : FVec Ideal S1x512 .f32) (x9 : FVec Ideal S4x128x128 .bf16) (x10 : FVec Ideal S4x128x128 .f32) (r : Fin 512) (j : Fin 1024) :
    k0_pay35 (F := Ideal) x0 x1 x2 x3 x4 x5 x6 x7 x8 x9 x10 (ix2 r j) = Back.nrm (fun j => x0 (ix2 r j)) (fun j => x1 (ix2 0 j)) j := by
  unfold k0_pay35
  rw [pay2_at]
  pointwise

/-- The block of the gating branch. -/
theorem pay36_at (x0 : FVec Ideal S512x1024 .f32) (x1 : FVec Ideal S1x1024 .f32) (x2 : FVec Ideal S1024x3072 .bf16) (x3 : FVec Ideal S1024x128 .bf16) (x4 : FVec Ideal S16x1024 .bf16) (x5 : FVec Ideal S1x128 .f32) (x6 : FVec Ideal S16x512 .f32) (x7 x8 : FVec Ideal S1x512 .f32) (x9 : FVec Ideal S4x128x128 .bf16) (x10 : FVec Ideal S4x128x128 .f32) (r j : Fin 512) :
    k0_pay36 (F := Ideal) x0 x1 x2 x3 x4 x5 x6 x7 x8 x9 x10 (ix2 r j) = gelu (∑ k, Back.nrm (fun j => x0 (ix2 r j)) (fun j => x1 (ix2 0 j)) k * x2 (ix2 k ⟨j.val, by omega⟩)) := by
  unfold k0_pay36
  rw [pay3_at]
  simp only [pay2_at]
  pointwise

/-- The block of the value branch after its layer norm. -/
theorem out18_at (x0 : FVec Ideal S512x1024 .f32) (x1 : FVec Ideal S1x1024 .f32) (x2 : FVec Ideal S1024x3072 .bf16) (x3 : FVec Ideal S1024x128 .bf16) (x4 : FVec Ideal S16x1024 .bf16) (x5 : FVec Ideal S1x128 .f32) (x6 : FVec Ideal S16x512 .f32) (x7 x8 : FVec Ideal S1x512 .f32) (x9 : FVec Ideal S4x128x128 .bf16) (x10 : FVec Ideal S4x128x128 .f32) (r j : Fin 512) :
    out0_18 (F := Ideal) x0 x1 x2 x3 x4 x5 x6 x7 x8 x9 x10 (ix2 r j) = lnorm (fun j => gelu (∑ k, Back.nrm (fun j => x0 (ix2 r j)) (fun j => x1 (ix2 0 j)) k * x2 (ix2 k ⟨512 + j.val, by omega⟩))) (fun j => x7 (ix2 0 j)) (fun j => x8 (ix2 0 j)) j := by
  frame_out
  unfold k0_pay37 k0_pay38
  refine (pay6_at _ _ _ _ _ r j).trans ?_
  simp only [pay2_at]
  pointwise

/-- The block of the value branch, as the mixing reads it. -/
theorem pay39_at (x0 : FVec Ideal S512x1024 .f32) (x1 : FVec Ideal S1x1024 .f32) (x2 : FVec Ideal S1024x3072 .bf16) (x3 : FVec Ideal S1024x128 .bf16) (x4 : FVec Ideal S16x1024 .bf16) (x5 : FVec Ideal S1x128 .f32) (x6 : FVec Ideal S16x512 .f32) (x7 x8 : FVec Ideal S1x512 .f32) (x9 : FVec Ideal S4x128x128 .bf16) (x10 : FVec Ideal S4x128x128 .f32) (r j : Fin 512) :
    k0_pay39 (F := Ideal) x0 x1 x2 x3 x4 x5 x6 x7 x8 x9 x10 (ix2 r j) = out0_18 (F := Ideal) x0 x1 x2 x3 x4 x5 x6 x7 x8 x9 x10 (ix2 r j) := by
  unfold k0_pay39
  frame_out
  rfl

/-- The block of the queries. -/
theorem out12_at (x0 : FVec Ideal S512x1024 .f32) (x1 : FVec Ideal S1x1024 .f32) (x2 : FVec Ideal S1024x3072 .bf16) (x3 : FVec Ideal S1024x128 .bf16) (x4 : FVec Ideal S16x1024 .bf16) (x5 : FVec Ideal S1x128 .f32) (x6 : FVec Ideal S16x512 .f32) (x7 x8 : FVec Ideal S1x512 .f32) (x9 : FVec Ideal S4x128x128 .bf16) (x10 : FVec Ideal S4x128x128 .f32) (r j : Fin 512) :
    out0_12 (F := Ideal) x0 x1 x2 x3 x4 x5 x6 x7 x8 x9 x10 (ix2 r j) = ∑ k, Back.nrm (fun j => x0 (ix2 r j)) (fun j => x1 (ix2 0 j)) k * x2 (ix2 k ⟨1024 + j.val, by omega⟩) := by
  frame_out
  simp only [← pay35_at x0 x1 x2 x3 x4 x5 x6 x7 x8 x9 x10]
  generalize k0_pay35 (F := Ideal) x0 x1 x2 x3 x4 x5 x6 x7 x8 x9 x10 = a
  pointwise [k0_pay28]

/-- The block of the keys. -/
theorem out13_at (x0 : FVec Ideal S512x1024 .f32) (x1 : FVec Ideal S1x1024 .f32) (x2 : FVec Ideal S1024x3072 .bf16) (x3 : FVec Ideal S1024x128 .bf16) (x4 : FVec Ideal S16x1024 .bf16) (x5 : FVec Ideal S1x128 .f32) (x6 : FVec Ideal S16x512 .f32) (x7 x8 : FVec Ideal S1x512 .f32) (x9 : FVec Ideal S4x128x128 .bf16) (x10 : FVec Ideal S4x128x128 .f32) (r j : Fin 512) :
    out0_13 (F := Ideal) x0 x1 x2 x3 x4 x5 x6 x7 x8 x9 x10 (ix2 r j) = (∑ k, Back.nrm (fun j => x0 (ix2 r j)) (fun j => x1 (ix2 0 j)) k * x2 (ix2 k ⟨1536 + j.val, by omega⟩)) * Ideal.ofBits FTy.f32 0x3DB504F3#32 := by
  frame_out
  simp only [← pay35_at x0 x1 x2 x3 x4 x5 x6 x7 x8 x9 x10]
  generalize k0_pay35 (F := Ideal) x0 x1 x2 x3 x4 x5 x6 x7 x8 x9 x10 = a
  pointwise [k0_pay29]

/-- The block of the values. -/
theorem out14_at (x0 : FVec Ideal S512x1024 .f32) (x1 : FVec Ideal S1x1024 .f32) (x2 : FVec Ideal S1024x3072 .bf16) (x3 : FVec Ideal S1024x128 .bf16) (x4 : FVec Ideal S16x1024 .bf16) (x5 : FVec Ideal S1x128 .f32) (x6 : FVec Ideal S16x512 .f32) (x7 x8 : FVec Ideal S1x512 .f32) (x9 : FVec Ideal S4x128x128 .bf16) (x10 : FVec Ideal S4x128x128 .f32) (r j : Fin 512) :
    out0_14 (F := Ideal) x0 x1 x2 x3 x4 x5 x6 x7 x8 x9 x10 (ix2 r j) = ∑ k, Back.nrm (fun j => x0 (ix2 r j)) (fun j => x1 (ix2 0 j)) k * x2 (ix2 k ⟨2048 + j.val, by omega⟩) := by
  frame_out
  simp only [← pay35_at x0 x1 x2 x3 x4 x5 x6 x7 x8 x9 x10]
  generalize k0_pay35 (F := Ideal) x0 x1 x2 x3 x4 x5 x6 x7 x8 x9 x10 = a
  pointwise [k0_pay30]

/-- The block of the output gates. -/
theorem out15_at (x0 : FVec Ideal S512x1024 .f32) (x1 : FVec Ideal S1x1024 .f32) (x2 : FVec Ideal S1024x3072 .bf16) (x3 : FVec Ideal S1024x128 .bf16) (x4 : FVec Ideal S16x1024 .bf16) (x5 : FVec Ideal S1x128 .f32) (x6 : FVec Ideal S16x512 .f32) (x7 x8 : FVec Ideal S1x512 .f32) (x9 : FVec Ideal S4x128x128 .bf16) (x10 : FVec Ideal S4x128x128 .f32) (r j : Fin 512) :
    out0_15 (F := Ideal) x0 x1 x2 x3 x4 x5 x6 x7 x8 x9 x10 (ix2 r j) = Ideal.logistic (∑ k, Back.nrm (fun j => x0 (ix2 r j)) (fun j => x1 (ix2 0 j)) k * x2 (ix2 k ⟨2560 + j.val, by omega⟩)) := by
  frame_out
  simp only [← pay35_at x0 x1 x2 x3 x4 x5 x6 x7 x8 x9 x10]
  generalize k0_pay35 (F := Ideal) x0 x1 x2 x3 x4 x5 x6 x7 x8 x9 x10 = a
  pointwise [k0_pay31]

/-- The block of the gates, a token per row. -/
theorem out16_at (x0 : FVec Ideal S512x1024 .f32) (x1 : FVec Ideal S1x1024 .f32) (x2 : FVec Ideal S1024x3072 .bf16) (x3 : FVec Ideal S1024x128 .bf16) (x4 : FVec Ideal S16x1024 .bf16) (x5 : FVec Ideal S1x128 .f32) (x6 : FVec Ideal S16x512 .f32) (x7 x8 : FVec Ideal S1x512 .f32) (x9 : FVec Ideal S4x128x128 .bf16) (x10 : FVec Ideal S4x128x128 .f32) (r : Fin 512) (j : Fin 128) :
    out0_16 (F := Ideal) x0 x1 x2 x3 x4 x5 x6 x7 x8 x9 x10 (ix2 r j) = lane j.val (∑ k, Back.nrm (fun j => x0 (ix2 r j)) (fun j => x1 (ix2 0 j)) k * x3 (ix2 k j) + x5 (ix2 0 j)) := by
  frame_out
  simp only [← pay35_at x0 x1 x2 x3 x4 x5 x6 x7 x8 x9 x10]
  generalize k0_pay35 (F := Ideal) x0 x1 x2 x3 x4 x5 x6 x7 x8 x9 x10 = a
  exact pay32_at _ _ _ r j

/-- The block of the gates, a token per column. -/
theorem out17_at (x0 : FVec Ideal S512x1024 .f32) (x1 : FVec Ideal S1x1024 .f32) (x2 : FVec Ideal S1024x3072 .bf16) (x3 : FVec Ideal S1024x128 .bf16) (x4 : FVec Ideal S16x1024 .bf16) (x5 : FVec Ideal S1x128 .f32) (x6 : FVec Ideal S16x512 .f32) (x7 x8 : FVec Ideal S1x512 .f32) (x9 : FVec Ideal S4x128x128 .bf16) (x10 : FVec Ideal S4x128x128 .f32) (j : Fin 16) (r : Fin 512) :
    out0_17 (F := Ideal) x0 x1 x2 x3 x4 x5 x6 x7 x8 x9 x10 (ix2 j r) = lane j.val (∑ k, Back.nrm (fun j => x0 (ix2 r j)) (fun j => x1 (ix2 0 j)) k * x4 (ix2 j k) + x6 (ix2 j r)) := by
  frame_out
  simp only [← pay35_at x0 x1 x2 x3 x4 x5 x6 x7 x8 x9 x10]
  generalize k0_pay35 (F := Ideal) x0 x1 x2 x3 x4 x5 x6 x7 x8 x9 x10 = a
  exact pay1_at _ _ _ j r

end K

section R
open Cert.Reference3Ideal Cert.Reference3Ideal.Gen Cert.Reference3Ideal.Read

variable (x0 : FVec Ideal S16384x1024 .f32) (x1 : FVec Ideal S1024 .f32) (x2 : FVec Ideal S1024x3080 .f32) (x3 x4 : FVec Ideal S512 .f32) (x5 : FVec Ideal S4x128x128 .f32) (x6 : FVec Ideal S4x128 .f32) (x7 x8 : FVec Ideal S4 .f32)

/-- The normalized row. -/
theorem v12_at (r : Fin 16384) (j : Fin 1024) : val_main_v12 (F := Ideal) x0 x1 (ix2 r j) = Back.nrm (fun j => x0 (ix2 r j)) (fun j => x1 (ix1 j)) j := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- The row times the projection. -/
theorem v13_at (r : Fin 16384) (j : Fin 3080) : val_main_v13 (F := Ideal) x0 x1 x2 (ix2 r j) = ∑ k, Back.nrm (fun j => x0 (ix2 r j)) (fun j => x1 (ix1 j)) k * x2 (ix2 k j) := by
  simp only [← v12_at]
  unfold val_main_v13
  generalize val_main_v12 (F := Ideal) x0 x1 = a
  pointwise

/-- The gating branch. -/
theorem v34_at (r : Fin 16384) (j : Fin 512) : val_main_v34 (F := Ideal) x0 x1 x2 (ix2 r j) = gelu (val_main_v13 (F := Ideal) x0 x1 x2 (ix2 r ⟨j.val, by omega⟩)) := by
  unfold val_main_v34 val_main_v33 val_main_v32 val_main_v31 val_main_v30 val_main_v29 val_main_v28 val_main_v27 val_main_v26 val_main_v25 val_main_v24 val_main_v23 val_main_v22 val_main_v14 val_main_cst_2 val_main_cst_3 val_main_cst_4 val_main_cst_5
  generalize val_main_v13 (F := Ideal) x0 x1 x2 = z
  pointwise
  rw [mul_comm (z _ * z _)]
  rfl

/-- The value branch before its layer norm. -/
theorem v47_at (r : Fin 16384) (j : Fin 512) : val_main_v47 (F := Ideal) x0 x1 x2 (ix2 r j) = gelu (val_main_v13 (F := Ideal) x0 x1 x2 (ix2 r ⟨512 + j.val, by omega⟩)) := by
  unfold val_main_v47 val_main_v46 val_main_v45 val_main_v44 val_main_v43 val_main_v42 val_main_v41 val_main_v40 val_main_v39 val_main_v38 val_main_v37 val_main_v36 val_main_v35 val_main_v15 val_main_cst_6 val_main_cst_7 val_main_cst_8 val_main_cst_9
  generalize val_main_v13 (F := Ideal) x0 x1 x2 = z
  pointwise
  rw [mul_comm (z _ * z _)]
  rfl

/-- The value branch after its layer norm. -/
theorem v71_at (r : Fin 16384) (j : Fin 512) : val_main_v71 (F := Ideal) x0 x1 x2 x3 x4 (ix2 r j) = lnorm (fun j => val_main_v47 (F := Ideal) x0 x1 x2 (ix2 r j)) (fun j => x3 (ix1 j)) (fun j => x4 (ix1 j)) j := by
  unfold val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_cst_10 val_main_cst_11 val_main_cst_12 val_main_cst_13 val_main_cst_14
  generalize val_main_v47 (F := Ideal) x0 x1 x2 = z
  pointwise
  rfl

/-- The mixed values at an element: `n` the chunk, `h` the head. -/
theorem v95_at (n r : Fin 128) (h : Fin 4) (d : Fin 128) : val_main_v95 (F := Ideal) x0 x1 x2 x3 x4 x5 x6 (ix2 ⟨128 * n.val + r.val, by omega⟩ ⟨128 * h.val + d.val, by omega⟩)
    = val_main_v34 (F := Ideal) x0 x1 x2 (ix2 ⟨128 * n.val + r.val, by omega⟩ ⟨128 * h.val + d.val, by omega⟩) * (∑ s : Fin 128, (x5 (ix3 h r s) * if s.val ≤ r.val then (1 : EReal) else 0) * val_main_v71 (F := Ideal) x0 x1 x2 x3 x4 (ix2 ⟨128 * n.val + s.val, by omega⟩ ⟨128 * h.val + d.val, by omega⟩) + x6 (ix2 h r)) := by
  unfold val_main_v95 val_main_v84 val_main_v83 val_main_v82 val_main_v81 val_main_v80 val_main_v79 val_main_v78 val_main_v77 val_main_v76 val_main_call1_v0 val_main_v75 val_main_v74 val_main_v73 val_main_v72 val_main_call0_v5 val_main_call0_v4 val_main_call0_v3 val_main_call0_v2 val_main_call0_v1 val_main_call0_v0 val_main_call0_c val_main_call0_c_0 val_main_c val_main_cst_15
  generalize val_main_v34 (F := Ideal) x0 x1 x2 = u
  generalize val_main_v71 (F := Ideal) x0 x1 x2 x3 x4 = v
  pointwise
  congr 2
  refine Finset.sum_congr rfl fun s _ => ?_
  rw [tri, show (⟨n.val * 128 + s.val, by omega⟩ : Fin 16384) = ⟨128 * n.val + s.val, by omega⟩ from Fin.ext (by simp only; omega),
    show (⟨h.val * 128 + d.val, by omega⟩ : Fin 512) = ⟨128 * h.val + d.val, by omega⟩ from Fin.ext (by simp only; omega)]
  by_cases hs : s.val ≤ r.val
  · rw [if_pos hs, if_pos hs, mul_one, mul_comm]
  · rw [if_neg hs, if_neg hs, mul_zero, zero_mul]

/-- The gates. -/
theorem v94_at (r : Fin 16384) (j : Fin 128) : val_main_v94 (F := Ideal) x0 x1 x2 x7 x8 (ix2 r j)
    = if h : j.val < 4 then val_main_v13 (F := Ideal) x0 x1 x2 (ix2 r ⟨3072 + j.val, by omega⟩) + x7 (ix1 ⟨j.val, h⟩)
      else if h' : j.val - 4 < 4 then lsig (val_main_v13 (F := Ideal) x0 x1 x2 (ix2 r ⟨3076 + (j.val - 4), by omega⟩) + x8 (ix1 ⟨j.val - 4, h'⟩)) else lsig 0 := by
  unfold val_main_v94 val_main_v93 val_main_call3_v1 val_main_call3_call0_v11 val_main_call3_call0_v10 val_main_call3_call0_v9 val_main_call3_call0_v8 val_main_call3_call0_v7 val_main_call3_call0_v6 val_main_call3_call0_v5 val_main_call3_call0_v4 val_main_call3_call0_v3 val_main_call3_call0_v2 val_main_call3_call0_v1 val_main_call3_call0_v0 val_main_call3_v0 val_main_v92 val_main_v91 val_main_call2_v1 val_main_call2_call0_v11 val_main_call2_call0_v10 val_main_call2_call0_v9 val_main_call2_call0_v8 val_main_call2_call0_v7 val_main_call2_call0_v6 val_main_call2_call0_v5 val_main_call2_call0_v4 val_main_call2_call0_v3 val_main_call2_call0_v2 val_main_call2_call0_v1 val_main_call2_call0_v0 val_main_call2_v0 val_main_v90 val_main_v89 val_main_v88 val_main_v87 val_main_v86 val_main_v85 val_main_v21 val_main_v20 val_main_call2_call0_cst val_main_call3_call0_cst val_main_cst_16
  generalize val_main_v13 (F := Ideal) x0 x1 x2 = z
  pointwise
  simp only [ne_eq, not_true_eq_false, if_false, lsig_neg]

/-- The queries. -/
theorem v96_at (r : Fin 16384) (j : Fin 512) : val_main_v96 (F := Ideal) x0 x1 x2 (ix2 r j) = val_main_v13 (F := Ideal) x0 x1 x2 (ix2 r ⟨1024 + j.val, by omega⟩) := by
  unfold val_main_v96 val_main_v16
  generalize val_main_v13 (F := Ideal) x0 x1 x2 = z
  pointwise

/-- The keys. -/
theorem v99_at (r : Fin 16384) (j : Fin 512) : val_main_v99 (F := Ideal) x0 x1 x2 (ix2 r j) = val_main_v13 (F := Ideal) x0 x1 x2 (ix2 r ⟨1536 + j.val, by omega⟩) * Ideal.ofBits FTy.f32 0x3DB504F3#32 := by
  unfold val_main_v99 val_main_v98 val_main_v97 val_main_v17 val_main_cst_17
  generalize val_main_v13 (F := Ideal) x0 x1 x2 = z
  pointwise

/-- The values. -/
theorem v100_at (r : Fin 16384) (j : Fin 512) : val_main_v100 (F := Ideal) x0 x1 x2 (ix2 r j) = val_main_v13 (F := Ideal) x0 x1 x2 (ix2 r ⟨2048 + j.val, by omega⟩) := by
  unfold val_main_v100 val_main_v18
  generalize val_main_v13 (F := Ideal) x0 x1 x2 = z
  pointwise

/-- The output gates. -/
theorem v106_at (r : Fin 16384) (j : Fin 512) : val_main_v106 (F := Ideal) x0 x1 x2 (ix2 r j) = Ideal.logistic (val_main_v13 (F := Ideal) x0 x1 x2 (ix2 r ⟨2560 + j.val, by omega⟩)) := by
  unfold val_main_v106 val_main_v105 val_main_v104 val_main_v103 val_main_v102 val_main_v101 val_main_v19 val_main_cst_18 val_main_cst_19
  generalize val_main_v13 (F := Ideal) x0 x1 x2 = z
  pointwise
  rfl

/-- The gates, a token per column. -/
theorem v108_at (j : Fin 16) (r : Fin 16384) : val_main_v108 (F := Ideal) x0 x1 x2 x7 x8 (ix2 j r) = val_main_v94 (F := Ideal) x0 x1 x2 x7 x8 (ix2 r ⟨j.val, by omega⟩) := by
  unfold val_main_v108 val_main_v107
  generalize val_main_v94 (F := Ideal) x0 x1 x2 x7 x8 = z
  pointwise
end R
end Cert.Front
end
-- ==== Proof.FrontHost.lean ====
module

public import proofs.«01_k».proof.Proof.Tri
public import proofs.«01_k».proof.Proof.Gen.Kernel3Ideal.Value
public import Idealize.ShloMosaic.Lib.Pipeline.ValueKit

@[expose] public section

set_option maxRecDepth 16384

noncomputable section

/-! The front call's operands: what the host makes of the arguments, and each window's block of it. -/

namespace Cert.Front

open Idealize.ShloMosaic Idealize.ShloMosaic.TcCoe Idealize.SL.Sem
open Cert.Kernel3Ideal Cert.Kernel3Ideal.Gen

variable (m : (ℓ : Loc nD τ sig) → Buf (Elt Ideal) ℓ)

/-- The blocks of the grid: the rows of the tokens move with the point, the weights stay. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_9.index t = ![0, 0, 0]
    ∧ win0_10.index t = ![0, 0, 0] ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![0, t.val] ∧ win0_18.index t = ![t.val, 0] := (by decide +kernel : ∀ t : Fin grid0.N, _)

/-- Row `r` of block `t` lies at row `512 * t + r` of the array. -/
def at_ (t : Fin cfg0.N) (r : Fin 512) : Fin 16384 := ⟨t.val * 512 + r.val, by have := t.isLt; have : cfg0.N = 32 := N_0; omega⟩

/-- The tokens by row and column. -/
def ax (c : Dev nD) (r : Fin 16384) (j : Fin 1024) : EReal := (m ((c : Thread nD τ).loc main_arg0) : FVec Ideal S16384x1024 .f32) (ix2 r j)
/-- The scale of the normalization. -/
def an (c : Dev nD) (j : Fin 1024) : EReal := (m ((c : Thread nD τ).loc main_arg1) : FVec Ideal S1024 .f32) (ix1 j)
/-- The projection. -/
def aw (c : Dev nD) (k : Fin 1024) (j : Fin 3080) : EReal := (m ((c : Thread nD τ).loc main_arg2) : FVec Ideal S1024x3080 .f32) (ix2 k j)
/-- The layer norm's scale. -/
def alg (c : Dev nD) (j : Fin 512) : EReal := (m ((c : Thread nD τ).loc main_arg3) : FVec Ideal S512 .f32) (ix1 j)
/-- The layer norm's shift. -/
def alb (c : Dev nD) (j : Fin 512) : EReal := (m ((c : Thread nD τ).loc main_arg4) : FVec Ideal S512 .f32) (ix1 j)
/-- The mixing weights. -/
def aws (c : Dev nD) (n : Fin 4) (r s : Fin 128) : EReal := (m ((c : Thread nD τ).loc main_arg5) : FVec Ideal S4x128x128 .f32) (ix3 n r s)
/-- The mixing shifts. -/
def abs_ (c : Dev nD) (n : Fin 4) (r : Fin 128) : EReal := (m ((c : Thread nD τ).loc main_arg6) : FVec Ideal S4x128 .f32) (ix2 n r)
/-- The input gates' shifts. -/
def abi (c : Dev nD) (j : Fin 4) : EReal := (m ((c : Thread nD τ).loc main_arg7) : FVec Ideal S4 .f32) (ix1 j)
/-- The forget gates' shifts. -/
def abf (c : Dev nD) (j : Fin 4) : EReal := (m ((c : Thread nD τ).loc main_arg8) : FVec Ideal S4 .f32) (ix1 j)

/-- The gates' columns of the projection, the lanes after them 0. -/
def agw (c : Dev nD) (k : Fin 1024) (j : Nat) : EReal := if h : j < 8 then aw m c k ⟨3072 + j, by omega⟩ else 0
/-- The gates' shifts, the lanes after them 0. -/
def agb (c : Dev nD) (j : Nat) : EReal := if h : j < 8 then (if h' : j < 4 then abi m c ⟨j, h'⟩ else abf m c ⟨j - 4, by omega⟩) else 0

/-- The word 0 as a number. -/
theorem word0 : FloatOps.sitofp (F := Ideal) FTy.f32 (0#32 : BitVec 32) = (0 : EReal) := by
  show (((0#32 : BitVec 32).toInt : ℝ) : EReal) = 0
  simp

/-- The scale of the normalization as a row. -/
theorem h34_at (c : Dev nD) (j : Fin 1024) : (V m c main_v34 : FVec Ideal S1x1024 .f32) (ix2 0 j) = an m c j := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
  rfl

/-- The projection's first 3072 columns. -/
theorem h1_at (c : Dev nD) (k : Fin 1024) (j : Fin 3072) : (V m c main_v1 : FVec Ideal S1024x3072 .bf16) (ix2 k j) = aw m c k ⟨j.val, by omega⟩ := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
  rfl

/-- The gates' columns, filled up with 0. -/
theorem h4_at (c : Dev nD) (k : Fin 1024) (j : Fin 128) : (V m c main_v4 : FVec Ideal S1024x128 .bf16) (ix2 k j) = agw m c k j.val := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.ofBuf, StableHlo.TRef.toBuf, cast_eq]
  pointwise
  rw [word0]
  rfl

/-- The gates' columns as rows, filled up with 0. -/
theorem h7_at (c : Dev nD) (j : Fin 16) (k : Fin 1024) : (V m c main_v7 : FVec Ideal S16x1024 .bf16) (ix2 j k) = agw m c k j.val := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.ofBuf, StableHlo.TRef.toBuf, cast_eq]
  pointwise
  rw [word0]
  rfl

/-- The gates' shifts as a row, filled up with 0. -/
theorem h10_at (c : Dev nD) (j : Fin 128) : (V m c main_v10 : FVec Ideal S1x128 .f32) (ix2 0 j) = agb m c j.val := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.ofBuf, StableHlo.TRef.toBuf, cast_eq]
  pointwise
  rw [word0]
  rfl

/-- The gates' shifts as a column, repeated. -/
theorem h35_at (c : Dev nD) (j : Fin 16) (r : Fin 512) : (V m c main_v35 : FVec Ideal S16x512 .f32) (ix2 j r) = agb m c j.val := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.ofBuf, StableHlo.TRef.toBuf, cast_eq]
  pointwise
  rw [word0]
  rfl

/-- The layer norm's scale as a row. -/
theorem h36_at (c : Dev nD) (j : Fin 512) : (V m c main_v36 : FVec Ideal S1x512 .f32) (ix2 0 j) = alg m c j := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
  rfl

/-- The layer norm's shift as a row. -/
theorem h37_at (c : Dev nD) (j : Fin 512) : (V m c main_v37 : FVec Ideal S1x512 .f32) (ix2 0 j) = alb m c j := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
  rfl

/-- The mixing weights times the mask the host makes. -/
theorem h31_at (c : Dev nD) (n : Fin 4) (r s : Fin 128) : (V m c main_v31 : FVec Ideal S4x128x128 .bf16) (ix3 n r s) = aws m c n r s * if s.val ≤ r.val then (1 : EReal) else 0 := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.ofBuf, StableHlo.TRef.toBuf, cast_eq]
  pointwise
  exact congrArg (aws m c n r s * ·) ((congrArg (FloatOps.uitofp (F := Ideal) FTy.bf16) (Tri.bit r s)).trans (Tri.num _))

/-- The mixing shifts, repeated over the columns. -/
theorem h33_at (c : Dev nD) (n : Fin 4) (r s : Fin 128) : (V m c main_v33 : FVec Ideal S4x128x128 .f32) (ix3 n r s) = abs_ m c n r := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
  rfl

/-- Every point's block of the tokens is its rows. -/
theorem b0 (c : Dev nD) (t : Fin cfg0.N) (r : Fin 512) (j : Fin 1024) : (iblk m c 0 t : FVec Ideal S512x1024 .f32) (ix2 r j) = ax m c (at_ t r) j := by
  unfold at_ ax; blk_ext [iblk, V, idx t]
/-- Every point's block of window 1 is the whole operand. -/
theorem b1 (c : Dev nD) (t : Fin cfg0.N) (j : Fin 1024) : (iblk m c 1 t : FVec Ideal S1x1024 .f32) (ix2 0 j) = an m c j := by
  refine Eq.trans ?_ (h34_at m c j)
  unfold iblk
  show (V m c main_v34) _ = _
  generalize V m c main_v34 = X
  blk_ext [idx t]
/-- Every point's block of window 2 is the whole operand. -/
theorem b2 (c : Dev nD) (t : Fin cfg0.N) (k : Fin 1024) (j : Fin 3072) : (iblk m c 2 t : FVec Ideal S1024x3072 .bf16) (ix2 k j) = aw m c k ⟨j.val, by omega⟩ := by
  refine Eq.trans ?_ (h1_at m c k j)
  unfold iblk
  show (V m c main_v1) _ = _
  generalize V m c main_v1 = X
  blk_ext [idx t]
/-- Every point's block of window 3 is the whole operand. -/
theorem b3 (c : Dev nD) (t : Fin cfg0.N) (k : Fin 1024) (j : Fin 128) : (iblk m c 3 t : FVec Ideal S1024x128 .bf16) (ix2 k j) = agw m c k j.val := by
  refine Eq.trans ?_ (h4_at m c k j)
  unfold iblk
  show (V m c main_v4) _ = _
  generalize V m c main_v4 = X
  blk_ext [idx t]
/-- Every point's block of window 4 is the whole operand. -/
theorem b4 (c : Dev nD) (t : Fin cfg0.N) (j : Fin 16) (k : Fin 1024) : (iblk m c 4 t : FVec Ideal S16x1024 .bf16) (ix2 j k) = agw m c k j.val := by
  refine Eq.trans ?_ (h7_at m c j k)
  unfold iblk
  show (V m c main_v7) _ = _
  generalize V m c main_v7 = X
  blk_ext [idx t]
/-- Every point's block of window 5 is the whole operand. -/
theorem b5 (c : Dev nD) (t : Fin cfg0.N) (j : Fin 128) : (iblk m c 5 t : FVec Ideal S1x128 .f32) (ix2 0 j) = agb m c j.val := by
  refine Eq.trans ?_ (h10_at m c j)
  unfold iblk
  show (V m c main_v10) _ = _
  generalize V m c main_v10 = X
  blk_ext [idx t]
/-- Every point's block of window 6 is the whole operand. -/
theorem b6 (c : Dev nD) (t : Fin cfg0.N) (j : Fin 16) (r : Fin 512) : (iblk m c 6 t : FVec Ideal S16x512 .f32) (ix2 j r) = agb m c j.val := by
  refine Eq.trans ?_ (h35_at m c j r)
  unfold iblk
  show (V m c main_v35) _ = _
  generalize V m c main_v35 = X
  blk_ext [idx t]
/-- Every point's block of window 7 is the whole operand. -/
theorem b7 (c : Dev nD) (t : Fin cfg0.N) (j : Fin 512) : (iblk m c 7 t : FVec Ideal S1x512 .f32) (ix2 0 j) = alg m c j := by
  refine Eq.trans ?_ (h36_at m c j)
  unfold iblk
  show (V m c main_v36) _ = _
  generalize V m c main_v36 = X
  blk_ext [idx t]
/-- Every point's block of window 8 is the whole operand. -/
theorem b8 (c : Dev nD) (t : Fin cfg0.N) (j : Fin 512) : (iblk m c 8 t : FVec Ideal S1x512 .f32) (ix2 0 j) = alb m c j := by
  refine Eq.trans ?_ (h37_at m c j)
  unfold iblk
  show (V m c main_v37) _ = _
  generalize V m c main_v37 = X
  blk_ext [idx t]
/-- Every point's block of window 9 is the whole operand. -/
theorem b9 (c : Dev nD) (t : Fin cfg0.N) (n : Fin 4) (r s : Fin 128) : (iblk m c 9 t : FVec Ideal S4x128x128 .bf16) (ix3 n r s) = aws m c n r s * if s.val ≤ r.val then (1 : EReal) else 0 := by
  refine Eq.trans ?_ (h31_at m c n r s)
  unfold iblk
  show (V m c main_v31) _ = _
  generalize V m c main_v31 = X
  blk_ext [idx t]
/-- Every point's block of window 10 is the whole operand. -/
theorem b10 (c : Dev nD) (t : Fin cfg0.N) (n : Fin 4) (r s : Fin 128) : (iblk m c 10 t : FVec Ideal S4x128x128 .f32) (ix3 n r s) = abs_ m c n r := by
  refine Eq.trans ?_ (h33_at m c n r s)
  unfold iblk
  show (V m c main_v33) _ = _
  generalize V m c main_v33 = X
  blk_ext [idx t]

end Cert.Front
end
-- ==== Proof.FrontValue.lean ====
module

public import proofs.«01_k».proof.Proof.Front
public import proofs.«01_k».proof.Proof.FrontHost
public import proofs.«01_k».proof.Proof.Gen.Kernel3Ideal.Value
public import Idealize.ShloMosaic.Lib.Pipeline.ValueKit
public import Idealize.ShloMosaic.Lib.Claim

@[expose] public section

set_option maxRecDepth 16384

noncomputable section

/-! The front call's eight result arrays: every block the grid writes is the reference's result there. -/

namespace Cert.Front

open Idealize.ShloMosaic Idealize.ShloMosaic.TcCoe Idealize.SL.Sem
open Cert.Kernel3Ideal Cert.Kernel3Ideal.Gen Cert.Reference3Ideal.Read

variable (m : (ℓ : Loc nD τ sig) → Buf (Elt Ideal) ℓ)

/-- The reference's mixed values, over the kernel's arguments. -/
abbrev ref11 (c : Dev nD) : FVec Ideal S16384x512 .bf16 := val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- The reference's queries, over the kernel's arguments. -/
abbrev ref12 (c : Dev nD) : FVec Ideal S16384x512 .bf16 := val_main_v96 (F := Ideal) (m ((c : Thread nD τ).loc main_arg0)) (m ((c : Thread nD τ).loc main_arg1)) (m ((c : Thread nD τ).loc main_arg2))
/-- The reference's keys, over the kernel's arguments. -/
abbrev ref13 (c : Dev nD) : FVec Ideal S16384x512 .bf16 := val_main_v99 (F := Ideal) (m ((c : Thread nD τ).loc main_arg0)) (m ((c : Thread nD τ).loc main_arg1)) (m ((c : Thread nD τ).loc main_arg2))
/-- The reference's values, over the kernel's arguments. -/
abbrev ref14 (c : Dev nD) : FVec Ideal S16384x512 .bf16 := val_main_v100 (F := Ideal) (m ((c : Thread nD τ).loc main_arg0)) (m ((c : Thread nD τ).loc main_arg1)) (m ((c : Thread nD τ).loc main_arg2))
/-- The reference's output gates, over the kernel's arguments. -/
abbrev ref15 (c : Dev nD) : FVec Ideal S16384x512 .f32 := val_main_v106 (F := Ideal) (m ((c : Thread nD τ).loc main_arg0)) (m ((c : Thread nD τ).loc main_arg1)) (m ((c : Thread nD τ).loc main_arg2))
/-- The reference's gates, a token per row, over the kernel's arguments. -/
abbrev ref16 (c : Dev nD) : FVec Ideal S16384x128 .f32 := val_main_v94 (F := Ideal) (m ((c : Thread nD τ).loc main_arg0)) (m ((c : Thread nD τ).loc main_arg1)) (m ((c : Thread nD τ).loc main_arg2)) (m ((c : Thread nD τ).loc main_arg7)) (m ((c : Thread nD τ).loc main_arg8))
/-- The reference's gates, a token per column, over the kernel's arguments. -/
abbrev ref17 (c : Dev nD) : FVec Ideal S16x16384 .f32 := val_main_v108 (F := Ideal) (m ((c : Thread nD τ).loc main_arg0)) (m ((c : Thread nD τ).loc main_arg1)) (m ((c : Thread nD τ).loc main_arg2)) (m ((c : Thread nD τ).loc main_arg7)) (m ((c : Thread nD τ).loc main_arg8))
/-- The reference's value branch after its layer norm, over the kernel's arguments. -/
abbrev ref18 (c : Dev nD) : FVec Ideal S16384x512 .f32 := val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A block's row times a column of the projection is the reference's projected element there. -/
theorem rowx (c : Dev nD) (t : Fin cfg0.N) (r : Fin 512) (q : Fin 3072) :
    ∑ k, Back.nrm (fun j => (iblk m c 0 t : FVec Ideal S512x1024 .f32) (ix2 r j)) (fun j => (iblk m c 1 t : FVec Ideal S1x1024 .f32) (ix2 0 j)) k * (iblk m c 2 t : FVec Ideal S1024x3072 .bf16) (ix2 k q)
      = val_main_v13 (F := Ideal) (m ((c : Thread nD τ).loc main_arg0)) (m ((c : Thread nD τ).loc main_arg1)) (m ((c : Thread nD τ).loc main_arg2)) (ix2 (at_ t r) ⟨q.val, by omega⟩) := by
  simp only [b0 m c t, b1 m c t, b2 m c t]
  rw [v13_at]
  rfl

/-- A block's row times a gate's column, shifted, is the reference's gate there. -/
theorem gate (c : Dev nD) (R : Fin 16384) (j : Fin 128) :
    lane j.val (∑ k, Back.nrm (fun j => ax m c R j) (fun j => an m c j) k * agw m c k j.val + agb m c j.val) = ref16 m c (ix2 R j) := by
  rw [ref16, v94_at]
  by_cases h : j.val < 4
  · have h8 : j.val < 8 := by omega
    rw [dif_pos h, v13_at]
    simp only [lane, agw, agb, dif_pos h, dif_pos h8, if_neg (show ¬ 4 ≤ j.val by omega)]
    rfl
  · by_cases h8 : j.val < 8
    · rw [dif_neg h, dif_pos (show j.val - 4 < 4 by omega), v13_at]
      simp only [lane, agw, agb, dif_neg h, dif_pos h8, if_pos (show 4 ≤ j.val by omega),
        show (⟨3076 + (j.val - 4), by omega⟩ : Fin 3080) = ⟨3072 + j.val, by omega⟩ from Fin.ext (by simp only; omega)]
      rfl
    · rw [dif_neg h, dif_neg (show ¬ j.val - 4 < 4 by omega)]
      simp only [lane, agw, agb, dif_neg h8, if_pos (show 4 ≤ j.val by omega), mul_zero, Finset.sum_const_zero, add_zero]

/-- The block of the queries at a point is the reference's there. -/
theorem point12 (c : Dev nD) (t : Fin cfg0.N) (r j : Fin 512) : out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = ref12 m c (ix2 (at_ t r) j) := by
  rw [out12_at, ref12, v96_at]
  exact (rowx m c t r ⟨1024 + j.val, by omega⟩)

/-- The block of the keys at a point is the reference's there. -/
theorem point13 (c : Dev nD) (t : Fin cfg0.N) (r j : Fin 512) : out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = ref13 m c (ix2 (at_ t r) j) := by
  rw [out13_at, ref13, v99_at]
  exact (congrArg (· * Ideal.ofBits FTy.f32 0x3DB504F3#32) (rowx m c t r ⟨1536 + j.val, by omega⟩))

/-- The block of the values at a point is the reference's there. -/
theorem point14 (c : Dev nD) (t : Fin cfg0.N) (r j : Fin 512) : out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = ref14 m c (ix2 (at_ t r) j) := by
  rw [out14_at, ref14, v100_at]
  exact (rowx m c t r ⟨2048 + j.val, by omega⟩)

/-- The block of the output gates at a point is the reference's there. -/
theorem point15 (c : Dev nD) (t : Fin cfg0.N) (r j : Fin 512) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = ref15 m c (ix2 (at_ t r) j) := by
  rw [out15_at, ref15, v106_at]
  exact (congrArg Ideal.logistic (rowx m c t r ⟨2560 + j.val, by omega⟩))

/-- The block of the gates, a token per row at a point is the reference's there. -/
theorem point16 (c : Dev nD) (t : Fin cfg0.N) (r : Fin 512) (j : Fin 128) : out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = ref16 m c (ix2 (at_ t r) j) := by
  rw [out16_at]
  simp only [b0 m c t, b1 m c t, b3 m c t, b5 m c t]
  exact gate m c _ j

/-- The block of the gates, a token per column at a point is the reference's there. -/
theorem point17 (c : Dev nD) (t : Fin cfg0.N) (j : Fin 16) (r : Fin 512) : out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 j r) = ref17 m c (ix2 j (at_ t r)) := by
  rw [out17_at, ref17, v108_at]
  simp only [b0 m c t, b1 m c t, b4 m c t, b6 m c t]
  exact gate m c _ ⟨j.val, by omega⟩

/-- The block of the value branch after its layer norm at a point is the reference's there. -/
theorem point18 (c : Dev nD) (t : Fin cfg0.N) (r j : Fin 512) : out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = ref18 m c (ix2 (at_ t r) j) := by
  have h : ∀ j : Fin 512, _ := fun j => rowx m c t r ⟨512 + j.val, by omega⟩
  rw [out18_at, ref18, v71_at]
  simp only [h, b7 m c t, b8 m c t, v47_at]
  rfl

/-- The block of the mixed values at a point is the reference's there, by tile. -/
theorem tile11 (c : Dev nD) (t : Fin cfg0.N) (I J : Fin 4) (r j : Fin 128) : out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 ⟨128 * I.val + r.val, by omega⟩ ⟨128 * J.val + j.val, by omega⟩)
    = ref11 m c (ix2 (at_ t ⟨128 * I.val + r.val, by omega⟩) ⟨128 * J.val + j.val, by omega⟩) := by
  have ht : t.val < 32 := lt_of_lt_of_eq t.isLt N_0
  have e : ∀ s : Fin 128, at_ t ⟨128 * I.val + s.val, by omega⟩ = ⟨128 * (⟨4 * t.val + I.val, by omega⟩ : Fin 128).val + s.val, by simp only; omega⟩ := fun s => Fin.ext (by simp only [at_]; omega)
  rw [out11_at, ref11, e r, v95_at]
  simp only [← e, mixed, pay36_at, pay39_at, point18, b9 m c t, b10 m c t, v34_at]
  rw [← rowx m c t _ ⟨128 * J.val + j.val, by omega⟩]
  rfl

/-- The block of the mixed values at a point is the reference's there. -/
theorem point11 (c : Dev nD) (t : Fin cfg0.N) (r j : Fin 512) : out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = ref11 m c (ix2 (at_ t r) j) := by
  have h := tile11 m c t ⟨r.val / 128, by omega⟩ ⟨j.val / 128, by omega⟩ ⟨r.val % 128, by omega⟩ ⟨j.val % 128, by omega⟩
  simpa only [Nat.div_add_mod] using h

/-- The array of the mixed values after the run is the reference's. -/
theorem final11 (c : Dev nD) : (dats m 0 c).arrAt 11 (cfgs 0).N = ref11 m c := by
  refine (dats m 0 c).arrAt_eq_of_covers 11 _ (by decide +kernel) fun t _ y => ?_
  blk_simp
  rw [after0_11]
  idx_vars y
  refine (point11 m c t y0 y1).trans (congrArg (ref11 m c) ?_)
  unfold at_
  blk_ext [idx t]

/-- The array of the queries after the run is the reference's. -/
theorem final12 (c : Dev nD) : (dats m 0 c).arrAt 12 (cfgs 0).N = ref12 m c := by
  refine (dats m 0 c).arrAt_eq_of_covers 12 _ (by decide +kernel) fun t _ y => ?_
  blk_simp
  rw [after0_12]
  idx_vars y
  refine (point12 m c t y0 y1).trans (congrArg (ref12 m c) ?_)
  unfold at_
  blk_ext [idx t]

/-- The array of the keys after the run is the reference's. -/
theorem final13 (c : Dev nD) : (dats m 0 c).arrAt 13 (cfgs 0).N = ref13 m c := by
  refine (dats m 0 c).arrAt_eq_of_covers 13 _ (by decide +kernel) fun t _ y => ?_
  blk_simp
  rw [after0_13]
  idx_vars y
  refine (point13 m c t y0 y1).trans (congrArg (ref13 m c) ?_)
  unfold at_
  blk_ext [idx t]

/-- The array of the values after the run is the reference's. -/
theorem final14 (c : Dev nD) : (dats m 0 c).arrAt 14 (cfgs 0).N = ref14 m c := by
  refine (dats m 0 c).arrAt_eq_of_covers 14 _ (by decide +kernel) fun t _ y => ?_
  blk_simp
  rw [after0_14]
  idx_vars y
  refine (point14 m c t y0 y1).trans (congrArg (ref14 m c) ?_)
  unfold at_
  blk_ext [idx t]

/-- The array of the output gates after the run is the reference's. -/
theorem final15 (c : Dev nD) : (dats m 0 c).arrAt 15 (cfgs 0).N = ref15 m c := by
  refine (dats m 0 c).arrAt_eq_of_covers 15 _ (by decide +kernel) fun t _ y => ?_
  blk_simp
  rw [after0_15]
  idx_vars y
  refine (point15 m c t y0 y1).trans (congrArg (ref15 m c) ?_)
  unfold at_
  blk_ext [idx t]

/-- The array of the gates, a token per row after the run is the reference's. -/
theorem final16 (c : Dev nD) : (dats m 0 c).arrAt 16 (cfgs 0).N = ref16 m c := by
  refine (dats m 0 c).arrAt_eq_of_covers 16 _ (by decide +kernel) fun t _ y => ?_
  blk_simp
  rw [after0_16]
  idx_vars y
  refine (point16 m c t y0 y1).trans (congrArg (ref16 m c) ?_)
  unfold at_
  blk_ext [idx t]

/-- The array of the gates, a token per column after the run is the reference's. -/
theorem final17 (c : Dev nD) : (dats m 0 c).arrAt 17 (cfgs 0).N = ref17 m c := by
  refine (dats m 0 c).arrAt_eq_of_covers 17 _ (by decide +kernel) fun t _ y => ?_
  blk_simp
  rw [after0_17]
  idx_vars y
  refine (point17 m c t y0 y1).trans (congrArg (ref17 m c) ?_)
  unfold at_
  blk_ext [idx t]

/-- The array of the value branch after its layer norm after the run is the reference's. -/
theorem final18 (c : Dev nD) : (dats m 0 c).arrAt 18 (cfgs 0).N = ref18 m c := by
  refine (dats m 0 c).arrAt_eq_of_covers 18 _ (by decide +kernel) fun t _ y => ?_
  blk_simp
  rw [after0_18]
  idx_vars y
  refine (point18 m c t y0 y1).trans (congrArg (ref18 m c) ?_)
  unfold at_
  blk_ext [idx t]

end Cert.Front
end
-- ==== Proof.BackSample.lean ====
module

public import proofs.«01_k».proof.Proof.Back
public import proofs.«01_k».proof.Proof.Gen.Reference5Ideal.Read
public import proofs.«01_k».proof.Proof.Gen.Kernel5Ideal.Value
public import Idealize.ShloMosaic.Lib.Pipeline.ValueKit
public import Idealize.ShloMosaic.Lib.Claim

@[expose] public section

set_option maxRecDepth 16384

noncomputable section

/-! The back call at the second batch's size: its body on a block is the first batch's, its reference's stages are read at
    an element here, and every block the grid writes is the row formula on its rows, so the array is the
    reference's result. -/

namespace Cert.BackSample

open Idealize.ShloMosaic Idealize.ShloMosaic.TcCoe Idealize.SL.Sem
open Cert.Back (nrm mix act ffn ple row body_at)

section R
open Cert.Reference5Ideal Cert.Reference5Ideal.Gen Cert.Reference5Ideal.Read

variable (x0 : FVec Ideal S1024x1024 .f32) (x1 x2 : FVec Ideal S1024x512 .bf16) (x3 : FVec Ideal S1024x256 .f32) (x4 : FVec Ideal S1024x1024 .f32) (x5 : FVec Ideal S1024 .f32) (x6 : FVec Ideal S1024x4096 .f32) (x7 : FVec Ideal S4096x1024 .f32) (x8 : FVec Ideal S1024 .f32) (x9 : FVec Ideal S1024x1024 .f32) (x10 : FVec Ideal S256x1024 .f32) (x11 : FVec Ideal S1024 .f32)

/-- The residual row and the mixers: the joined mixers' row times the whole projection is the two halves' sum. -/
theorem v3_at (r : Fin 1024) (j : Fin 1024) :
    val_main_v3 (F := Ideal) x0 x1 x2 x4 (ix2 r j) = mix (fun j => x0 (ix2 r j)) (fun k => x1 (ix2 r k)) (fun k => x2 (ix2 r k)) (fun k j => x4 (ix2 ⟨k.val, by omega⟩ j)) (fun k j => x4 (ix2 ⟨512 + k.val, by omega⟩ j)) j := by
  pointwise [val_main_v3, val_main_v2, val_main_v1, val_main_v0]
  rfl

/-- The first normalization of a row. -/
theorem v16_at (r : Fin 1024) (j : Fin 1024) :
    val_main_v16 (F := Ideal) x0 x1 x2 x4 x5 (ix2 r j) = nrm (fun j => val_main_v3 (F := Ideal) x0 x1 x2 x4 (ix2 r j)) (fun j => x5 (ix1 j)) j := by
  unfold val_main_v16 val_main_v15 val_main_v14 val_main_v13 val_main_v12 val_main_v11 val_main_v10 val_main_v9 val_main_v8 val_main_v7 val_main_v6 val_main_v5 val_main_v4 val_main_cst val_main_cst_0 val_main_cst_1
  generalize val_main_v3 (F := Ideal) x0 x1 x2 x4 = y
  pointwise
  rfl

/-- The feed-forward layer on a row. -/
theorem v21_at (r : Fin 1024) (j : Fin 1024) :
    val_main_v21 (F := Ideal) x0 x1 x2 x4 x5 x6 x7 (ix2 r j) = ffn (fun j => val_main_v3 (F := Ideal) x0 x1 x2 x4 (ix2 r j)) (fun j => val_main_v16 (F := Ideal) x0 x1 x2 x4 x5 (ix2 r j))
      (fun k f => x6 (ix2 k f)) (fun f j => x7 (ix2 f j)) j := by
  unfold val_main_v21 val_main_v20 val_main_v19 val_main_v18 val_main_v17 val_main_call0_v0 val_main_call0_cst
  generalize val_main_v3 (F := Ideal) x0 x1 x2 x4 = y
  generalize val_main_v16 (F := Ideal) x0 x1 x2 x4 x5 = a
  pointwise
  rfl

/-- The second normalization of a row. -/
theorem v34_at (r : Fin 1024) (j : Fin 1024) :
    val_main_v34 (F := Ideal) x0 x1 x2 x4 x5 x6 x7 x8 (ix2 r j) = nrm (fun j => val_main_v21 (F := Ideal) x0 x1 x2 x4 x5 x6 x7 (ix2 r j)) (fun j => x8 (ix1 j)) j := by
  unfold val_main_v34 val_main_v33 val_main_v32 val_main_v31 val_main_v30 val_main_v29 val_main_v28 val_main_v27 val_main_v26 val_main_v25 val_main_v24 val_main_v23 val_main_v22 val_main_cst_2 val_main_cst_3 val_main_cst_4
  generalize val_main_v21 (F := Ideal) x0 x1 x2 x4 x5 x6 x7 = y
  pointwise
  rfl

/-- The gated per-layer embedding on a row. -/
theorem v44_at (r : Fin 1024) (j : Fin 1024) :
    val_main_v44 (F := Ideal) x0 x1 x2 x3 x4 x5 x6 x7 x8 x9 x10 (ix2 r j) = ple (fun j => val_main_v21 (F := Ideal) x0 x1 x2 x4 x5 x6 x7 (ix2 r j)) (fun j => val_main_v34 (F := Ideal) x0 x1 x2 x4 x5 x6 x7 x8 (ix2 r j))
      (fun k j => x9 (ix2 k j)) (fun k => x3 (ix2 r k)) (fun k j => x10 (ix2 k j)) j := by
  unfold val_main_v44 val_main_v43 val_main_v42 val_main_v41 val_main_v40 val_main_v39 val_main_v38 val_main_v37 val_main_v36 val_main_v35 val_main_cst_5 val_main_cst_6
  generalize val_main_v21 (F := Ideal) x0 x1 x2 x4 x5 x6 x7 = y
  generalize val_main_v34 (F := Ideal) x0 x1 x2 x4 x5 x6 x7 x8 = a
  pointwise
  rfl

/-- The last normalization of a row. -/
theorem v57_at (r : Fin 1024) (j : Fin 1024) :
    val_main_v57 (F := Ideal) x0 x1 x2 x3 x4 x5 x6 x7 x8 x9 x10 x11 (ix2 r j) = nrm (fun j => val_main_v44 (F := Ideal) x0 x1 x2 x3 x4 x5 x6 x7 x8 x9 x10 (ix2 r j)) (fun j => x11 (ix1 j)) j := by
  unfold val_main_v57 val_main_v56 val_main_v55 val_main_v54 val_main_v53 val_main_v52 val_main_v51 val_main_v50 val_main_v49 val_main_v48 val_main_v47 val_main_v46 val_main_v45 val_main_cst_7 val_main_cst_8 val_main_cst_9
  generalize val_main_v44 (F := Ideal) x0 x1 x2 x3 x4 x5 x6 x7 x8 x9 x10 = y
  pointwise
  rfl

/-- The reference's result at an element is the row formula over its arguments' rows. -/
theorem ref_at (r : Fin 1024) (j : Fin 1024) :
    val_main_v57 (F := Ideal) x0 x1 x2 x3 x4 x5 x6 x7 x8 x9 x10 x11 (ix2 r j) =
      row (fun j => x0 (ix2 r j)) (fun k => x1 (ix2 r k)) (fun k => x2 (ix2 r k)) (fun k j => x4 (ix2 ⟨k.val, by omega⟩ j)) (fun k j => x4 (ix2 ⟨512 + k.val, by omega⟩ j)) (fun j => x5 (ix1 j))
        (fun k f => x6 (ix2 k f)) (fun f j => x7 (ix2 f j)) (fun j => x8 (ix1 j)) (fun k j => x9 (ix2 k j)) (fun k => x3 (ix2 r k)) (fun k j => x10 (ix2 k j)) (fun j => x11 (ix1 j)) j := by
  simp only [v57_at, v44_at, v34_at, v21_at, v16_at, v3_at]
  rfl
end R

open Cert.Kernel5Ideal Cert.Kernel5Ideal.Gen

variable (m : (ℓ : Loc nD τ sig) → Buf (Elt Ideal) ℓ)

/-- The blocks of the grid: the row windows move with the point, the weights stay. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![t.val, 0] := (by decide +kernel : ∀ t : Fin grid0.N, _)

/-- The reference's result over the kernel's arguments. -/
abbrev ref (c : Dev nD) : FVec Ideal S1024x1024 .f32 :=
  Cert.Reference5Ideal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- Row `r` of block `t` lies at row `512 * t + r` of the array. -/
def at_ (t : Fin cfg0.N) (r : Fin 512) : Fin 1024 := ⟨t.val * 512 + r.val, by have := t.isLt; have : cfg0.N = 2 := N_0; omega⟩

/-- A point's block of window 0: the residual rows. -/
theorem b0 (c : Dev nD) (t : Fin cfg0.N) (r : Fin 512) (j : Fin 1024) : (iblk m c 0 t : FVec Ideal S512x1024 .f32) (ix2 r j) = (m ((c : Thread nD τ).loc main_arg0) : FVec Ideal S1024x1024 .f32) (ix2 (at_ t r) j) := by
  unfold at_; blk_ext [iblk, V, idx t]
/-- A point's block of window 1: the mixed values. -/
theorem b1 (c : Dev nD) (t : Fin cfg0.N) (r : Fin 512) (j : Fin 512) : (iblk m c 1 t : FVec Ideal S512x512 .bf16) (ix2 r j) = (m ((c : Thread nD τ).loc main_arg1) : FVec Ideal S1024x512 .bf16) (ix2 (at_ t r) j) := by
  unfold at_; blk_ext [iblk, V, idx t]
/-- A point's block of window 2: the recurrence's rows. -/
theorem b2 (c : Dev nD) (t : Fin cfg0.N) (r : Fin 512) (j : Fin 512) : (iblk m c 2 t : FVec Ideal S512x512 .bf16) (ix2 r j) = (m ((c : Thread nD τ).loc main_arg2) : FVec Ideal S1024x512 .bf16) (ix2 (at_ t r) j) := by
  unfold at_; blk_ext [iblk, V, idx t]
/-- A point's block of window 3: the embedding rows. -/
theorem b3 (c : Dev nD) (t : Fin cfg0.N) (r : Fin 512) (j : Fin 256) : (iblk m c 3 t : FVec Ideal S512x256 .f32) (ix2 r j) = (m ((c : Thread nD τ).loc main_arg3) : FVec Ideal S1024x256 .f32) (ix2 (at_ t r) j) := by
  unfold at_; blk_ext [iblk, V, idx t]
/-- A point's block of window 4: the output projection's first half. -/
theorem b4 (c : Dev nD) (t : Fin cfg0.N) (k : Fin 512) (j : Fin 1024) : (iblk m c 4 t : FVec Ideal S512x1024 .bf16) (ix2 k j) = (m ((c : Thread nD τ).loc main_arg4) : FVec Ideal S1024x1024 .f32) (ix2 ⟨k.val, by omega⟩ j) := by
  blk_point [iblk, V, idx t]
/-- A point's block of window 5: the output projection's second half. -/
theorem b5 (c : Dev nD) (t : Fin cfg0.N) (k : Fin 512) (j : Fin 1024) : (iblk m c 5 t : FVec Ideal S512x1024 .bf16) (ix2 k j) = (m ((c : Thread nD τ).loc main_arg4) : FVec Ideal S1024x1024 .f32) (ix2 ⟨512 + k.val, by omega⟩ j) := by
  blk_point [iblk, V, idx t]
/-- A point's block of window 6: the MLP norm's scale. -/
theorem b6 (c : Dev nD) (t : Fin cfg0.N) (j : Fin 1024) : (iblk m c 6 t : FVec Ideal S1x1024 .f32) (ix2 0 j) = (m ((c : Thread nD τ).loc main_arg5) : FVec Ideal S1024 .f32) (ix1 j) := by
  blk_point [iblk, V, idx t]
/-- A point's block of window 7: the MLP's first weights. -/
theorem b7 (c : Dev nD) (t : Fin cfg0.N) (k : Fin 1024) (j : Fin 4096) : (iblk m c 7 t : FVec Ideal S1024x4096 .bf16) (ix2 k j) = (m ((c : Thread nD τ).loc main_arg6) : FVec Ideal S1024x4096 .f32) (ix2 k j) := by
  blk_point [iblk, V, idx t]
/-- A point's block of window 8: the MLP's second weights. -/
theorem b8 (c : Dev nD) (t : Fin cfg0.N) (k : Fin 4096) (j : Fin 1024) : (iblk m c 8 t : FVec Ideal S4096x1024 .bf16) (ix2 k j) = (m ((c : Thread nD τ).loc main_arg7) : FVec Ideal S4096x1024 .f32) (ix2 k j) := by
  blk_point [iblk, V, idx t]
/-- A point's block of window 9: the embedding norm's scale. -/
theorem b9 (c : Dev nD) (t : Fin cfg0.N) (j : Fin 1024) : (iblk m c 9 t : FVec Ideal S1x1024 .f32) (ix2 0 j) = (m ((c : Thread nD τ).loc main_arg8) : FVec Ideal S1024 .f32) (ix1 j) := by
  blk_point [iblk, V, idx t]
/-- A point's block of window 10: the embedding gate's weights. -/
theorem b10 (c : Dev nD) (t : Fin cfg0.N) (k : Fin 1024) (j : Fin 1024) : (iblk m c 10 t : FVec Ideal S1024x1024 .bf16) (ix2 k j) = (m ((c : Thread nD τ).loc main_arg9) : FVec Ideal S1024x1024 .f32) (ix2 k j) := by
  blk_point [iblk, V, idx t]
/-- A point's block of window 11: the embedding's projection. -/
theorem b11 (c : Dev nD) (t : Fin cfg0.N) (k : Fin 256) (j : Fin 1024) : (iblk m c 11 t : FVec Ideal S256x1024 .bf16) (ix2 k j) = (m ((c : Thread nD τ).loc main_arg10) : FVec Ideal S256x1024 .f32) (ix2 k j) := by
  blk_point [iblk, V, idx t]
/-- A point's block of window 12: the final norm's scale. -/
theorem b12 (c : Dev nD) (t : Fin cfg0.N) (j : Fin 1024) : (iblk m c 12 t : FVec Ideal S1x1024 .f32) (ix2 0 j) = (m ((c : Thread nD τ).loc main_arg11) : FVec Ideal S1024 .f32) (ix1 j) := by
  blk_point [iblk, V, idx t]

/-- The block a point stores is the reference's rows there. -/
theorem point (c : Dev nD) (t : Fin cfg0.N) (r : Fin 512) (j : Fin 1024) :
    k0_pay7 (F := Ideal) (k0_pay5 (k0_pay1 (iblk m c 0 t) (iblk m c 1 t) (iblk m c 4 t) (iblk m c 2 t) (iblk m c 5 t)) (k0_pay2 (iblk m c 0 t) (iblk m c 1 t) (iblk m c 4 t) (iblk m c 2 t) (iblk m c 5 t) (iblk m c 6 t)) (k0_pay3 (iblk m c 0 t) (iblk m c 1 t) (iblk m c 4 t) (iblk m c 2 t) (iblk m c 5 t) (iblk m c 6 t) (View.ld (iblk m c 7 t) r0_3)) (k0_pay4 (View.ld (iblk m c 8 t) r0_4)) (constant S512x1024 .f32 0x00000000#32) (View.ld (iblk m c 7 t) r0_5) (View.ld (iblk m c 8 t) r0_6) (View.ld (iblk m c 7 t) r0_7) (View.ld (iblk m c 8 t) r0_8) (View.ld (iblk m c 7 t) r0_9) (View.ld (iblk m c 8 t) r0_10)) (k0_pay6 (iblk m c 9 t)) (iblk m c 10 t) (iblk m c 3 t) (iblk m c 11 t) (iblk m c 12 t) (ix2 r j)
      = ref m c (ix2 (at_ t r) j) := by
  refine (body_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r j).trans ?_
  rw [ref, ref_at]
  simp only [b0 m c t, b1 m c t, b2 m c t, b3 m c t, b4 m c t, b5 m c t, b6 m c t, b7 m c t, b8 m c t, b9 m c t, b10 m c t, b11 m c t, b12 m c t]

/-- The result array after the run is the reference's result. -/
theorem final (c : Dev nD) : (dats m 0 c).arrAt 13 (cfgs 0).N = ref m c := by
  refine (dats m 0 c).arrAt_eq_of_covers 13 _ (by decide +kernel) fun t _ y => ?_
  blk_simp
  rw [after0_13]; frame_out
  idx_vars y
  refine (point m c t y0 y1).trans (congrArg (ref m c) ?_)
  unfold at_
  blk_ext [idx t]
end Cert.BackSample
end
-- ==== Proof.FrontSample.lean ====
module

public import proofs.«01_k».proof.Proof.Front
public import proofs.«01_k».proof.Proof.Gen.Reference6Ideal.Read
public import Idealize.ShloMosaic.Lib.Pointwise

@[expose] public section

set_option maxRecDepth 16384

noncomputable section

/-! The front call at the second batch's size, sequences of 8 tokens: its reference's stages read at an element, in the
    first batch's row formulas. -/

namespace Cert.FrontSample

open Idealize.ShloMosaic Idealize.ShloMosaic.TcCoe Idealize.SL.Sem
open Cert.Front (gelu lnorm lsig lsig_neg tri lane mean)

section R
open Cert.Reference6Ideal Cert.Reference6Ideal.Gen Cert.Reference6Ideal.Read

variable (x0 : FVec Ideal S1024x1024 .f32) (x1 : FVec Ideal S1024 .f32) (x2 : FVec Ideal S1024x3080 .f32) (x3 x4 : FVec Ideal S512 .f32) (x5 : FVec Ideal S4x128x128 .f32) (x6 : FVec Ideal S4x128 .f32) (x7 x8 : FVec Ideal S4 .f32)

/-- The normalized row. -/
theorem v12_at (r : Fin 1024) (j : Fin 1024) : val_main_v12 (F := Ideal) x0 x1 (ix2 r j) = Back.nrm (fun j => x0 (ix2 r j)) (fun j => x1 (ix1 j)) j := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- The row times the projection. -/
theorem v13_at (r : Fin 1024) (j : Fin 3080) : val_main_v13 (F := Ideal) x0 x1 x2 (ix2 r j) = ∑ k, Back.nrm (fun j => x0 (ix2 r j)) (fun j => x1 (ix1 j)) k * x2 (ix2 k j) := by
  simp only [← v12_at]
  unfold val_main_v13
  generalize val_main_v12 (F := Ideal) x0 x1 = a
  pointwise

/-- The gating branch. -/
theorem v34_at (r : Fin 1024) (j : Fin 512) : val_main_v34 (F := Ideal) x0 x1 x2 (ix2 r j) = gelu (val_main_v13 (F := Ideal) x0 x1 x2 (ix2 r ⟨j.val, by omega⟩)) := by
  unfold val_main_v34 val_main_v33 val_main_v32 val_main_v31 val_main_v30 val_main_v29 val_main_v28 val_main_v27 val_main_v26 val_main_v25 val_main_v24 val_main_v23 val_main_v22 val_main_v14 val_main_cst_2 val_main_cst_3 val_main_cst_4 val_main_cst_5
  generalize val_main_v13 (F := Ideal) x0 x1 x2 = z
  pointwise
  rw [mul_comm (z _ * z _)]
  rfl

/-- The value branch before its layer norm. -/
theorem v47_at (r : Fin 1024) (j : Fin 512) : val_main_v47 (F := Ideal) x0 x1 x2 (ix2 r j) = gelu (val_main_v13 (F := Ideal) x0 x1 x2 (ix2 r ⟨512 + j.val, by omega⟩)) := by
  unfold val_main_v47 val_main_v46 val_main_v45 val_main_v44 val_main_v43 val_main_v42 val_main_v41 val_main_v40 val_main_v39 val_main_v38 val_main_v37 val_main_v36 val_main_v35 val_main_v15 val_main_cst_6 val_main_cst_7 val_main_cst_8 val_main_cst_9
  generalize val_main_v13 (F := Ideal) x0 x1 x2 = z
  pointwise
  rw [mul_comm (z _ * z _)]
  rfl

/-- The value branch after its layer norm. -/
theorem v71_at (r : Fin 1024) (j : Fin 512) : val_main_v71 (F := Ideal) x0 x1 x2 x3 x4 (ix2 r j) = lnorm (fun j => val_main_v47 (F := Ideal) x0 x1 x2 (ix2 r j)) (fun j => x3 (ix1 j)) (fun j => x4 (ix1 j)) j := by
  unfold val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_cst_10 val_main_cst_11 val_main_cst_12 val_main_cst_13 val_main_cst_14
  generalize val_main_v47 (F := Ideal) x0 x1 x2 = z
  pointwise
  rfl

/-- The mixed values at an element: `n` the sequence, `h` the head. -/
theorem v97_at (n : Fin 128) (r : Fin 8) (h : Fin 4) (d : Fin 128) : val_main_v97 (F := Ideal) x0 x1 x2 x3 x4 x5 x6 (ix2 ⟨8 * n.val + r.val, by omega⟩ ⟨128 * h.val + d.val, by omega⟩)
    = val_main_v34 (F := Ideal) x0 x1 x2 (ix2 ⟨8 * n.val + r.val, by omega⟩ ⟨128 * h.val + d.val, by omega⟩) * (∑ s : Fin 8, (x5 (ix3 h ⟨r.val, by omega⟩ ⟨s.val, by omega⟩) * if s.val ≤ r.val then (1 : EReal) else 0) * val_main_v71 (F := Ideal) x0 x1 x2 x3 x4 (ix2 ⟨8 * n.val + s.val, by omega⟩ ⟨128 * h.val + d.val, by omega⟩) + x6 (ix2 h ⟨r.val, by omega⟩)) := by
  unfold val_main_v97 val_main_v86 val_main_v85 val_main_v84 val_main_v83 val_main_v82 val_main_v81 val_main_v80 val_main_v79 val_main_v78 val_main_v77 val_main_v76 val_main_call1_v0 val_main_v75 val_main_v74 val_main_v73 val_main_v72 val_main_call0_v5 val_main_call0_v4 val_main_call0_v3 val_main_call0_v2 val_main_call0_v1 val_main_call0_v0 val_main_call0_c val_main_call0_c_0 val_main_c val_main_cst_15
  generalize val_main_v34 (F := Ideal) x0 x1 x2 = u
  generalize val_main_v71 (F := Ideal) x0 x1 x2 x3 x4 = v
  pointwise
  congr 2
  refine Finset.sum_congr rfl fun s _ => ?_
  rw [tri ⟨r.val, by omega⟩ ⟨s.val, by omega⟩, show (⟨n.val * 8 + s.val, by omega⟩ : Fin 1024) = ⟨8 * n.val + s.val, by omega⟩ from Fin.ext (by simp only; omega),
    show (⟨h.val * 128 + d.val, by omega⟩ : Fin 512) = ⟨128 * h.val + d.val, by omega⟩ from Fin.ext (by simp only; omega)]
  by_cases hs : s.val ≤ r.val
  · rw [if_pos hs, if_pos hs, mul_one, mul_comm]
  · rw [if_neg hs, if_neg hs, mul_zero, zero_mul]

/-- The gates. -/
theorem v96_at (r : Fin 1024) (j : Fin 128) : val_main_v96 (F := Ideal) x0 x1 x2 x7 x8 (ix2 r j)
    = if h : j.val < 4 then val_main_v13 (F := Ideal) x0 x1 x2 (ix2 r ⟨3072 + j.val, by omega⟩) + x7 (ix1 ⟨j.val, h⟩)
      else if h' : j.val - 4 < 4 then lsig (val_main_v13 (F := Ideal) x0 x1 x2 (ix2 r ⟨3076 + (j.val - 4), by omega⟩) + x8 (ix1 ⟨j.val - 4, h'⟩)) else lsig 0 := by
  unfold val_main_v96 val_main_v95 val_main_call3_v1 val_main_call3_call0_v11 val_main_call3_call0_v10 val_main_call3_call0_v9 val_main_call3_call0_v8 val_main_call3_call0_v7 val_main_call3_call0_v6 val_main_call3_call0_v5 val_main_call3_call0_v4 val_main_call3_call0_v3 val_main_call3_call0_v2 val_main_call3_call0_v1 val_main_call3_call0_v0 val_main_call3_v0 val_main_v94 val_main_v93 val_main_call2_v1 val_main_call2_call0_v11 val_main_call2_call0_v10 val_main_call2_call0_v9 val_main_call2_call0_v8 val_main_call2_call0_v7 val_main_call2_call0_v6 val_main_call2_call0_v5 val_main_call2_call0_v4 val_main_call2_call0_v3 val_main_call2_call0_v2 val_main_call2_call0_v1 val_main_call2_call0_v0 val_main_call2_v0 val_main_v92 val_main_v91 val_main_v90 val_main_v89 val_main_v88 val_main_v87 val_main_v21 val_main_v20 val_main_call2_call0_cst val_main_call3_call0_cst val_main_cst_16
  generalize val_main_v13 (F := Ideal) x0 x1 x2 = z
  pointwise
  simp only [ne_eq, not_true_eq_false, if_false, lsig_neg]

/-- The queries. -/
theorem v98_at (r : Fin 1024) (j : Fin 512) : val_main_v98 (F := Ideal) x0 x1 x2 (ix2 r j) = val_main_v13 (F := Ideal) x0 x1 x2 (ix2 r ⟨1024 + j.val, by omega⟩) := by
  unfold val_main_v98 val_main_v16
  generalize val_main_v13 (F := Ideal) x0 x1 x2 = z
  pointwise

/-- The keys. -/
theorem v101_at (r : Fin 1024) (j : Fin 512) : val_main_v101 (F := Ideal) x0 x1 x2 (ix2 r j) = val_main_v13 (F := Ideal) x0 x1 x2 (ix2 r ⟨1536 + j.val, by omega⟩) * Ideal.ofBits FTy.f32 0x3DB504F3#32 := by
  unfold val_main_v101 val_main_v100 val_main_v99 val_main_v17 val_main_cst_17
  generalize val_main_v13 (F := Ideal) x0 x1 x2 = z
  pointwise

/-- The values. -/
theorem v102_at (r : Fin 1024) (j : Fin 512) : val_main_v102 (F := Ideal) x0 x1 x2 (ix2 r j) = val_main_v13 (F := Ideal) x0 x1 x2 (ix2 r ⟨2048 + j.val, by omega⟩) := by
  unfold val_main_v102 val_main_v18
  generalize val_main_v13 (F := Ideal) x0 x1 x2 = z
  pointwise

/-- The output gates. -/
theorem v108_at (r : Fin 1024) (j : Fin 512) : val_main_v108 (F := Ideal) x0 x1 x2 (ix2 r j) = Ideal.logistic (val_main_v13 (F := Ideal) x0 x1 x2 (ix2 r ⟨2560 + j.val, by omega⟩)) := by
  unfold val_main_v108 val_main_v107 val_main_v106 val_main_v105 val_main_v104 val_main_v103 val_main_v19 val_main_cst_18 val_main_cst_19
  generalize val_main_v13 (F := Ideal) x0 x1 x2 = z
  pointwise
  rfl

/-- The gates, a token per column. -/
theorem v110_at (j : Fin 16) (r : Fin 1024) : val_main_v110 (F := Ideal) x0 x1 x2 x7 x8 (ix2 j r) = val_main_v96 (F := Ideal) x0 x1 x2 x7 x8 (ix2 r ⟨j.val, by omega⟩) := by
  unfold val_main_v110 val_main_v109
  generalize val_main_v96 (F := Ideal) x0 x1 x2 x7 x8 = z
  pointwise
end R
end Cert.FrontSample
end
-- ==== Proof.FrontSampleHost.lean ====
module

public import proofs.«01_k».proof.Proof.FrontHost
public import proofs.«01_k».proof.Proof.Gen.Kernel6Ideal.Value
public import Idealize.ShloMosaic.Lib.Pipeline.ValueKit

@[expose] public section

set_option maxRecDepth 16384

noncomputable section

/-! The operands of the front call at the second batch's size: what the host makes of the arguments, and each window's block of it. -/

namespace Cert.FrontSample

open Idealize.ShloMosaic Idealize.ShloMosaic.TcCoe Idealize.SL.Sem
open Cert.Front (word0)
open Cert.Kernel6Ideal Cert.Kernel6Ideal.Gen

variable (m : (ℓ : Loc nD τ sig) → Buf (Elt Ideal) ℓ)

/-- The blocks of the grid: the rows of the tokens move with the point, the weights stay. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_9.index t = ![0, 0, 0]
    ∧ win0_10.index t = ![0, 0, 0] ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![0, t.val] ∧ win0_18.index t = ![t.val, 0] := (by decide +kernel : ∀ t : Fin grid0.N, _)

/-- Row `r` of block `t` lies at row `512 * t + r` of the array. -/
def at_ (t : Fin cfg0.N) (r : Fin 512) : Fin 1024 := ⟨t.val * 512 + r.val, by have := t.isLt; have : cfg0.N = 2 := N_0; omega⟩

/-- The tokens by row and column. -/
def ax (c : Dev nD) (r : Fin 1024) (j : Fin 1024) : EReal := (m ((c : Thread nD τ).loc main_arg0) : FVec Ideal S1024x1024 .f32) (ix2 r j)
/-- The scale of the normalization. -/
def an (c : Dev nD) (j : Fin 1024) : EReal := (m ((c : Thread nD τ).loc main_arg1) : FVec Ideal S1024 .f32) (ix1 j)
/-- The projection. -/
def aw (c : Dev nD) (k : Fin 1024) (j : Fin 3080) : EReal := (m ((c : Thread nD τ).loc main_arg2) : FVec Ideal S1024x3080 .f32) (ix2 k j)
/-- The layer norm's scale. -/
def alg (c : Dev nD) (j : Fin 512) : EReal := (m ((c : Thread nD τ).loc main_arg3) : FVec Ideal S512 .f32) (ix1 j)
/-- The layer norm's shift. -/
def alb (c : Dev nD) (j : Fin 512) : EReal := (m ((c : Thread nD τ).loc main_arg4) : FVec Ideal S512 .f32) (ix1 j)
/-- The mixing weights. -/
def aws (c : Dev nD) (n : Fin 4) (r s : Fin 128) : EReal := (m ((c : Thread nD τ).loc main_arg5) : FVec Ideal S4x128x128 .f32) (ix3 n r s)
/-- The mixing shifts. -/
def abs_ (c : Dev nD) (n : Fin 4) (r : Fin 128) : EReal := (m ((c : Thread nD τ).loc main_arg6) : FVec Ideal S4x128 .f32) (ix2 n r)
/-- The input gates' shifts. -/
def abi (c : Dev nD) (j : Fin 4) : EReal := (m ((c : Thread nD τ).loc main_arg7) : FVec Ideal S4 .f32) (ix1 j)
/-- The forget gates' shifts. -/
def abf (c : Dev nD) (j : Fin 4) : EReal := (m ((c : Thread nD τ).loc main_arg8) : FVec Ideal S4 .f32) (ix1 j)

/-- The gates' columns of the projection, the lanes after them 0. -/
def agw (c : Dev nD) (k : Fin 1024) (j : Nat) : EReal := if h : j < 8 then aw m c k ⟨3072 + j, by omega⟩ else 0
/-- The gates' shifts, the lanes after them 0. -/
def agb (c : Dev nD) (j : Nat) : EReal := if h : j < 8 then (if h' : j < 4 then abi m c ⟨j, h'⟩ else abf m c ⟨j - 4, by omega⟩) else 0

/-- The scale of the normalization as a row. -/
theorem h42_at (c : Dev nD) (j : Fin 1024) : (V m c main_v42 : FVec Ideal S1x1024 .f32) (ix2 0 j) = an m c j := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
  rfl

/-- The projection's first 3072 columns. -/
theorem h1_at (c : Dev nD) (k : Fin 1024) (j : Fin 3072) : (V m c main_v1 : FVec Ideal S1024x3072 .bf16) (ix2 k j) = aw m c k ⟨j.val, by omega⟩ := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
  rfl

/-- The gates' columns, filled up with 0. -/
theorem h4_at (c : Dev nD) (k : Fin 1024) (j : Fin 128) : (V m c main_v4 : FVec Ideal S1024x128 .bf16) (ix2 k j) = agw m c k j.val := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.ofBuf, StableHlo.TRef.toBuf, cast_eq]
  pointwise
  rw [word0]
  rfl

/-- The gates' columns as rows, filled up with 0. -/
theorem h7_at (c : Dev nD) (j : Fin 16) (k : Fin 1024) : (V m c main_v7 : FVec Ideal S16x1024 .bf16) (ix2 j k) = agw m c k j.val := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.ofBuf, StableHlo.TRef.toBuf, cast_eq]
  pointwise
  rw [word0]
  rfl

/-- The gates' shifts as a row, filled up with 0. -/
theorem h10_at (c : Dev nD) (j : Fin 128) : (V m c main_v10 : FVec Ideal S1x128 .f32) (ix2 0 j) = agb m c j.val := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.ofBuf, StableHlo.TRef.toBuf, cast_eq]
  pointwise
  rw [word0]
  rfl

/-- The gates' shifts as a column, repeated. -/
theorem h43_at (c : Dev nD) (j : Fin 16) (r : Fin 512) : (V m c main_v43 : FVec Ideal S16x512 .f32) (ix2 j r) = agb m c j.val := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.ofBuf, StableHlo.TRef.toBuf, cast_eq]
  pointwise
  rw [word0]
  rfl

/-- The layer norm's scale as a row. -/
theorem h44_at (c : Dev nD) (j : Fin 512) : (V m c main_v44 : FVec Ideal S1x512 .f32) (ix2 0 j) = alg m c j := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
  rfl

/-- The layer norm's shift as a row. -/
theorem h45_at (c : Dev nD) (j : Fin 512) : (V m c main_v45 : FVec Ideal S1x512 .f32) (ix2 0 j) = alb m c j := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
  rfl

/-- The mixing weights times the mask the host makes. -/
theorem h35_at (c : Dev nD) (n : Fin 4) (r s : Fin 128) : (V m c main_v35 : FVec Ideal S4x128x128 .bf16) (ix3 n r s) = aws m c n ⟨r.val % 8, by omega⟩ ⟨s.val % 8, by omega⟩ * if r.val / 8 = s.val / 8 ∧ s.val ≤ r.val then (1 : EReal) else 0 := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.ofBuf, StableHlo.TRef.toBuf, cast_eq]
  pointwise
  exact congrArg (aws m c n ⟨r.val % 8, by omega⟩ ⟨s.val % 8, by omega⟩ * ·) ((congrArg (FloatOps.uitofp (F := Ideal) FTy.bf16) (Tri.bit_8 r s)).trans (Tri.num _))

/-- The mixing shifts, repeated over the columns. -/
theorem h41_at (c : Dev nD) (n : Fin 4) (r s : Fin 128) : (V m c main_v41 : FVec Ideal S4x128x128 .f32) (ix3 n r s) = abs_ m c n ⟨r.val % 8, by omega⟩ := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
  rfl

/-- Every point's block of the tokens is its rows. -/
theorem b0 (c : Dev nD) (t : Fin cfg0.N) (r : Fin 512) (j : Fin 1024) : (iblk m c 0 t : FVec Ideal S512x1024 .f32) (ix2 r j) = ax m c (at_ t r) j := by
  unfold at_ ax; blk_ext [iblk, V, idx t]
/-- Every point's block of window 1 is the whole operand. -/
theorem b1 (c : Dev nD) (t : Fin cfg0.N) (j : Fin 1024) : (iblk m c 1 t : FVec Ideal S1x1024 .f32) (ix2 0 j) = an m c j := by
  refine Eq.trans ?_ (h42_at m c j)
  unfold iblk
  show (V m c main_v42) _ = _
  generalize V m c main_v42 = X
  blk_ext [idx t]
/-- Every point's block of window 2 is the whole operand. -/
theorem b2 (c : Dev nD) (t : Fin cfg0.N) (k : Fin 1024) (j : Fin 3072) : (iblk m c 2 t : FVec Ideal S1024x3072 .bf16) (ix2 k j) = aw m c k ⟨j.val, by omega⟩ := by
  refine Eq.trans ?_ (h1_at m c k j)
  unfold iblk
  show (V m c main_v1) _ = _
  generalize V m c main_v1 = X
  blk_ext [idx t]
/-- Every point's block of window 3 is the whole operand. -/
theorem b3 (c : Dev nD) (t : Fin cfg0.N) (k : Fin 1024) (j : Fin 128) : (iblk m c 3 t : FVec Ideal S1024x128 .bf16) (ix2 k j) = agw m c k j.val := by
  refine Eq.trans ?_ (h4_at m c k j)
  unfold iblk
  show (V m c main_v4) _ = _
  generalize V m c main_v4 = X
  blk_ext [idx t]
/-- Every point's block of window 4 is the whole operand. -/
theorem b4 (c : Dev nD) (t : Fin cfg0.N) (j : Fin 16) (k : Fin 1024) : (iblk m c 4 t : FVec Ideal S16x1024 .bf16) (ix2 j k) = agw m c k j.val := by
  refine Eq.trans ?_ (h7_at m c j k)
  unfold iblk
  show (V m c main_v7) _ = _
  generalize V m c main_v7 = X
  blk_ext [idx t]
/-- Every point's block of window 5 is the whole operand. -/
theorem b5 (c : Dev nD) (t : Fin cfg0.N) (j : Fin 128) : (iblk m c 5 t : FVec Ideal S1x128 .f32) (ix2 0 j) = agb m c j.val := by
  refine Eq.trans ?_ (h10_at m c j)
  unfold iblk
  show (V m c main_v10) _ = _
  generalize V m c main_v10 = X
  blk_ext [idx t]
/-- Every point's block of window 6 is the whole operand. -/
theorem b6 (c : Dev nD) (t : Fin cfg0.N) (j : Fin 16) (r : Fin 512) : (iblk m c 6 t : FVec Ideal S16x512 .f32) (ix2 j r) = agb m c j.val := by
  refine Eq.trans ?_ (h43_at m c j r)
  unfold iblk
  show (V m c main_v43) _ = _
  generalize V m c main_v43 = X
  blk_ext [idx t]
/-- Every point's block of window 7 is the whole operand. -/
theorem b7 (c : Dev nD) (t : Fin cfg0.N) (j : Fin 512) : (iblk m c 7 t : FVec Ideal S1x512 .f32) (ix2 0 j) = alg m c j := by
  refine Eq.trans ?_ (h44_at m c j)
  unfold iblk
  show (V m c main_v44) _ = _
  generalize V m c main_v44 = X
  blk_ext [idx t]
/-- Every point's block of window 8 is the whole operand. -/
theorem b8 (c : Dev nD) (t : Fin cfg0.N) (j : Fin 512) : (iblk m c 8 t : FVec Ideal S1x512 .f32) (ix2 0 j) = alb m c j := by
  refine Eq.trans ?_ (h45_at m c j)
  unfold iblk
  show (V m c main_v45) _ = _
  generalize V m c main_v45 = X
  blk_ext [idx t]
/-- Every point's block of window 9 is the whole operand. -/
theorem b9 (c : Dev nD) (t : Fin cfg0.N) (n : Fin 4) (r s : Fin 128) : (iblk m c 9 t : FVec Ideal S4x128x128 .bf16) (ix3 n r s) = aws m c n ⟨r.val % 8, by omega⟩ ⟨s.val % 8, by omega⟩ * if r.val / 8 = s.val / 8 ∧ s.val ≤ r.val then (1 : EReal) else 0 := by
  refine Eq.trans ?_ (h35_at m c n r s)
  unfold iblk
  show (V m c main_v35) _ = _
  generalize V m c main_v35 = X
  blk_ext [idx t]
/-- Every point's block of window 10 is the whole operand. -/
theorem b10 (c : Dev nD) (t : Fin cfg0.N) (n : Fin 4) (r s : Fin 128) : (iblk m c 10 t : FVec Ideal S4x128x128 .f32) (ix3 n r s) = abs_ m c n ⟨r.val % 8, by omega⟩ := by
  refine Eq.trans ?_ (h41_at m c n r s)
  unfold iblk
  show (V m c main_v41) _ = _
  generalize V m c main_v41 = X
  blk_ext [idx t]

end Cert.FrontSample
end
-- ==== Proof.FrontSampleValue.lean ====
module

public import proofs.«01_k».proof.Proof.FrontSample
public import proofs.«01_k».proof.Proof.FrontSampleHost
public import proofs.«01_k».proof.Proof.Gen.Kernel6Ideal.Value
public import Idealize.ShloMosaic.Lib.Pipeline.ValueKit
public import Idealize.ShloMosaic.Lib.Claim

@[expose] public section

set_option maxRecDepth 16384

noncomputable section

/-! The front call's eight result arrays at the second batch's size: every block the grid writes is the reference's result there. -/

namespace Cert.FrontSample

open Idealize.ShloMosaic Idealize.ShloMosaic.TcCoe Idealize.SL.Sem
open Cert.Front (lane mixed pay36_at pay39_at out11_at out12_at out13_at out14_at out15_at out16_at out17_at out18_at)
open Cert.Kernel6Ideal Cert.Kernel6Ideal.Gen Cert.Reference6Ideal.Read

variable (m : (ℓ : Loc nD τ sig) → Buf (Elt Ideal) ℓ)

/-- The reference's mixed values, over the kernel's arguments. -/
abbrev ref11 (c : Dev nD) : FVec Ideal S1024x512 .bf16 := val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- The reference's queries, over the kernel's arguments. -/
abbrev ref12 (c : Dev nD) : FVec Ideal S1024x512 .bf16 := val_main_v98 (F := Ideal) (m ((c : Thread nD τ).loc main_arg0)) (m ((c : Thread nD τ).loc main_arg1)) (m ((c : Thread nD τ).loc main_arg2))
/-- The reference's keys, over the kernel's arguments. -/
abbrev ref13 (c : Dev nD) : FVec Ideal S1024x512 .bf16 := val_main_v101 (F := Ideal) (m ((c : Thread nD τ).loc main_arg0)) (m ((c : Thread nD τ).loc main_arg1)) (m ((c : Thread nD τ).loc main_arg2))
/-- The reference's values, over the kernel's arguments. -/
abbrev ref14 (c : Dev nD) : FVec Ideal S1024x512 .bf16 := val_main_v102 (F := Ideal) (m ((c : Thread nD τ).loc main_arg0)) (m ((c : Thread nD τ).loc main_arg1)) (m ((c : Thread nD τ).loc main_arg2))
/-- The reference's output gates, over the kernel's arguments. -/
abbrev ref15 (c : Dev nD) : FVec Ideal S1024x512 .f32 := val_main_v108 (F := Ideal) (m ((c : Thread nD τ).loc main_arg0)) (m ((c : Thread nD τ).loc main_arg1)) (m ((c : Thread nD τ).loc main_arg2))
/-- The reference's gates, a token per row, over the kernel's arguments. -/
abbrev ref16 (c : Dev nD) : FVec Ideal S1024x128 .f32 := val_main_v96 (F := Ideal) (m ((c : Thread nD τ).loc main_arg0)) (m ((c : Thread nD τ).loc main_arg1)) (m ((c : Thread nD τ).loc main_arg2)) (m ((c : Thread nD τ).loc main_arg7)) (m ((c : Thread nD τ).loc main_arg8))
/-- The reference's gates, a token per column, over the kernel's arguments. -/
abbrev ref17 (c : Dev nD) : FVec Ideal S16x1024 .f32 := val_main_v110 (F := Ideal) (m ((c : Thread nD τ).loc main_arg0)) (m ((c : Thread nD τ).loc main_arg1)) (m ((c : Thread nD τ).loc main_arg2)) (m ((c : Thread nD τ).loc main_arg7)) (m ((c : Thread nD τ).loc main_arg8))
/-- The reference's value branch after its layer norm, over the kernel's arguments. -/
abbrev ref18 (c : Dev nD) : FVec Ideal S1024x512 .f32 := val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A block's row times a column of the projection is the reference's projected element there. -/
theorem rowx (c : Dev nD) (t : Fin cfg0.N) (r : Fin 512) (q : Fin 3072) :
    ∑ k, Back.nrm (fun j => (iblk m c 0 t : FVec Ideal S512x1024 .f32) (ix2 r j)) (fun j => (iblk m c 1 t : FVec Ideal S1x1024 .f32) (ix2 0 j)) k * (iblk m c 2 t : FVec Ideal S1024x3072 .bf16) (ix2 k q)
      = val_main_v13 (F := Ideal) (m ((c : Thread nD τ).loc main_arg0)) (m ((c : Thread nD τ).loc main_arg1)) (m ((c : Thread nD τ).loc main_arg2)) (ix2 (at_ t r) ⟨q.val, by omega⟩) := by
  simp only [b0 m c t, b1 m c t, b2 m c t]
  rw [v13_at]
  rfl

/-- A block's row times a gate's column, shifted, is the reference's gate there. -/
theorem gate (c : Dev nD) (R : Fin 1024) (j : Fin 128) :
    lane j.val (∑ k, Back.nrm (fun j => ax m c R j) (fun j => an m c j) k * agw m c k j.val + agb m c j.val) = ref16 m c (ix2 R j) := by
  rw [ref16, v96_at]
  by_cases h : j.val < 4
  · have h8 : j.val < 8 := by omega
    rw [dif_pos h, v13_at]
    simp only [lane, agw, agb, dif_pos h, dif_pos h8, if_neg (show ¬ 4 ≤ j.val by omega)]
    rfl
  · by_cases h8 : j.val < 8
    · rw [dif_neg h, dif_pos (show j.val - 4 < 4 by omega), v13_at]
      simp only [lane, agw, agb, dif_neg h, dif_pos h8, if_pos (show 4 ≤ j.val by omega),
        show (⟨3076 + (j.val - 4), by omega⟩ : Fin 3080) = ⟨3072 + j.val, by omega⟩ from Fin.ext (by simp only; omega)]
      rfl
    · rw [dif_neg h, dif_neg (show ¬ j.val - 4 < 4 by omega)]
      simp only [lane, agw, agb, dif_neg h8, if_pos (show 4 ≤ j.val by omega), mul_zero, Finset.sum_const_zero, add_zero]

/-- The block of the queries at a point is the reference's there. -/
theorem point12 (c : Dev nD) (t : Fin cfg0.N) (r j : Fin 512) : out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = ref12 m c (ix2 (at_ t r) j) := by
  refine (out12_at (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  rw [ref12, v98_at]
  exact (rowx m c t r ⟨1024 + j.val, by omega⟩)

/-- The block of the keys at a point is the reference's there. -/
theorem point13 (c : Dev nD) (t : Fin cfg0.N) (r j : Fin 512) : out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = ref13 m c (ix2 (at_ t r) j) := by
  refine (out13_at (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  rw [ref13, v101_at]
  exact (congrArg (· * Ideal.ofBits FTy.f32 0x3DB504F3#32) (rowx m c t r ⟨1536 + j.val, by omega⟩))

/-- The block of the values at a point is the reference's there. -/
theorem point14 (c : Dev nD) (t : Fin cfg0.N) (r j : Fin 512) : out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = ref14 m c (ix2 (at_ t r) j) := by
  refine (out14_at (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  rw [ref14, v102_at]
  exact (rowx m c t r ⟨2048 + j.val, by omega⟩)

/-- The block of the output gates at a point is the reference's there. -/
theorem point15 (c : Dev nD) (t : Fin cfg0.N) (r j : Fin 512) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = ref15 m c (ix2 (at_ t r) j) := by
  refine (out15_at (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  rw [ref15, v108_at]
  exact (congrArg Ideal.logistic (rowx m c t r ⟨2560 + j.val, by omega⟩))

/-- The block of the gates, a token per row at a point is the reference's there. -/
theorem point16 (c : Dev nD) (t : Fin cfg0.N) (r : Fin 512) (j : Fin 128) : out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = ref16 m c (ix2 (at_ t r) j) := by
  refine (out16_at (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  simp only [b0 m c t, b1 m c t, b3 m c t, b5 m c t]
  exact gate m c _ j

/-- The block of the gates, a token per column at a point is the reference's there. -/
theorem point17 (c : Dev nD) (t : Fin cfg0.N) (j : Fin 16) (r : Fin 512) : out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 j r) = ref17 m c (ix2 j (at_ t r)) := by
  refine (out17_at (iblk m c 0 t) (iblk m c 1 t) (iblk m c 2 t) (iblk m c 3 t) (iblk m c 4 t) (iblk m c 5 t) (iblk m c 6 t) (iblk m c 7 t) (iblk m c 8 t) (iblk m c 9 t) (iblk m c 10 t) j r).trans ?_
  rw [ref17, v110_at]
  simp only [b0 m c t, b1 m c t, b4 m c t, b6 m c t]
  exact gate m c _ ⟨j.val, by omega⟩

/-- The block of the value branch after its layer norm at a point is the reference's there. -/
theorem point18 (c : Dev nD) (t : Fin cfg0.N) (r j : Fin 512) : out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = ref18 m c (ix2 (at_ t r) j) := by
  have h : ∀ j : Fin 512, _ := fun j => rowx m c t r ⟨512 + j.val, by omega⟩
  refine (out18_at (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  rw [ref18, v71_at]
  simp only [h, b7 m c t, b8 m c t, v47_at]
  rfl

/-- A sum over a chunk of 128 whose weights vanish off a sequence of 8 is the sum over the sequence. -/
theorem seq_sum (f g : Fin 128 → EReal) (r : Fin 128) :
    ∑ s : Fin 128, (f ⟨s.val % 8, by omega⟩ * if r.val / 8 = s.val / 8 ∧ s.val ≤ r.val then (1 : EReal) else 0) * g s
      = ∑ s : Fin 8, (f ⟨s.val, by omega⟩ * if s.val ≤ r.val % 8 then (1 : EReal) else 0) * g ⟨8 * (r.val / 8) + s.val, by omega⟩ := by
  rw [Fin.sum_univ_tiles 16 8 rfl, Finset.sum_eq_single (⟨r.val / 8, by omega⟩ : Fin 16)]
  · refine Finset.sum_congr rfl fun s _ => ?_
    simp only [Nat.mul_comm (r.val / 8) 8, show (8 * (r.val / 8) + s.val) % 8 = s.val by omega, show (8 * (r.val / 8) + s.val) / 8 = r.val / 8 by omega, true_and,
      show (8 * (r.val / 8) + s.val ≤ r.val) = (s.val ≤ r.val % 8) from propext (by omega)]
  · intro i _ hi
    refine Finset.sum_eq_zero fun s _ => ?_
    rw [if_neg, mul_zero, zero_mul]
    rintro ⟨h, -⟩
    exact hi (Fin.ext (by simp only at h ⊢; omega))
  · exact fun h => absurd (Finset.mem_univ _) h

/-- The block of the mixed values at a point is the reference's there, by tile. -/
theorem tile11 (c : Dev nD) (t : Fin cfg0.N) (I J : Fin 4) (r j : Fin 128) : out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 ⟨128 * I.val + r.val, by omega⟩ ⟨128 * J.val + j.val, by omega⟩)
    = ref11 m c (ix2 (at_ t ⟨128 * I.val + r.val, by omega⟩) ⟨128 * J.val + j.val, by omega⟩) := by
  have ht : t.val < 2 := lt_of_lt_of_eq t.isLt N_0
  have e : ∀ s : Fin 8, at_ t ⟨128 * I.val + (8 * (r.val / 8) + s.val), by omega⟩ = ⟨8 * (⟨64 * t.val + 16 * I.val + r.val / 8, by omega⟩ : Fin 128).val + s.val, by simp only; omega⟩ := fun s => Fin.ext (by simp only [at_]; omega)
  have er : at_ t ⟨128 * I.val + r.val, by omega⟩ = ⟨8 * (⟨64 * t.val + 16 * I.val + r.val / 8, by omega⟩ : Fin 128).val + (⟨r.val % 8, by omega⟩ : Fin 8).val, by simp only; omega⟩ := Fin.ext (by simp only [at_]; omega)
  rw [ref11, er, v97_at, ← er]
  simp only [← e]
  refine (out11_at (iblk m c 0 t) (iblk m c 1 t) (iblk m c 2 t) (iblk m c 3 t) (iblk m c 4 t) (iblk m c 5 t) (iblk m c 6 t) (iblk m c 7 t) (iblk m c 8 t) (iblk m c 9 t) (iblk m c 10 t) I J r j).trans ?_
  simp only [mixed, b9 m c t, b10 m c t, v34_at]
  rw [seq_sum (fun s => aws m c J ⟨r.val % 8, by omega⟩ s)]
  simp only [pay36_at, pay39_at]
  rw [← rowx m c t _ ⟨128 * J.val + j.val, by omega⟩]
  refine congrArg₂ (· * ·) rfl (congrArg (· + abs_ m c J ⟨r.val % 8, by omega⟩) (Finset.sum_congr rfl fun s _ => congrArg₂ (· * ·) rfl ?_))
  exact point18 m c t _ _

/-- The block of the mixed values at a point is the reference's there. -/
theorem point11 (c : Dev nD) (t : Fin cfg0.N) (r j : Fin 512) : out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = ref11 m c (ix2 (at_ t r) j) := by
  have h := tile11 m c t ⟨r.val / 128, by omega⟩ ⟨j.val / 128, by omega⟩ ⟨r.val % 128, by omega⟩ ⟨j.val % 128, by omega⟩
  simpa only [Nat.div_add_mod] using h

/-- The array of the mixed values after the run is the reference's. -/
theorem final11 (c : Dev nD) : (dats m 0 c).arrAt 11 (cfgs 0).N = ref11 m c := by
  refine (dats m 0 c).arrAt_eq_of_covers 11 _ (by decide +kernel) fun t _ y => ?_
  blk_simp
  rw [after0_11]
  idx_vars y
  refine (point11 m c t y0 y1).trans (congrArg (ref11 m c) ?_)
  unfold at_
  blk_ext [idx t]

/-- The array of the queries after the run is the reference's. -/
theorem final12 (c : Dev nD) : (dats m 0 c).arrAt 12 (cfgs 0).N = ref12 m c := by
  refine (dats m 0 c).arrAt_eq_of_covers 12 _ (by decide +kernel) fun t _ y => ?_
  blk_simp
  rw [after0_12]
  idx_vars y
  refine (point12 m c t y0 y1).trans (congrArg (ref12 m c) ?_)
  unfold at_
  blk_ext [idx t]

/-- The array of the keys after the run is the reference's. -/
theorem final13 (c : Dev nD) : (dats m 0 c).arrAt 13 (cfgs 0).N = ref13 m c := by
  refine (dats m 0 c).arrAt_eq_of_covers 13 _ (by decide +kernel) fun t _ y => ?_
  blk_simp
  rw [after0_13]
  idx_vars y
  refine (point13 m c t y0 y1).trans (congrArg (ref13 m c) ?_)
  unfold at_
  blk_ext [idx t]

/-- The array of the values after the run is the reference's. -/
theorem final14 (c : Dev nD) : (dats m 0 c).arrAt 14 (cfgs 0).N = ref14 m c := by
  refine (dats m 0 c).arrAt_eq_of_covers 14 _ (by decide +kernel) fun t _ y => ?_
  blk_simp
  rw [after0_14]
  idx_vars y
  refine (point14 m c t y0 y1).trans (congrArg (ref14 m c) ?_)
  unfold at_
  blk_ext [idx t]

/-- The array of the output gates after the run is the reference's. -/
theorem final15 (c : Dev nD) : (dats m 0 c).arrAt 15 (cfgs 0).N = ref15 m c := by
  refine (dats m 0 c).arrAt_eq_of_covers 15 _ (by decide +kernel) fun t _ y => ?_
  blk_simp
  rw [after0_15]
  idx_vars y
  refine (point15 m c t y0 y1).trans (congrArg (ref15 m c) ?_)
  unfold at_
  blk_ext [idx t]

/-- The array of the gates, a token per row after the run is the reference's. -/
theorem final16 (c : Dev nD) : (dats m 0 c).arrAt 16 (cfgs 0).N = ref16 m c := by
  refine (dats m 0 c).arrAt_eq_of_covers 16 _ (by decide +kernel) fun t _ y => ?_
  blk_simp
  rw [after0_16]
  idx_vars y
  refine (point16 m c t y0 y1).trans (congrArg (ref16 m c) ?_)
  unfold at_
  blk_ext [idx t]

/-- The array of the gates, a token per column after the run is the reference's. -/
theorem final17 (c : Dev nD) : (dats m 0 c).arrAt 17 (cfgs 0).N = ref17 m c := by
  refine (dats m 0 c).arrAt_eq_of_covers 17 _ (by decide +kernel) fun t _ y => ?_
  blk_simp
  rw [after0_17]
  idx_vars y
  refine (point17 m c t y0 y1).trans (congrArg (ref17 m c) ?_)
  unfold at_
  blk_ext [idx t]

/-- The array of the value branch after its layer norm after the run is the reference's. -/
theorem final18 (c : Dev nD) : (dats m 0 c).arrAt 18 (cfgs 0).N = ref18 m c := by
  refine (dats m 0 c).arrAt_eq_of_covers 18 _ (by decide +kernel) fun t _ y => ?_
  blk_simp
  rw [after0_18]
  idx_vars y
  refine (point18 m c t y0 y1).trans (congrArg (ref18 m c) ?_)
  unfold at_
  blk_ext [idx t]

end Cert.FrontSample
end
-- ==== Proof.BackValue.lean ====
module

public import proofs.«01_k».proof.Proof.Back
public import proofs.«01_k».proof.Proof.Gen.Kernel2Ideal.Value
public import Idealize.ShloMosaic.Lib.Pipeline.ValueKit
public import Idealize.ShloMosaic.Lib.Claim

@[expose] public section

set_option maxRecDepth 16384

noncomputable section

/-! The back call's result array: every block the grid writes is the row formula on its rows, so the array is the
    reference's result. -/

namespace Cert.Back

open Idealize.ShloMosaic Idealize.ShloMosaic.TcCoe Idealize.SL.Sem
open Cert.Kernel2Ideal Cert.Kernel2Ideal.Gen

variable (m : (ℓ : Loc nD τ sig) → Buf (Elt Ideal) ℓ)

/-- The blocks of the grid: the row windows move with the point, the weights stay. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![t.val, 0] := (by decide +kernel : ∀ t : Fin grid0.N, _)

/-- The reference's result over the kernel's arguments. -/
abbrev ref (c : Dev nD) : FVec Ideal S16384x1024 .f32 :=
  Cert.Reference2Ideal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- Row `r` of block `t` lies at row `512 * t + r` of the array. -/
def at_ (t : Fin cfg0.N) (r : Fin 512) : Fin 16384 := ⟨t.val * 512 + r.val, by have := t.isLt; have : cfg0.N = 32 := N_0; omega⟩

/-- A point's block of window 0: the residual rows. -/
theorem b0 (c : Dev nD) (t : Fin cfg0.N) (r : Fin 512) (j : Fin 1024) : (iblk m c 0 t : FVec Ideal S512x1024 .f32) (ix2 r j) = (m ((c : Thread nD τ).loc main_arg0) : FVec Ideal S16384x1024 .f32) (ix2 (at_ t r) j) := by
  unfold at_; blk_ext [iblk, V, idx t]
/-- A point's block of window 1: the mixed values. -/
theorem b1 (c : Dev nD) (t : Fin cfg0.N) (r : Fin 512) (j : Fin 512) : (iblk m c 1 t : FVec Ideal S512x512 .bf16) (ix2 r j) = (m ((c : Thread nD τ).loc main_arg1) : FVec Ideal S16384x512 .bf16) (ix2 (at_ t r) j) := by
  unfold at_; blk_ext [iblk, V, idx t]
/-- A point's block of window 2: the recurrence's rows. -/
theorem b2 (c : Dev nD) (t : Fin cfg0.N) (r : Fin 512) (j : Fin 512) : (iblk m c 2 t : FVec Ideal S512x512 .bf16) (ix2 r j) = (m ((c : Thread nD τ).loc main_arg2) : FVec Ideal S16384x512 .bf16) (ix2 (at_ t r) j) := by
  unfold at_; blk_ext [iblk, V, idx t]
/-- A point's block of window 3: the embedding rows. -/
theorem b3 (c : Dev nD) (t : Fin cfg0.N) (r : Fin 512) (j : Fin 256) : (iblk m c 3 t : FVec Ideal S512x256 .f32) (ix2 r j) = (m ((c : Thread nD τ).loc main_arg3) : FVec Ideal S16384x256 .f32) (ix2 (at_ t r) j) := by
  unfold at_; blk_ext [iblk, V, idx t]
/-- A point's block of window 4: the output projection's first half. -/
theorem b4 (c : Dev nD) (t : Fin cfg0.N) (k : Fin 512) (j : Fin 1024) : (iblk m c 4 t : FVec Ideal S512x1024 .bf16) (ix2 k j) = (m ((c : Thread nD τ).loc main_arg4) : FVec Ideal S1024x1024 .f32) (ix2 ⟨k.val, by omega⟩ j) := by
  blk_point [iblk, V, idx t]
/-- A point's block of window 5: the output projection's second half. -/
theorem b5 (c : Dev nD) (t : Fin cfg0.N) (k : Fin 512) (j : Fin 1024) : (iblk m c 5 t : FVec Ideal S512x1024 .bf16) (ix2 k j) = (m ((c : Thread nD τ).loc main_arg4) : FVec Ideal S1024x1024 .f32) (ix2 ⟨512 + k.val, by omega⟩ j) := by
  blk_point [iblk, V, idx t]
/-- A point's block of window 6: the MLP norm's scale. -/
theorem b6 (c : Dev nD) (t : Fin cfg0.N) (j : Fin 1024) : (iblk m c 6 t : FVec Ideal S1x1024 .f32) (ix2 0 j) = (m ((c : Thread nD τ).loc main_arg5) : FVec Ideal S1024 .f32) (ix1 j) := by
  blk_point [iblk, V, idx t]
/-- A point's block of window 7: the MLP's first weights. -/
theorem b7 (c : Dev nD) (t : Fin cfg0.N) (k : Fin 1024) (j : Fin 4096) : (iblk m c 7 t : FVec Ideal S1024x4096 .bf16) (ix2 k j) = (m ((c : Thread nD τ).loc main_arg6) : FVec Ideal S1024x4096 .f32) (ix2 k j) := by
  blk_point [iblk, V, idx t]
/-- A point's block of window 8: the MLP's second weights. -/
theorem b8 (c : Dev nD) (t : Fin cfg0.N) (k : Fin 4096) (j : Fin 1024) : (iblk m c 8 t : FVec Ideal S4096x1024 .bf16) (ix2 k j) = (m ((c : Thread nD τ).loc main_arg7) : FVec Ideal S4096x1024 .f32) (ix2 k j) := by
  blk_point [iblk, V, idx t]
/-- A point's block of window 9: the embedding norm's scale. -/
theorem b9 (c : Dev nD) (t : Fin cfg0.N) (j : Fin 1024) : (iblk m c 9 t : FVec Ideal S1x1024 .f32) (ix2 0 j) = (m ((c : Thread nD τ).loc main_arg8) : FVec Ideal S1024 .f32) (ix1 j) := by
  blk_point [iblk, V, idx t]
/-- A point's block of window 10: the embedding gate's weights. -/
theorem b10 (c : Dev nD) (t : Fin cfg0.N) (k : Fin 1024) (j : Fin 1024) : (iblk m c 10 t : FVec Ideal S1024x1024 .bf16) (ix2 k j) = (m ((c : Thread nD τ).loc main_arg9) : FVec Ideal S1024x1024 .f32) (ix2 k j) := by
  blk_point [iblk, V, idx t]
/-- A point's block of window 11: the embedding's projection. -/
theorem b11 (c : Dev nD) (t : Fin cfg0.N) (k : Fin 256) (j : Fin 1024) : (iblk m c 11 t : FVec Ideal S256x1024 .bf16) (ix2 k j) = (m ((c : Thread nD τ).loc main_arg10) : FVec Ideal S256x1024 .f32) (ix2 k j) := by
  blk_point [iblk, V, idx t]
/-- A point's block of window 12: the final norm's scale. -/
theorem b12 (c : Dev nD) (t : Fin cfg0.N) (j : Fin 1024) : (iblk m c 12 t : FVec Ideal S1x1024 .f32) (ix2 0 j) = (m ((c : Thread nD τ).loc main_arg11) : FVec Ideal S1024 .f32) (ix1 j) := by
  blk_point [iblk, V, idx t]

/-- The block a point stores is the reference's rows there. -/
theorem point (c : Dev nD) (t : Fin cfg0.N) (r : Fin 512) (j : Fin 1024) :
    k0_pay7 (F := Ideal) (k0_pay5 (k0_pay1 (iblk m c 0 t) (iblk m c 1 t) (iblk m c 4 t) (iblk m c 2 t) (iblk m c 5 t)) (k0_pay2 (iblk m c 0 t) (iblk m c 1 t) (iblk m c 4 t) (iblk m c 2 t) (iblk m c 5 t) (iblk m c 6 t)) (k0_pay3 (iblk m c 0 t) (iblk m c 1 t) (iblk m c 4 t) (iblk m c 2 t) (iblk m c 5 t) (iblk m c 6 t) (View.ld (iblk m c 7 t) r0_3)) (k0_pay4 (View.ld (iblk m c 8 t) r0_4)) (constant S512x1024 .f32 0x00000000#32) (View.ld (iblk m c 7 t) r0_5) (View.ld (iblk m c 8 t) r0_6) (View.ld (iblk m c 7 t) r0_7) (View.ld (iblk m c 8 t) r0_8) (View.ld (iblk m c 7 t) r0_9) (View.ld (iblk m c 8 t) r0_10)) (k0_pay6 (iblk m c 9 t)) (iblk m c 10 t) (iblk m c 3 t) (iblk m c 11 t) (iblk m c 12 t) (ix2 r j)
      = ref m c (ix2 (at_ t r) j) := by
  refine (body_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r j).trans ?_
  rw [ref, ref_at]
  simp only [b0 m c t, b1 m c t, b2 m c t, b3 m c t, b4 m c t, b5 m c t, b6 m c t, b7 m c t, b8 m c t, b9 m c t, b10 m c t, b11 m c t, b12 m c t]

/-- The result array after the run is the reference's result. -/
theorem final (c : Dev nD) : (dats m 0 c).arrAt 13 (cfgs 0).N = ref m c := by
  refine (dats m 0 c).arrAt_eq_of_covers 13 _ (by decide +kernel) fun t _ y => ?_
  blk_simp
  rw [after0_13]; frame_out
  idx_vars y
  refine (point m c t y0 y1).trans (congrArg (ref m c) ?_)
  unfold at_
  blk_ext [idx t]
end Cert.Back
end
-- ==== Proof.lean ====
/- The proof of the claims: the frames from the generated modules, the values from the modules beside this one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference2Ideal
public import proofs.«01_k».proof.Proof.Gen.Reference3Ideal
public import proofs.«01_k».proof.Proof.Gen.Pre_gates
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.ScaleRef
public import proofs.«01_k».proof.Proof.Gen.Pre_gates7
public import proofs.«01_k».proof.Proof.FrontValue
public import proofs.«01_k».proof.Proof.BackSample
public import proofs.«01_k».proof.Proof.FrontSampleValue
public import proofs.«01_k».proof.Proof.BackValue
public import proofs.«01_k».proof.Proof.RecClaim
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The recurrence ends and leaves its arguments, for the version's floats. -/
theorem q1 : Cert.quiescent_Kernel (hKernel := Cert.Kernel.Gen.facts) := fun m ρ _ => Cert.Kernel.Gen.frame m ρ
/-- The same over the reals. -/
theorem q2 : Cert.quiescent_KernelIdeal (hKernelIdeal := Cert.KernelIdeal.Gen.facts) := fun m ρ _ => Cert.KernelIdeal.Gen.frame m ρ
/-- The same where the precondition holds. -/
theorem q3 : Cert.quiescent_KernelIdeal_pre_gates (hKernelIdeal := Cert.KernelIdeal.Gen.facts) (hPre_gates := Cert.Pre_gates.Gen.facts) := fun m ρ _ => Cert.KernelIdeal.Gen.frame m ρ
/-- The recurrence's reference ends and leaves its arguments. -/
theorem q4 : Cert.quiescent_ReferenceIdeal (hReferenceIdeal := Cert.ReferenceIdeal.Gen.facts) := by
  intro m g _; exact (θ_run _ _ _).mono (fun _ h => ⟨fun c => (h c).2.2.2, sem_eq_zero_of_no_sems (sig := Cert.ReferenceIdeal.sig) (by decide) _⟩) (Cert.ReferenceIdeal.Value.run m g)
/-- The same where the precondition holds. -/
theorem q5 : Cert.quiescent_ReferenceIdeal_pre_gates (hReferenceIdeal := Cert.ReferenceIdeal.Gen.facts) (hPre_gates := Cert.Pre_gates.Gen.facts) := by
  intro m g _; exact (θ_run _ _ _).mono (fun _ h => ⟨fun c => (h c).2.2.2, sem_eq_zero_of_no_sems (sig := Cert.ReferenceIdeal.sig) (by decide) _⟩) (Cert.ReferenceIdeal.Value.run m g)
/-- The closing part ends and leaves its arguments, for the version's floats. -/
theorem q6 : Cert.quiescent_Kernel2 (hKernel2 := Cert.Kernel2.Gen.facts) := fun m ρ _ => Cert.Kernel2.Gen.frame m ρ
/-- The same over the reals. -/
theorem q7 : Cert.quiescent_Kernel2Ideal (hKernel2Ideal := Cert.Kernel2Ideal.Gen.facts) := fun m ρ _ => Cert.Kernel2Ideal.Gen.frame m ρ
/-- Its reference ends and leaves its arguments. -/
theorem q8 : Cert.quiescent_Reference2Ideal (hReference2Ideal := Cert.Reference2Ideal.Gen.facts) := by
  intro m g _; exact (θ_run _ _ _).mono (fun _ h => ⟨fun c => (h c).2, sem_eq_zero_of_no_sems (sig := Cert.Reference2Ideal.sig) (by decide) _⟩) (Cert.Reference2Ideal.Value.run m g)
/-- The opening part ends and leaves its arguments, for the version's floats. -/
theorem q9 : Cert.quiescent_Kernel3 (hKernel3 := Cert.Kernel3.Gen.facts) := fun m ρ _ => Cert.Kernel3.Gen.frame m ρ
/-- The same over the reals. -/
theorem q10 : Cert.quiescent_Kernel3Ideal (hKernel3Ideal := Cert.Kernel3Ideal.Gen.facts) := fun m ρ _ => Cert.Kernel3Ideal.Gen.frame m ρ
/-- Its reference ends and leaves its arguments. -/
theorem q11 : Cert.quiescent_Reference3Ideal (hReference3Ideal := Cert.Reference3Ideal.Gen.facts) := by
  intro m g _; exact (θ_run _ _ _).mono (fun _ h => ⟨fun c => (h c).2.2.2.2.2.2.2.2, sem_eq_zero_of_no_sems (sig := Cert.Reference3Ideal.sig) (by decide) _⟩) (Cert.Reference3Ideal.Value.run m g)
/-- The sample call's recurrence ends and leaves its arguments. -/
theorem q12 : Cert.quiescent_Kernel4 (hKernel4 := Cert.Kernel4.Gen.facts) := fun m ρ _ => Cert.Kernel4.Gen.frame m ρ
/-- The same over the reals. -/
theorem q13 : Cert.quiescent_Kernel4Ideal (hKernel4Ideal := Cert.Kernel4Ideal.Gen.facts) := fun m ρ _ => Cert.Kernel4Ideal.Gen.frame m ρ
/-- The closing part at the sample's size ends and leaves its arguments, for the version's floats. -/
theorem q14 : Cert.quiescent_Kernel5 (hKernel5 := Cert.Kernel5.Gen.facts) := fun m ρ _ => Cert.Kernel5.Gen.frame m ρ
/-- The same over the reals. -/
theorem q15 : Cert.quiescent_Kernel5Ideal (hKernel5Ideal := Cert.Kernel5Ideal.Gen.facts) := fun m ρ _ => Cert.Kernel5Ideal.Gen.frame m ρ
/-- Its reference ends and leaves its arguments. -/
theorem q16 : Cert.quiescent_Reference5Ideal (hReference5Ideal := Cert.Reference5Ideal.Gen.facts) := by
  intro m g _; exact (θ_run _ _ _).mono (fun _ h => ⟨fun c => (h c).2, sem_eq_zero_of_no_sems (sig := Cert.Reference5Ideal.sig) (by decide) _⟩) (Cert.Reference5Ideal.Value.run m g)
/-- The opening part at the sample's size ends and leaves its arguments, for the version's floats. -/
theorem q17 : Cert.quiescent_Kernel6 (hKernel6 := Cert.Kernel6.Gen.facts) := fun m ρ _ => Cert.Kernel6.Gen.frame m ρ
/-- The same over the reals. -/
theorem q18 : Cert.quiescent_Kernel6Ideal (hKernel6Ideal := Cert.Kernel6Ideal.Gen.facts) := fun m ρ _ => Cert.Kernel6Ideal.Gen.frame m ρ
/-- Its reference ends and leaves its arguments. -/
theorem q19 : Cert.quiescent_Reference6Ideal (hReference6Ideal := Cert.Reference6Ideal.Gen.facts) := by
  intro m g _; exact (θ_run _ _ _).mono (fun _ h => ⟨fun c => (h c).2.2.2.2.2.2.2.2, sem_eq_zero_of_no_sems (sig := Cert.Reference6Ideal.sig) (by decide) _⟩) (Cert.Reference6Ideal.Value.run m g)
/-- The recurrence over the sample, with its scales as the result, ends and leaves its arguments, for the version's floats. -/
theorem q20 : Cert.quiescent_Kernel7 (hKernel7 := Cert.Kernel7.Gen.facts) := fun m ρ _ => Cert.Kernel7.Gen.frame m ρ
/-- The same over the reals. -/
theorem q21 : Cert.quiescent_Kernel7Ideal (hKernel7Ideal := Cert.Kernel7Ideal.Gen.facts) := fun m ρ _ => Cert.Kernel7Ideal.Gen.frame m ρ
/-- The same where the precondition holds. -/
theorem q22 : Cert.quiescent_Kernel7Ideal_pre_gates7 (hKernel7Ideal := Cert.Kernel7Ideal.Gen.facts) (hPre_gates7 := Cert.Pre_gates7.Gen.facts) := fun m ρ _ => Cert.Kernel7Ideal.Gen.frame m ρ
/-- Its reference ends and leaves its arguments. -/
theorem q23 : Cert.quiescent_Reference7Ideal (hReference7Ideal := Cert.Reference7Ideal.Gen.facts) := by
  intro m g _; exact (θ_run _ _ _).mono (fun _ h => ⟨fun c => (h c).2, sem_eq_zero_of_no_sems (sig := Cert.Reference7Ideal.sig) (by decide) _⟩) (Cert.Reference7Ideal.Value.run m g)
/-- The same where the precondition holds. -/
theorem q24 : Cert.quiescent_Reference7Ideal_pre_gates7 (hReference7Ideal := Cert.Reference7Ideal.Gen.facts) (hPre_gates7 := Cert.Pre_gates7.Gen.facts) := fun m g _ => q23 m g trivial
set_option maxRecDepth 16384 in
/-- The closing part and its reference leave the same results over the reals. -/
theorem a2 : Cert.algebraic_Kernel2Ideal_Reference2Ideal (hKernel2Ideal := Cert.Kernel2Ideal.Gen.facts) (hReference2Ideal := Cert.Reference2Ideal.Gen.facts) := by
  pair_intro
  · run_from Cert.Kernel2Ideal.Value.run_blocks m g
  · run_from Cert.Reference2Ideal.Value.run m' g'
    obtain ⟨h0, h1, h2, h3, h4, h5, h6, h7, h8, h9, h10, h11⟩ := hagree c
    rw [Cert.Reference2Ideal.Read.val_main_v57_eq m' c, h0, h1, h2, h3, h4, h5, h6, h7, h8, h9, h10, h11]
    exact (Cert.Back.final m c).symm

/-- The recurrence and its reference leave the same results over the reals, where the gates are as the precondition says. -/
theorem a1 : Cert.algebraic_KernelIdeal_ReferenceIdeal_pre_gates (hKernelIdeal := Cert.KernelIdeal.Gen.facts) (hReferenceIdeal := Cert.ReferenceIdeal.Gen.facts) (hPre_gates := Cert.Pre_gates.Gen.facts) := by
  pair_intro
  · run_from Cert.KernelIdeal.Value.run m g
  · run_from Cert.ReferenceIdeal.Value.run m' g'
    all_goals
      obtain ⟨h0, h1, h2, h3, h4, h5, h6⟩ := hagree c
      have hG := Cert.Rec.gateOk m hpre c
      have hB := Cert.Rec.ran m m' c h0 h1 h2 h4
    · exact Cert.Rec.same9 m c hG hB ((Cert.ReferenceIdeal.Value.iter_main_arg3 m' c 16).trans h3) ((Cert.ReferenceIdeal.Value.iter_main_arg6 m' c 16).trans h6)
    · exact Cert.Rec.same10 m c hG hB
    · exact Cert.Rec.same11 m c hG hB

set_option maxRecDepth 16384 in
set_option maxHeartbeats 800000 in
/-- The opening part and its reference leave the same results over the reals. -/
theorem a3 : Cert.algebraic_Kernel3Ideal_Reference3Ideal (hKernel3Ideal := Cert.Kernel3Ideal.Gen.facts) (hReference3Ideal := Cert.Reference3Ideal.Gen.facts) := by
  pair_intro
  · run_from Cert.Kernel3Ideal.Value.run_blocks m g
  · run_from Cert.Reference3Ideal.Value.run m' g'
    all_goals obtain ⟨h0, h1, h2, h3, h4, h5, h6, h7, h8⟩ := hagree c
    · rw [Cert.Reference3Ideal.Read.val_main_v95_eq m' c, h0, h1, h2, h3, h4, h5, h6]
      exact (Cert.Front.final11 m c).symm
    · rw [Cert.Reference3Ideal.Read.val_main_v96_eq]
      exact (Cert.Front.final12 m c).symm
    · rw [Cert.Reference3Ideal.Read.val_main_v99_eq]
      exact (Cert.Front.final13 m c).symm
    · rw [Cert.Reference3Ideal.Read.val_main_v100_eq]
      exact (Cert.Front.final14 m c).symm
    · rw [Cert.Reference3Ideal.Read.val_main_v106_eq]
      exact (Cert.Front.final15 m c).symm
    · rw [Cert.Reference3Ideal.Read.val_main_v94_eq m' c, h0, h1, h2, h7, h8]
      exact (Cert.Front.final16 m c).symm
    · rw [Cert.Reference3Ideal.Read.val_main_v108_eq m' c, h0, h1, h2, h7, h8]
      exact (Cert.Front.final17 m c).symm
    · rw [Cert.Reference3Ideal.Read.val_main_v71_eq m' c, h0, h1, h2, h3, h4]
      exact (Cert.Front.final18 m c).symm

set_option maxRecDepth 16384 in
/-- The closing part at the sample's size and its reference leave the same results over the reals. -/
theorem a5 : Cert.algebraic_Kernel5Ideal_Reference5Ideal (hKernel5Ideal := Cert.Kernel5Ideal.Gen.facts) (hReference5Ideal := Cert.Reference5Ideal.Gen.facts) := by
  pair_intro
  · run_from Cert.Kernel5Ideal.Value.run_blocks m g
  · run_from Cert.Reference5Ideal.Value.run m' g'
    obtain ⟨h0, h1, h2, h3, h4, h5, h6, h7, h8, h9, h10, h11⟩ := hagree c
    rw [Cert.Reference5Ideal.Read.val_main_v57_eq m' c, h0, h1, h2, h3, h4, h5, h6, h7, h8, h9, h10, h11]
    exact (Cert.BackSample.final m c).symm

set_option maxRecDepth 16384 in
set_option maxHeartbeats 800000 in
/-- The opening part at the sample's size and its reference leave the same results over the reals. -/
theorem a6 : Cert.algebraic_Kernel6Ideal_Reference6Ideal (hKernel6Ideal := Cert.Kernel6Ideal.Gen.facts) (hReference6Ideal := Cert.Reference6Ideal.Gen.facts) := by
  pair_intro
  · run_from Cert.Kernel6Ideal.Value.run_blocks m g
  · run_from Cert.Reference6Ideal.Value.run m' g'
    all_goals obtain ⟨h0, h1, h2, h3, h4, h5, h6, h7, h8⟩ := hagree c
    · rw [Cert.Reference6Ideal.Read.val_main_v97_eq m' c, h0, h1, h2, h3, h4, h5, h6]
      exact (Cert.FrontSample.final11 m c).symm
    · rw [Cert.Reference6Ideal.Read.val_main_v98_eq]
      exact (Cert.FrontSample.final12 m c).symm
    · rw [Cert.Reference6Ideal.Read.val_main_v101_eq]
      exact (Cert.FrontSample.final13 m c).symm
    · rw [Cert.Reference6Ideal.Read.val_main_v102_eq]
      exact (Cert.FrontSample.final14 m c).symm
    · rw [Cert.Reference6Ideal.Read.val_main_v108_eq]
      exact (Cert.FrontSample.final15 m c).symm
    · rw [Cert.Reference6Ideal.Read.val_main_v96_eq m' c, h0, h1, h2, h7, h8]
      exact (Cert.FrontSample.final16 m c).symm
    · rw [Cert.Reference6Ideal.Read.val_main_v110_eq m' c, h0, h1, h2, h7, h8]
      exact (Cert.FrontSample.final17 m c).symm
    · rw [Cert.Reference6Ideal.Read.val_main_v71_eq m' c, h0, h1, h2, h3, h4]
      exact (Cert.FrontSample.final18 m c).symm

set_option maxRecDepth 16384 in
/-- The recurrence over the sample and its reference leave the same scales over the reals, where the gates and scales are as the precondition says. -/
theorem a7 : Cert.algebraic_Kernel7Ideal_Reference7Ideal_pre_gates7 (hKernel7Ideal := Cert.Kernel7Ideal.Gen.facts) (hReference7Ideal := Cert.Reference7Ideal.Gen.facts) (hPre_gates7 := Cert.Pre_gates7.Gen.facts) := by
  pair_intro
  · run_from Cert.Kernel7Ideal.Value.run_blocks m g
  · run_from Cert.Reference7Ideal.Value.run m' g'
    exact (Cert.Reference7Ideal.Read.val_main_v26_eq (F := Ideal) _ _).trans (Cert.Scale.final m c (Cert.Scale.gateOk m hpre c)).symm

/-- All the claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_gates.Gen.facts, Cert.Pre_gates7.Gen.facts,
  q1, q2, q3, q4, q5, q6, q7, q8, q9, q10, q11, q12, q13, q14, q15, q16, q17, q18, q19, q20, q21, q22, q23, q24, trivial, a1, trivial, a2, trivial, a3, trivial, trivial, a5, trivial, a6, trivial, a7⟩

end Cert.Proof

end
